-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x2048x8192 : Shape := ⟨3, ![5, 2048, 8192]⟩
abbrev S8192 : Shape := ⟨1, ![8192]⟩
abbrev S5x2048 : Shape := ⟨2, ![5, 2048]⟩
abbrev S10240x8192 : Shape := ⟨2, ![10240, 8192]⟩
abbrev S1x8192 : Shape := ⟨2, ![1, 8192]⟩
abbrev S128x8192 : Shape := ⟨2, ![128, 8192]⟩
abbrev S32x8192 : Shape := ⟨2, ![32, 8192]⟩
abbrev S8x8192 : Shape := ⟨2, ![8, 8192]⟩
abbrev S128x128 : Shape := ⟨2, ![128, 128]⟩
abbrev S5x128 : Shape := ⟨2, ![5, 128]⟩
abbrev S128 : Shape := ⟨1, ![128]⟩
abbrev S1x128 : Shape := ⟨2, ![1, 128]⟩
abbrev S8x128 : Shape := ⟨2, ![8, 128]⟩
abbrev S8x256 : Shape := ⟨2, ![8, 256]⟩
abbrev S8 : Shape := ⟨1, ![8]⟩
abbrev S8x1 : Shape := ⟨2, ![8, 1]⟩
abbrev S32x128 : Shape := ⟨2, ![32, 128]⟩

abbrev nBuf : Space → Nat
  | .hbm => 10
  | .vmem => 16
  | .smem => 0
  | _ => 0

abbrev bufTy : (tb : Table) → Fin (tcTables nBuf tb) → BufTy
  | .hbm, ⟨0, _⟩ => ⟨S5x2048x8192, .bf16⟩
  | .hbm, ⟨1, _⟩ => ⟨S5x2048x8192, .bf16⟩
  | .hbm, ⟨2, _⟩ => ⟨S8192, .f32⟩
  | .hbm, ⟨3, _⟩ => ⟨S5x2048, .f32⟩
  | .hbm, ⟨4, _⟩ => ⟨S10240x8192, .bf16⟩
  | .hbm, ⟨5, _⟩ => ⟨S10240x8192, .bf16⟩
  | .hbm, ⟨6, _⟩ => ⟨S1x8192, .f32⟩
  | .hbm, ⟨7, _⟩ => ⟨S1x8192, .f32⟩
  | .hbm, ⟨8, _⟩ => ⟨S10240x8192, .fp8e5m2⟩
  | .hbm, ⟨9, _⟩ => ⟨S5x2048, .f32⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S1x8192, .f32⟩
  | .local _ .vmem, ⟨5, _⟩ => ⟨S5x2048, .f32⟩
  | .local _ .vmem, ⟨6, _⟩ => ⟨S1x8192, .f32⟩
  | .local _ .vmem, ⟨7, _⟩ => ⟨S128x8192, .fp8e5m2⟩
  | .local _ .vmem, ⟨8, _⟩ => ⟨S128x8192, .fp8e5m2⟩
  | .local _ .vmem, ⟨9, _⟩ => ⟨S5x2048, .f32⟩
  | .local _ .vmem, ⟨10, _⟩ => ⟨S32x8192, .f32⟩
  | .local _ .vmem, ⟨11, _⟩ => ⟨S32x8192, .f32⟩
  | .local _ .vmem, ⟨12, _⟩ => ⟨S8x8192, .f32⟩
  | .local _ .vmem, ⟨13, _⟩ => ⟨S128x128, .f32⟩
  | .local _ .vmem, ⟨14, _⟩ => ⟨S128x128, .f32⟩
  | .local _ .vmem, ⟨15, _⟩ => ⟨S8x8192, .f32⟩
  | _, _ => ⟨S5x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![5, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v10 : Index := Scalar.indexCast v1
  ![0, v10.toNat]
@[reducible] def k0_t1_loop : Scf.Loop 32 :=
  let c0_i32_5 : BitVec 32 := 0#32
  let c4_i32 : BitVec 32 := 4#32
  let v22 : BitVec 32 := Scalar.addi c0_i32_5 c4_i32
  let c1_i32 : BitVec 32 := 1#32
  ⟨c0_i32_5, v22, c1_i32⟩
def k0_mult2 (k0_t1 : Fin k0_t1_loop.trips) : BitVec 32 :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  v41
def k0_off2 (k0_t1 : Fin k0_t1_loop.trips) (c0_i32_15 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v43 : BitVec 32 := Scalar.addi v42 c0_i32_15
  let v44 : Index := Scalar.indexCast v43
  let c0_16 : Index := 0#32
  ![v44.toNat, 0]
def k0_off3 (k0_t1 : Fin k0_t1_loop.trips) (c0_i32_21 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v56 : BitVec 32 := Scalar.addi v42 c0_i32_21
  let v57 : Index := Scalar.indexCast v56
  let c0_22 : Index := 0#32
  ![v57.toNat, 0]
def k0_off4 (k0_t1 : Fin k0_t1_loop.trips) (c0_i32_85 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v220 : BitVec 32 := Scalar.addi v42 c0_i32_85
  let v221 : Index := Scalar.indexCast v220
  let c256 : Index := 256#32
  ![v221.toNat, 256]
def k0_off5 (k0_t1 : Fin k0_t1_loop.trips) (c0_i32_151 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v384 : BitVec 32 := Scalar.addi v42 c0_i32_151
  let v385 : Index := Scalar.indexCast v384
  let c512 : Index := 512#32
  ![v385.toNat, 512]
def k0_off6 (k0_t1 : Fin k0_t1_loop.trips) (c0_i32_217 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v548 : BitVec 32 := Scalar.addi v42 c0_i32_217
  let v549 : Index := Scalar.indexCast v548
  let c768 : Index := 768#32
  ![v549.toNat, 768]
def k0_off7 (k0_t1 : Fin k0_t1_loop.trips) (c0_i32_283 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v712 : BitVec 32 := Scalar.addi v42 c0_i32_283
  let v713 : Index := Scalar.indexCast v712
  let c1024 : Index := 1024#32
  ![v713.toNat, 1024]
def k0_off8 (k0_t1 : Fin k0_t1_loop.trips) (c0_i32_349 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v876 : BitVec 32 := Scalar.addi v42 c0_i32_349
  let v877 : Index := Scalar.indexCast v876
  let c1280 : Index := 1280#32
  ![v877.toNat, 1280]
def k0_off9 (k0_t1 : Fin k0_t1_loop.trips) (c0_i32_415 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v1040 : BitVec 32 := Scalar.addi v42 c0_i32_415
  let v1041 : Index := Scalar.indexCast v1040
  let c1536 : Index := 1536#32
  ![v1041.toNat, 1536]
def k0_off10 (k0_t1 : Fin k0_t1_loop.trips) (c0_i32_481 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v1204 : BitVec 32 := Scalar.addi v42 c0_i32_481
  let v1205 : Index := Scalar.indexCast v1204
  let c1792 : Index := 1792#32
  ![v1205.toNat, 1792]
def k0_off11 (k0_t1 : Fin k0_t1_loop.trips) (c0_i32_547 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v1368 : BitVec 32 := Scalar.addi v42 c0_i32_547
  let v1369 : Index := Scalar.indexCast v1368
  let c2048 : Index := 2048#32
  ![v1369.toNat, 2048]
def k0_off12 (k0_t1 : Fin k0_t1_loop.trips) (c0_i32_613 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v1532 : BitVec 32 := Scalar.addi v42 c0_i32_613
  let v1533 : Index := Scalar.indexCast v1532
  let c2304 : Index := 2304#32
  ![v1533.toNat, 2304]
def k0_off13 (k0_t1 : Fin k0_t1_loop.trips) (c0_i32_679 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v1696 : BitVec 32 := Scalar.addi v42 c0_i32_679
  let v1697 : Index := Scalar.indexCast v1696
  let c2560 : Index := 2560#32
  ![v1697.toNat, 2560]
def k0_off14 (k0_t1 : Fin k0_t1_loop.trips) (c0_i32_745 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v1860 : BitVec 32 := Scalar.addi v42 c0_i32_745
  let v1861 : Index := Scalar.indexCast v1860
  let c2816 : Index := 2816#32
  ![v1861.toNat, 2816]
def k0_off15 (k0_t1 : Fin k0_t1_loop.trips) (c0_i32_811 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v2024 : BitVec 32 := Scalar.addi v42 c0_i32_811
  let v2025 : Index := Scalar.indexCast v2024
  let c3072 : Index := 3072#32
  ![v2025.toNat, 3072]
def k0_off16 (k0_t1 : Fin k0_t1_loop.trips) (c0_i32_877 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v2188 : BitVec 32 := Scalar.addi v42 c0_i32_877
  let v2189 : Index := Scalar.indexCast v2188
  let c3328 : Index := 3328#32
  ![v2189.toNat, 3328]
def k0_off17 (k0_t1 : Fin k0_t1_loop.trips) (c0_i32_943 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v2352 : BitVec 32 := Scalar.addi v42 c0_i32_943
  let v2353 : Index := Scalar.indexCast v2352
  let c3584 : Index := 3584#32
  ![v2353.toNat, 3584]
def k0_off18 (k0_t1 : Fin k0_t1_loop.trips) (c0_i32_1009 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v2516 : BitVec 32 := Scalar.addi v42 c0_i32_1009
  let v2517 : Index := Scalar.indexCast v2516
  let c3840 : Index := 3840#32
  ![v2517.toNat, 3840]
def k0_off19 (k0_t1 : Fin k0_t1_loop.trips) (c0_i32_1075 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v2680 : BitVec 32 := Scalar.addi v42 c0_i32_1075
  let v2681 : Index := Scalar.indexCast v2680
  let c4096 : Index := 4096#32
  ![v2681.toNat, 4096]
def k0_off20 (k0_t1 : Fin k0_t1_loop.trips) (c0_i32_1141 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v2844 : BitVec 32 := Scalar.addi v42 c0_i32_1141
  let v2845 : Index := Scalar.indexCast v2844
  let c4352 : Index := 4352#32
  ![v2845.toNat, 4352]
def k0_off21 (k0_t1 : Fin k0_t1_loop.trips) (c0_i32_1207 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v3008 : BitVec 32 := Scalar.addi v42 c0_i32_1207
  let v3009 : Index := Scalar.indexCast v3008
  let c4608 : Index := 4608#32
  ![v3009.toNat, 4608]
def k0_off22 (k0_t1 : Fin k0_t1_loop.trips) (c0_i32_1273 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v3172 : BitVec 32 := Scalar.addi v42 c0_i32_1273
  let v3173 : Index := Scalar.indexCast v3172
  let c4864 : Index := 4864#32
  ![v3173.toNat, 4864]
def k0_off23 (k0_t1 : Fin k0_t1_loop.trips) (c0_i32_1339 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v3336 : BitVec 32 := Scalar.addi v42 c0_i32_1339
  let v3337 : Index := Scalar.indexCast v3336
  let c5120 : Index := 5120#32
  ![v3337.toNat, 5120]
def k0_off24 (k0_t1 : Fin k0_t1_loop.trips) (c0_i32_1405 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v3500 : BitVec 32 := Scalar.addi v42 c0_i32_1405
  let v3501 : Index := Scalar.indexCast v3500
  let c5376 : Index := 5376#32
  ![v3501.toNat, 5376]
def k0_off25 (k0_t1 : Fin k0_t1_loop.trips) (c0_i32_1471 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v3664 : BitVec 32 := Scalar.addi v42 c0_i32_1471
  let v3665 : Index := Scalar.indexCast v3664
  let c5632 : Index := 5632#32
  ![v3665.toNat, 5632]
def k0_off26 (k0_t1 : Fin k0_t1_loop.trips) (c0_i32_1537 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v3828 : BitVec 32 := Scalar.addi v42 c0_i32_1537
  let v3829 : Index := Scalar.indexCast v3828
  let c5888 : Index := 5888#32
  ![v3829.toNat, 5888]
def k0_off27 (k0_t1 : Fin k0_t1_loop.trips) (c0_i32_1603 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v3992 : BitVec 32 := Scalar.addi v42 c0_i32_1603
  let v3993 : Index := Scalar.indexCast v3992
  let c6144 : Index := 6144#32
  ![v3993.toNat, 6144]
def k0_off28 (k0_t1 : Fin k0_t1_loop.trips) (c0_i32_1669 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v4156 : BitVec 32 := Scalar.addi v42 c0_i32_1669
  let v4157 : Index := Scalar.indexCast v4156
  let c6400 : Index := 6400#32
  ![v4157.toNat, 6400]
def k0_off29 (k0_t1 : Fin k0_t1_loop.trips) (c0_i32_1735 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v4320 : BitVec 32 := Scalar.addi v42 c0_i32_1735
  let v4321 : Index := Scalar.indexCast v4320
  let c6656 : Index := 6656#32
  ![v4321.toNat, 6656]
def k0_off30 (k0_t1 : Fin k0_t1_loop.trips) (c0_i32_1801 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v4484 : BitVec 32 := Scalar.addi v42 c0_i32_1801
  let v4485 : Index := Scalar.indexCast v4484
  let c6912 : Index := 6912#32
  ![v4485.toNat, 6912]
def k0_off31 (k0_t1 : Fin k0_t1_loop.trips) (c0_i32_1867 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v4648 : BitVec 32 := Scalar.addi v42 c0_i32_1867
  let v4649 : Index := Scalar.indexCast v4648
  let c7168 : Index := 7168#32
  ![v4649.toNat, 7168]
def k0_off32 (k0_t1 : Fin k0_t1_loop.trips) (c0_i32_1933 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v4812 : BitVec 32 := Scalar.addi v42 c0_i32_1933
  let v4813 : Index := Scalar.indexCast v4812
  let c7424 : Index := 7424#32
  ![v4813.toNat, 7424]
def k0_off33 (k0_t1 : Fin k0_t1_loop.trips) (c0_i32_1999 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v4976 : BitVec 32 := Scalar.addi v42 c0_i32_1999
  let v4977 : Index := Scalar.indexCast v4976
  let c7680 : Index := 7680#32
  ![v4977.toNat, 7680]
def k0_off34 (k0_t1 : Fin k0_t1_loop.trips) (c0_i32_2065 : BitVec 32) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v5140 : BitVec 32 := Scalar.addi v42 c0_i32_2065
  let v5141 : Index := Scalar.indexCast v5140
  let c7936 : Index := 7936#32
  ![v5141.toNat, 7936]
def k0_off35 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8132 : Index := Scalar.indexCast v42
  let c0_3850 : Index := 0#32
  ![v8132.toNat, 0]
def k0_off36 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8141 : Index := Scalar.indexCast v42
  let c128_3855 : Index := 128#32
  ![v8141.toNat, 128]
def k0_off37 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8150 : Index := Scalar.indexCast v42
  let c256_3860 : Index := 256#32
  ![v8150.toNat, 256]
def k0_off38 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8159 : Index := Scalar.indexCast v42
  let c384_3865 : Index := 384#32
  ![v8159.toNat, 384]
def k0_off39 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8168 : Index := Scalar.indexCast v42
  let c512_3870 : Index := 512#32
  ![v8168.toNat, 512]
def k0_off40 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8177 : Index := Scalar.indexCast v42
  let c640_3875 : Index := 640#32
  ![v8177.toNat, 640]
def k0_off41 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8186 : Index := Scalar.indexCast v42
  let c768_3880 : Index := 768#32
  ![v8186.toNat, 768]
def k0_off42 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8195 : Index := Scalar.indexCast v42
  let c896_3885 : Index := 896#32
  ![v8195.toNat, 896]
def k0_off43 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8204 : Index := Scalar.indexCast v42
  let c1024_3890 : Index := 1024#32
  ![v8204.toNat, 1024]
def k0_off44 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8213 : Index := Scalar.indexCast v42
  let c1152_3895 : Index := 1152#32
  ![v8213.toNat, 1152]
def k0_off45 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8222 : Index := Scalar.indexCast v42
  let c1280_3900 : Index := 1280#32
  ![v8222.toNat, 1280]
def k0_off46 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8231 : Index := Scalar.indexCast v42
  let c1408_3905 : Index := 1408#32
  ![v8231.toNat, 1408]
def k0_off47 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8240 : Index := Scalar.indexCast v42
  let c1536_3910 : Index := 1536#32
  ![v8240.toNat, 1536]
def k0_off48 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8249 : Index := Scalar.indexCast v42
  let c1664_3915 : Index := 1664#32
  ![v8249.toNat, 1664]
def k0_off49 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8258 : Index := Scalar.indexCast v42
  let c1792_3920 : Index := 1792#32
  ![v8258.toNat, 1792]
def k0_off50 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8267 : Index := Scalar.indexCast v42
  let c1920_3925 : Index := 1920#32
  ![v8267.toNat, 1920]
def k0_off51 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8276 : Index := Scalar.indexCast v42
  let c2048_3930 : Index := 2048#32
  ![v8276.toNat, 2048]
def k0_off52 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8285 : Index := Scalar.indexCast v42
  let c2176_3935 : Index := 2176#32
  ![v8285.toNat, 2176]
def k0_off53 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8294 : Index := Scalar.indexCast v42
  let c2304_3940 : Index := 2304#32
  ![v8294.toNat, 2304]
def k0_off54 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8303 : Index := Scalar.indexCast v42
  let c2432_3945 : Index := 2432#32
  ![v8303.toNat, 2432]
def k0_off55 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8312 : Index := Scalar.indexCast v42
  let c2560_3950 : Index := 2560#32
  ![v8312.toNat, 2560]
def k0_off56 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8321 : Index := Scalar.indexCast v42
  let c2688_3955 : Index := 2688#32
  ![v8321.toNat, 2688]
def k0_off57 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8330 : Index := Scalar.indexCast v42
  let c2816_3960 : Index := 2816#32
  ![v8330.toNat, 2816]
def k0_off58 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8339 : Index := Scalar.indexCast v42
  let c2944_3965 : Index := 2944#32
  ![v8339.toNat, 2944]
def k0_off59 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8348 : Index := Scalar.indexCast v42
  let c3072_3970 : Index := 3072#32
  ![v8348.toNat, 3072]
def k0_off60 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8357 : Index := Scalar.indexCast v42
  let c3200_3975 : Index := 3200#32
  ![v8357.toNat, 3200]
def k0_off61 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8366 : Index := Scalar.indexCast v42
  let c3328_3980 : Index := 3328#32
  ![v8366.toNat, 3328]
def k0_off62 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8375 : Index := Scalar.indexCast v42
  let c3456_3985 : Index := 3456#32
  ![v8375.toNat, 3456]
def k0_off63 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8384 : Index := Scalar.indexCast v42
  let c3584_3990 : Index := 3584#32
  ![v8384.toNat, 3584]
def k0_off64 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8393 : Index := Scalar.indexCast v42
  let c3712_3995 : Index := 3712#32
  ![v8393.toNat, 3712]
def k0_off65 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8402 : Index := Scalar.indexCast v42
  let c3840_4000 : Index := 3840#32
  ![v8402.toNat, 3840]
def k0_off66 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8411 : Index := Scalar.indexCast v42
  let c3968_4005 : Index := 3968#32
  ![v8411.toNat, 3968]
def k0_off67 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8420 : Index := Scalar.indexCast v42
  let c4096_4010 : Index := 4096#32
  ![v8420.toNat, 4096]
def k0_off68 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8429 : Index := Scalar.indexCast v42
  let c4224_4015 : Index := 4224#32
  ![v8429.toNat, 4224]
def k0_off69 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8438 : Index := Scalar.indexCast v42
  let c4352_4020 : Index := 4352#32
  ![v8438.toNat, 4352]
def k0_off70 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8447 : Index := Scalar.indexCast v42
  let c4480_4025 : Index := 4480#32
  ![v8447.toNat, 4480]
def k0_off71 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8456 : Index := Scalar.indexCast v42
  let c4608_4030 : Index := 4608#32
  ![v8456.toNat, 4608]
def k0_off72 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8465 : Index := Scalar.indexCast v42
  let c4736_4035 : Index := 4736#32
  ![v8465.toNat, 4736]
def k0_off73 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8474 : Index := Scalar.indexCast v42
  let c4864_4040 : Index := 4864#32
  ![v8474.toNat, 4864]
def k0_off74 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8483 : Index := Scalar.indexCast v42
  let c4992_4045 : Index := 4992#32
  ![v8483.toNat, 4992]
def k0_off75 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8492 : Index := Scalar.indexCast v42
  let c5120_4050 : Index := 5120#32
  ![v8492.toNat, 5120]
def k0_off76 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8501 : Index := Scalar.indexCast v42
  let c5248_4055 : Index := 5248#32
  ![v8501.toNat, 5248]
def k0_off77 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8510 : Index := Scalar.indexCast v42
  let c5376_4060 : Index := 5376#32
  ![v8510.toNat, 5376]
def k0_off78 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8519 : Index := Scalar.indexCast v42
  let c5504_4065 : Index := 5504#32
  ![v8519.toNat, 5504]
def k0_off79 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8528 : Index := Scalar.indexCast v42
  let c5632_4070 : Index := 5632#32
  ![v8528.toNat, 5632]
def k0_off80 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8537 : Index := Scalar.indexCast v42
  let c5760_4075 : Index := 5760#32
  ![v8537.toNat, 5760]
def k0_off81 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8546 : Index := Scalar.indexCast v42
  let c5888_4080 : Index := 5888#32
  ![v8546.toNat, 5888]
def k0_off82 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8555 : Index := Scalar.indexCast v42
  let c6016_4085 : Index := 6016#32
  ![v8555.toNat, 6016]
def k0_off83 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8564 : Index := Scalar.indexCast v42
  let c6144_4090 : Index := 6144#32
  ![v8564.toNat, 6144]
def k0_off84 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8573 : Index := Scalar.indexCast v42
  let c6272_4095 : Index := 6272#32
  ![v8573.toNat, 6272]
def k0_off85 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8582 : Index := Scalar.indexCast v42
  let c6400_4100 : Index := 6400#32
  ![v8582.toNat, 6400]
def k0_off86 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8591 : Index := Scalar.indexCast v42
  let c6528_4105 : Index := 6528#32
  ![v8591.toNat, 6528]
def k0_off87 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8600 : Index := Scalar.indexCast v42
  let c6656_4110 : Index := 6656#32
  ![v8600.toNat, 6656]
def k0_off88 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8609 : Index := Scalar.indexCast v42
  let c6784_4115 : Index := 6784#32
  ![v8609.toNat, 6784]
def k0_off89 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8618 : Index := Scalar.indexCast v42
  let c6912_4120 : Index := 6912#32
  ![v8618.toNat, 6912]
def k0_off90 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8627 : Index := Scalar.indexCast v42
  let c7040_4125 : Index := 7040#32
  ![v8627.toNat, 7040]
def k0_off91 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8636 : Index := Scalar.indexCast v42
  let c7168_4130 : Index := 7168#32
  ![v8636.toNat, 7168]
def k0_off92 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8645 : Index := Scalar.indexCast v42
  let c7296_4135 : Index := 7296#32
  ![v8645.toNat, 7296]
def k0_off93 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8654 : Index := Scalar.indexCast v42
  let c7424_4140 : Index := 7424#32
  ![v8654.toNat, 7424]
def k0_off94 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8663 : Index := Scalar.indexCast v42
  let c7552_4145 : Index := 7552#32
  ![v8663.toNat, 7552]
def k0_off95 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8672 : Index := Scalar.indexCast v42
  let c7680_4150 : Index := 7680#32
  ![v8672.toNat, 7680]
def k0_off96 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8681 : Index := Scalar.indexCast v42
  let c7808_4155 : Index := 7808#32
  ![v8681.toNat, 7808]
def k0_off97 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8690 : Index := Scalar.indexCast v42
  let c7936_4160 : Index := 7936#32
  ![v8690.toNat, 7936]
def k0_off98 (k0_t1 : Fin k0_t1_loop.trips) : Fin 2 → Nat :=
  let c0_i32_14 : BitVec 32 := 0#32
  let c0_i32_5 : BitVec 32 := 0#32
  let c1_i32 : BitVec 32 := 1#32
  let arg15 : BitVec 32 := Scf.iv c0_i32_5 c1_i32 k0_t1
  let c1_i32_13 : BitVec 32 := 1#32
  let v39 : BitVec 32 := Scalar.muli arg15 c1_i32_13
  let v40 : BitVec 32 := Scalar.addi c0_i32_14 v39
  let c32_i32 : BitVec 32 := 32#32
  let v41 : BitVec 32 := Scalar.muli v40 c32_i32
  let v42 : BitVec 32 := v41
  let v8699 : Index := Scalar.indexCast v42
  let c8064_4165 : Index := 8064#32
  ![v8699.toNat, 8064]
def k0_cond2 (i : grid0.Coords) : BitVec 1 :=
  let arg0 : BitVec 32 := BitVec.ofNat 32 (i 0).val
  let c4_i32_11 : BitVec 32 := 4#32
  let v34 : BitVec 1 := Scalar.cmpi .eq arg0 c4_i32_11
  let arg1 : BitVec 32 := BitVec.ofNat 32 (i 1).val
  let c15_i32 : BitVec 32 := 15#32
  let v35 : BitVec 1 := Scalar.cmpi .eq arg1 c15_i32
  let v36 : BitVec 1 := Scalar.andi v34 v35
  let v37 : BitVec 32 := Scalar.extui v36
  let c0_i32_12 : BitVec 32 := 0#32
  let v38 : BitVec 1 := Scalar.cmpi .ne v37 c0_i32_12
  v38

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x8192 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S5x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S5x2048x8192 : Shape := ⟨3, ![5, 2048, 8192]⟩
abbrev S8192 : Shape := ⟨1, ![8192]⟩
abbrev S5x2048 : Shape := ⟨2, ![5, 2048]⟩
abbrev S5x2048x1 : Shape := ⟨3, ![5, 2048, 1]⟩
abbrev S1x1x8192 : Shape := ⟨3, ![1, 1, 8192]⟩
abbrev S_ : Shape := ⟨0, ![]⟩
abbrev S1x8192 : Shape := ⟨2, ![1, 8192]⟩
abbrev S10240x8192 : Shape := ⟨2, ![10240, 8192]⟩

abbrev nBuf : Space → Nat
  | .hbm => 61
  | .vmem => 2
  | .smem => 0
  | _ => 0

abbrev bufTy : (tb : Table) → Fin (tcTables nBuf tb) → BufTy
  | .hbm, ⟨0, _⟩ => ⟨S5x2048x8192, .bf16⟩
  | .hbm, ⟨1, _⟩ => ⟨S5x2048x8192, .bf16⟩
  | .hbm, ⟨2, _⟩ => ⟨S8192, .f32⟩
  | .hbm, ⟨3, _⟩ => ⟨S5x2048, .f32⟩
  | .hbm, ⟨4, _⟩ => ⟨S5x2048x8192, .f32⟩
  | .hbm, ⟨5, _⟩ => ⟨S5x2048x8192, .f32⟩
  | .hbm, ⟨6, _⟩ => ⟨S5x2048x1, .f32⟩
  | .hbm, ⟨7, _⟩ => ⟨S5x2048x8192, .f32⟩
  | .hbm, ⟨8, _⟩ => ⟨S5x2048x8192, .f32⟩
  | .hbm, ⟨9, _⟩ => ⟨S1x1x8192, .f32⟩
  | .hbm, ⟨10, _⟩ => ⟨S5x2048x8192, .f32⟩
  | .hbm, ⟨11, _⟩ => ⟨S5x2048x8192, .f32⟩
  | .hbm, ⟨12, _⟩ => ⟨S5x2048x8192, .f32⟩
  | .hbm, ⟨13, _⟩ => ⟨S_, .f32⟩
  | .hbm, ⟨14, _⟩ => ⟨S5x2048, .f32⟩
  | .hbm, ⟨15, _⟩ => ⟨S5x2048x1, .f32⟩
  | .hbm, ⟨16, _⟩ => ⟨S_, .f32⟩
  | .hbm, ⟨17, _⟩ => ⟨S5x2048x1, .f32⟩
  | .hbm, ⟨18, _⟩ => ⟨S5x2048x1, .f32⟩
  | .hbm, ⟨19, _⟩ => ⟨S5x2048x8192, .f32⟩
  | .hbm, ⟨20, _⟩ => ⟨S5x2048x8192, .f32⟩
  | .hbm, ⟨21, _⟩ => ⟨S5x2048x8192, .f32⟩
  | .hbm, ⟨22, _⟩ => ⟨S5x2048x8192, .f32⟩
  | .hbm, ⟨23, _⟩ => ⟨S5x2048x8192, .f32⟩
  | .hbm, ⟨24, _⟩ => ⟨S5x2048x8192, .f32⟩
  | .hbm, ⟨25, _⟩ => ⟨S_, .f32⟩
  | .hbm, ⟨26, _⟩ => ⟨S8192, .f32⟩
  | .hbm, ⟨27, _⟩ => ⟨S1x8192, .f32⟩
  | .hbm, ⟨28, _⟩ => ⟨S5x2048x8192, .f32⟩
  | .hbm, ⟨29, _⟩ => ⟨S_, .f32⟩
  | .hbm, ⟨30, _⟩ => ⟨S5x2048, .f32⟩
  | .hbm, ⟨31, _⟩ => ⟨S_, .f32⟩
  | .hbm, ⟨32, _⟩ => ⟨S5x2048, .f32⟩
  | .hbm, ⟨33, _⟩ => ⟨S5x2048, .f32⟩
  | .hbm, ⟨34, _⟩ => ⟨S_, .f32⟩
  | .hbm, ⟨35, _⟩ => ⟨S5x2048, .f32⟩
  | .hbm, ⟨36, _⟩ => ⟨S5x2048, .f32⟩
  | .hbm, ⟨37, _⟩ => ⟨S5x2048, .f32⟩
  | .hbm, ⟨38, _⟩ => ⟨S5x2048, .f32⟩
  | .hbm, ⟨39, _⟩ => ⟨S5x2048, .f32⟩
  | .hbm, ⟨40, _⟩ => ⟨S_, .f32⟩
  | .hbm, ⟨41, _⟩ => ⟨S5x2048, .f32⟩
  | .hbm, ⟨42, _⟩ => ⟨S5x2048, .f32⟩
  | .hbm, ⟨43, _⟩ => ⟨S_, .f32⟩
  | .hbm, ⟨44, _⟩ => ⟨S5x2048, .f32⟩
  | .hbm, ⟨45, _⟩ => ⟨S5x2048, .i1⟩
  | .hbm, ⟨46, _⟩ => ⟨S_, .f32⟩
  | .hbm, ⟨47, _⟩ => ⟨S5x2048, .f32⟩
  | .hbm, ⟨48, _⟩ => ⟨S5x2048, .f32⟩
  | .hbm, ⟨49, _⟩ => ⟨S_, .f32⟩
  | .hbm, ⟨50, _⟩ => ⟨S_, .f32⟩
  | .hbm, ⟨51, _⟩ => ⟨S5x2048, .f32⟩
  | .hbm, ⟨52, _⟩ => ⟨S5x2048, .f32⟩
  | .hbm, ⟨53, _⟩ => ⟨S5x2048, .f32⟩
  | .hbm, ⟨54, _⟩ => ⟨S5x2048, .f32⟩
  | .hbm, ⟨55, _⟩ => ⟨S5x2048, .f32⟩
  | .hbm, ⟨56, _⟩ => ⟨S5x2048x1, .f32⟩
  | .hbm, ⟨57, _⟩ => ⟨S5x2048x8192, .f32⟩
  | .hbm, ⟨58, _⟩ => ⟨S5x2048x8192, .f32⟩
  | .hbm, ⟨59, _⟩ => ⟨S10240x8192, .f32⟩
  | .hbm, ⟨60, _⟩ => ⟨S10240x8192, .fp8e5m2⟩
  | .local _ .vmem, ⟨0, _⟩ => ⟨S10240x8192, .f32⟩
  | .local _ .vmem, ⟨1, _⟩ => ⟨S10240x8192, .fp8e5m2⟩
  | _, _ => ⟨S5x2048x8192, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S10240x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Trip.lean ====
/-
  The kernel's loop over groups of thirty-two rows, written as a short program: what the printed
  body does in several thousand straight-line operations is here a handful of recursive functions
  over the column index, each in continuation-passing style. Nothing in this file mentions a
  printed program; `TripEq` shows that the printed loop body is this one.
-/
module

public import Idealize.ShloMosaic.Lib.Pipeline
public import Idealize.ShloMosaic.Lib.Scf
public import Idealize.ShloMosaic.Lib.Sig
public import Idealize.ShloMosaic.PureOps

@[expose] public section

noncomputable section

namespace Cert.Trip

open Idealize.ShloMosaic Idealize.SL.Sem

abbrev B128x8192 : Shape := ⟨2, ![128, 8192]⟩
abbrev B32x8192 : Shape := ⟨2, ![32, 8192]⟩
abbrev B8x8192 : Shape := ⟨2, ![8, 8192]⟩
abbrev B128x128 : Shape := ⟨2, ![128, 128]⟩
abbrev B32x128 : Shape := ⟨2, ![32, 128]⟩
abbrev B8x256 : Shape := ⟨2, ![8, 256]⟩
abbrev B8x128 : Shape := ⟨2, ![8, 128]⟩
abbrev B8x1 : Shape := ⟨2, ![8, 1]⟩
abbrev B8 : Shape := ⟨1, ![8]⟩

/-- The first row of the `k`-th group of thirty-two, offset by the word `c`, in the words the kernel computes it in. -/
def row (k : Nat) (c : BitVec 32) : Nat :=
  (Scalar.indexCast (Scalar.addi (Scalar.muli (Scalar.addi 0#32 (Scalar.muli (Scf.iv 0#32 1#32 k) 1#32)) 32#32) c)).toNat

/-- The first row of the `k`-th group of thirty-two. -/
def row0 (k : Nat) : Nat :=
  (Scalar.indexCast (Scalar.muli (Scalar.addi 0#32 (Scalar.muli (Scf.iv 0#32 1#32 k) 1#32)) 32#32)).toNat

theorem row_eq : ∀ (k t : Fin 4), row k.val (BitVec.ofNat 32 (8 * t.val)) = 32 * k.val + 8 * t.val := by decide +kernel

theorem row0_eq : ∀ k : Fin 4, row0 k.val = 32 * k.val := by decide +kernel

/-- Eight rows of a group and 256 columns of a 128-row block. -/
def rX (k t : Fin 4) (j : Fin 32) : Rect B128x8192 :=
  Rect.unit (s := B128x8192) ![row k.val (BitVec.ofNat 32 (8 * t.val)), 256 * j.val] B8x256.size (by
    rw [row_eq]; have := k.2; have := t.2; have := j.2
    intro a; fin_cases a <;> simp <;> omega)

/-- Eight rows of a group of a 128 × 128 block. -/
def rR (k t : Fin 4) : Rect B128x128 :=
  Rect.unit (s := B128x128) ![row k.val (BitVec.ofNat 32 (8 * t.val)), 0] B8x128.size (by
    rw [row_eq]; have := k.2; have := t.2
    intro a; fin_cases a <;> simp <;> omega)

/-- Eight rows of the scratch of thirty-two and 128 columns, in the first pass. -/
def rS1 (t : Fin 4) (j : Fin 32) (h : Fin 2) : Rect B32x8192 :=
  Rect.unit (s := B32x8192) ![8 * t.val, 256 * j.val + 128 * h.val] B8x128.size (by
    have := t.2; have := j.2; have := h.2
    intro a; fin_cases a <;> simp <;> omega)

/-- 128 columns of an eight-row buffer. -/
def rG (j : Fin 32) (h : Fin 2) : Rect B8x8192 :=
  Rect.unit (s := B8x8192) ![0, 256 * j.val + 128 * h.val] B8x128.size (by
    have := j.2; have := h.2
    intro a; fin_cases a <;> simp <;> omega)

/-- Eight rows of the scratch of thirty-two and 128 columns, in the second pass. -/
def rS2 (t : Fin 4) (j : Fin 64) : Rect B32x8192 :=
  Rect.unit (s := B32x8192) ![8 * t.val, 128 * j.val] B8x128.size (by
    have := t.2; have := j.2
    intro a; fin_cases a <;> simp <;> omega)

/-- All rows of the scratch of thirty-two and 128 columns. -/
def rS3 (j : Fin 64) : Rect B32x8192 :=
  Rect.unit (s := B32x8192) ![0, 128 * j.val] B32x128.size (by
    have := j.2
    intro a; fin_cases a <;> simp <;> omega)

/-- The rows of a group and 128 columns of a 128-row block. -/
def rC (k : Fin 4) (j : Fin 64) : Rect B128x8192 :=
  Rect.unit (s := B128x8192) ![row0 k.val, 128 * j.val] B32x128.size (by
    rw [row0_eq]; have := k.2; have := j.2
    intro a; fin_cases a <;> simp <;> omega)

theorem rC_packed : ∀ (k : Fin 4) (j : Fin 64), (rC k j).PackedRows (EltTy.packing .fp8e5m2) := by decide +kernel

theorem four_slabs : Shape.Concatenates [B8x128, B8x128, B8x128, B8x128] B32x128 0 := by decide

theorem pos8x256 : 0 < B8x256.numel := by decide
theorem pos8x128 : 0 < B8x128.numel := by decide
theorem pos32x128 : 0 < B32x128.numel := by decide

variable {F : FTy → Type} [FloatOps F]

/-! ## The values -/

/-- Half `h` of a slab of 256 columns. -/
def halfOf (h : Fin 2) (v : FVec F B8x256 .f32) : FVec F B8x128 .f32 :=
  extractStridedSlice B8x128 ![0, 128 * h.val] v (by
    revert h; decide)

/-- A loaded slab, widened. -/
def widen (v : Vec F B8x256 .bf16) : FVec F B8x256 .f32 :=
  extf .f32 (shapeCast B8x256 v (by decide) : FVec F B8x256 .bf16) (by decide)

/-- A vector as it is stored. -/
def asStored (v : FVec F B8x128 .f32) : FVec F B8x128 .f32 := shapeCast B8x128 v (by decide)

def zero : FVec F B8x128 .f32 := broadcast B8x128 (Scalar.ofBits .f32 0x00000000#32)

/-- The mean of a row, from its 128 partial sums, spread over the lanes. -/
def mean (v : FVec F B8x128 .f32) : FVec F B8x128 .f32 :=
  broadcastTo B8x128 (shapeCast B8x1 (mulf (shapeCast B8x1
    (multiReduction .add [1] B8 v 0x00000000#32 (by decide) (.inl rfl) rfl) (by decide) : FVec F B8x1 .f32)
    (broadcast B8x1 (Scalar.ofBits .f32 0x39000000#32))) (by decide)) (by decide)

/-- The largest entry of a row, from its 128 partial maxima, spread over the lanes. -/
def rowMax (v : FVec F B8x128 .f32) : FVec F B8x128 .f32 :=
  broadcastTo B8x128 (shapeCast B8x1 (shapeCast B8x1
    (multiReduction .maximumf [1] B8 v 0xFF800000#32 (by decide) (.inl rfl) rfl) (by decide) : FVec F B8x1 .f32)
    (by decide)) (by decide)

/-- The row's largest quotient over the largest code. -/
def ratio (m r : FVec F B8x128 .f32) : FVec F B8x128 .f32 :=
  mulf (mulf (rowMax m) (absf r)) (broadcast B8x128 (Scalar.ofBits .f32 0x37924925#32))

/-- The float whose exponent field is `e + 127`. -/
def pow2 (e : IVec B8x128 32) : FVec F B8x128 .f32 :=
  bitcastToFloat .f32 (shli (addi e (broadcast B8x128 127#32)) (broadcast B8x128 23#32))

/-- One step of the search for the exponent field of `q`: the step's width is `s`, `d` is `s - 127`. -/
def searchStep (q : FVec F B8x128 .f32) (s d : BitVec 32) (n : IVec B8x128 32) : IVec B8x128 32 :=
  select (cmpf .oge q (pow2 (addi n (broadcast B8x128 d)))) (addi n (broadcast B8x128 s)) n

/-- The exponent field of `q`, at most 239. -/
def field (q : FVec F B8x128 .f32) : IVec B8x128 32 :=
  minsi (searchStep q 1#32 4294967170#32 (searchStep q 2#32 4294967171#32 (searchStep q 4#32 4294967173#32 (searchStep q 8#32 4294967177#32
    (searchStep q 16#32 4294967185#32 (searchStep q 32#32 4294967201#32 (searchStep q 64#32 4294967233#32 (searchStep q 128#32 1#32
      (broadcast B8x128 0#32))))))))) (broadcast B8x128 239#32)

/-- The exponent of the row's scale. -/
def expo (q : FVec F B8x128 .f32) : IVec B8x128 32 :=
  select (cmpi .eq (field q) (broadcast B8x128 0#32)) (broadcast B8x128 0#32) (subi (field q) (broadcast B8x128 126#32))

def negExpo (e : IVec B8x128 32) : IVec B8x128 32 := subi (broadcast B8x128 0#32) e

/-- The four slabs' factors, one under the other. -/
def stack (k0 k1 k2 k3 : FVec F B8x128 .f32) : FVec F B32x128 .f32 :=
  concatenate B32x128 0 [⟨B8x128, k0⟩, ⟨B8x128, k1⟩, ⟨B8x128, k2⟩, ⟨B8x128, k3⟩] four_slabs

/-- The code of the scaled entries. -/
def code (f v : FVec F B32x128 .f32) : FVec F B32x128 .fp8e5m2 :=
  truncf .fp8e5m2 (minimumf (broadcast B32x128 (Scalar.ofBits .f32 0x47600000#32))
    (maximumf (broadcast B32x128 (Scalar.ofBits .f32 0xC7600000#32)) (mulf v f))) (by decide)

/-! ## The program -/

/-- The buffers a trip reads and writes. -/
structure Refs (sig : RefSig) where
  x : Memref sig .tc .vmem B128x8192 .bf16
  dy : Memref sig .tc .vmem B128x8192 .bf16
  codes : Memref sig .tc .vmem B128x8192 .fp8e5m2
  g : Memref sig .tc .vmem B32x8192 .f32
  w : Memref sig .tc .vmem B32x8192 .f32
  gcol : Memref sig .tc .vmem B8x8192 .f32
  rcol : Memref sig .tc .vmem B128x128 .f32
  scol : Memref sig .tc .vmem B128x128 .f32
  acc : Memref sig .tc .vmem B8x8192 .f32
  hcodes : codes.IsWhole

variable {nD : Nat} {τ : Topo} {sig : RefSig} {Λ : Labels}

/-- What runs on a tensor core and returns nothing. -/
abbrev P (nD : Nat) (τ : Topo) (sig : RefSig) (F : FTy → Type) (Λ : Labels) : Type 1 :=
  Prog (TpuEff nD τ sig (Elt F) Λ .tc) Unit

variable (R : Refs sig)

/-- Half a slab of the first pass: `K` gets the running sum and the half's share of the column sums. -/
def half (t : Fin 4) (j : Fin 32) (h : Fin 2) (r : FVec F B8x128 .f32) (dy x : FVec F B8x256 .f32) (c : FVec F B8x128 .f32)
    (K : FVec F B8x128 .f32 → FVec F B8x128 .f32 → P nD τ sig F Λ) : P nD τ sig F Λ :=
  .op (.load R.gcol (rG j h).toLoadRect (View.loadsAt_vmem pos8x128)) fun (gc : Vec F B8x128 .f32) =>
  .op (.load R.w (rS1 t j h).toLoadRect (View.loadsAt_vmem pos8x128)) fun _ =>
  .op (.store R.w (rS1 t j h) (asStored (mulf (halfOf h x) r)) Finset.univ (View.stores_vmem_bits_univ pos8x128 rfl) (.inl rfl)) fun _ =>
  .op (.load R.g (rS1 t j h).toLoadRect (View.loadsAt_vmem pos8x128)) fun _ =>
  .op (.store R.g (rS1 t j h) (asStored (mulf (halfOf h dy) gc)) Finset.univ (View.stores_vmem_bits_univ pos8x128 rfl) (.inl rfl)) fun _ =>
  K (addf c (mulf (mulf (halfOf h dy) gc) (mulf (halfOf h x) r))) (mulf (halfOf h dy) (mulf (halfOf h x) r))

/-- A slab of the first pass. -/
def slab (k t : Fin 4) (j : Fin 32) (r c : FVec F B8x128 .f32)
    (K : FVec F B8x128 .f32 → FVec F B8x128 .f32 → FVec F B8x128 .f32 → P nD τ sig F Λ) : P nD τ sig F Λ :=
  .op (.load R.dy (rX k t j).toLoadRect (View.loadsAt_vmem pos8x256)) fun (dy : Vec F B8x256 .bf16) =>
  .op (.load R.x (rX k t j).toLoadRect (View.loadsAt_vmem pos8x256)) fun (x : Vec F B8x256 .bf16) =>
  half R t j 0 r (widen dy) (widen x) c fun c d0 =>
  half R t j 1 r (widen dy) (widen x) c fun c d1 => K c d0 d1

/-- The four slabs' shares added to the running column sums. -/
def addCols (j : Fin 32) (h : Fin 2) (d0 d1 d2 d3 : FVec F B8x128 .f32) (K : P nD τ sig F Λ) : P nD τ sig F Λ :=
  .op (.load R.acc (rG j h).toLoadRect (View.loadsAt_vmem pos8x128)) fun (a : Vec F B8x128 .f32) =>
  .op (.load R.acc (rG j h).toLoadRect (View.loadsAt_vmem pos8x128)) fun _ =>
  .op (.store R.acc (rG j h) (asStored (addf a (addf (addf d0 d1) (addf d2 d3)))) Finset.univ
    (View.stores_vmem_bits_univ pos8x128 rfl) (.inl rfl)) fun _ => K

/-- 256 columns of the first pass. -/
def pass1Step (k : Fin 4) (j : Fin 32) (r0 r1 r2 r3 c0 c1 c2 c3 : FVec F B8x128 .f32)
    (K : FVec F B8x128 .f32 → FVec F B8x128 .f32 → FVec F B8x128 .f32 → FVec F B8x128 .f32 → P nD τ sig F Λ) : P nD τ sig F Λ :=
  slab R k 0 j r0 c0 fun c0 d00 d01 =>
  slab R k 1 j r1 c1 fun c1 d10 d11 =>
  slab R k 2 j r2 c2 fun c2 d20 d21 =>
  slab R k 3 j r3 c3 fun c3 d30 d31 =>
  addCols R j 0 d00 d10 d20 d30 <|
  addCols R j 1 d01 d11 d21 d31 <| K c0 c1 c2 c3

/-- The first pass over columns `256 * (32 - n)` on. -/
def pass1 (k : Fin 4) (r0 r1 r2 r3 : FVec F B8x128 .f32)
    (K : FVec F B8x128 .f32 → FVec F B8x128 .f32 → FVec F B8x128 .f32 → FVec F B8x128 .f32 → P nD τ sig F Λ) :
    (n : Nat) → (j : Nat) → (h : j + n = 32) → (c0 c1 c2 c3 : FVec F B8x128 .f32) → P nD τ sig F Λ
  | 0, _, _, c0, c1, c2, c3 => K c0 c1 c2 c3
  | n + 1, j, h, c0, c1, c2, c3 => pass1Step R k ⟨j, by omega⟩ r0 r1 r2 r3 c0 c1 c2 c3 fun c0 c1 c2 c3 =>
      pass1 k r0 r1 r2 r3 K n (j + 1) (by omega) c0 c1 c2 c3

/-- 128 columns of a slab in the second pass. -/
def sub2 (t : Fin 4) (j : Fin 64) (c a : FVec F B8x128 .f32) (K : FVec F B8x128 .f32 → P nD τ sig F Λ) : P nD τ sig F Λ :=
  .op (.load R.g (rS2 t j).toLoadRect (View.loadsAt_vmem pos8x128)) fun (g : Vec F B8x128 .f32) =>
  .op (.load R.w (rS2 t j).toLoadRect (View.loadsAt_vmem pos8x128)) fun (w : Vec F B8x128 .f32) =>
  .op (.load R.g (rS2 t j).toLoadRect (View.loadsAt_vmem pos8x128)) fun _ =>
  .op (.store R.g (rS2 t j) (asStored (subf g (mulf w c))) Finset.univ (View.stores_vmem_bits_univ pos8x128 rfl) (.inl rfl)) fun _ =>
  K (maximumf a (absf (subf g (mulf w c))))

/-- 128 columns of the second pass. -/
def pass2Step (j : Fin 64) (c0 c1 c2 c3 a0 a1 a2 a3 : FVec F B8x128 .f32)
    (K : FVec F B8x128 .f32 → FVec F B8x128 .f32 → FVec F B8x128 .f32 → FVec F B8x128 .f32 → P nD τ sig F Λ) : P nD τ sig F Λ :=
  sub2 R 0 j c0 a0 fun a0 => sub2 R 1 j c1 a1 fun a1 => sub2 R 2 j c2 a2 fun a2 => sub2 R 3 j c3 a3 fun a3 => K a0 a1 a2 a3

/-- The second pass over columns `128 * (64 - n)` on. -/
def pass2 (c0 c1 c2 c3 : FVec F B8x128 .f32)
    (K : FVec F B8x128 .f32 → FVec F B8x128 .f32 → FVec F B8x128 .f32 → FVec F B8x128 .f32 → P nD τ sig F Λ) :
    (n : Nat) → (j : Nat) → (h : j + n = 64) → (a0 a1 a2 a3 : FVec F B8x128 .f32) → P nD τ sig F Λ
  | 0, _, _, a0, a1, a2, a3 => K a0 a1 a2 a3
  | n + 1, j, h, a0, a1, a2, a3 => pass2Step R ⟨j, by omega⟩ c0 c1 c2 c3 a0 a1 a2 a3 fun a0 a1 a2 a3 =>
      pass2 c0 c1 c2 c3 K n (j + 1) (by omega) a0 a1 a2 a3

/-- The scale of a slab's rows, stored, and the factor its entries are multiplied by. -/
def quant (k t : Fin 4) (r a : FVec F B8x128 .f32) (K : FVec F B8x128 .f32 → P nD τ sig F Λ) : P nD τ sig F Λ :=
  .op (.load R.scol (rR k t).toLoadRect (View.loadsAt_vmem pos8x128)) fun _ =>
  .op (.store R.scol (rR k t) (asStored (pow2 (expo (ratio a r)))) Finset.univ (View.stores_vmem_bits_univ pos8x128 rfl) (.inl rfl)) fun _ =>
  K (mulf r (pow2 (negExpo (expo (ratio a r)))))

/-- 128 columns of the third pass. -/
def pass3Step (k : Fin 4) (j : Fin 64) (f : FVec F B32x128 .f32) (K : P nD τ sig F Λ) : P nD τ sig F Λ :=
  .op (.load R.g (rS3 j).toLoadRect (View.loadsAt_vmem pos32x128)) fun (v : Vec F B32x128 .f32) =>
  .op (.load R.codes (rC k j).toLoadRect (View.loadsAt_vmem pos32x128)) fun _ =>
  .op (.store R.codes (rC k j) (code f v) Finset.univ
    (View.stores_vmem pos32x128 (R.hcodes.storeExact_slice rfl _ (rC_packed k j)) (fun _ => rfl)) (.inl rfl)) fun _ => K

/-- The third pass over columns `128 * (64 - n)` on. -/
def pass3 (k : Fin 4) (f : FVec F B32x128 .f32) (K : P nD τ sig F Λ) :
    (n : Nat) → (j : Nat) → (h : j + n = 64) → P nD τ sig F Λ
  | 0, _, _ => K
  | n + 1, j, h => pass3Step R k ⟨j, by omega⟩ f (pass3 k f K n (j + 1) (by omega))

/-- One trip of the loop over groups of rows. -/
def trip (k : Fin 4) : P nD τ sig F Λ :=
  .op (.load R.rcol (rR k 0).toLoadRect (View.loadsAt_vmem pos8x128)) fun (r0 : Vec F B8x128 .f32) =>
  .op (.load R.rcol (rR k 1).toLoadRect (View.loadsAt_vmem pos8x128)) fun (r1 : Vec F B8x128 .f32) =>
  .op (.load R.rcol (rR k 2).toLoadRect (View.loadsAt_vmem pos8x128)) fun (r2 : Vec F B8x128 .f32) =>
  .op (.load R.rcol (rR k 3).toLoadRect (View.loadsAt_vmem pos8x128)) fun (r3 : Vec F B8x128 .f32) =>
  pass1 R k r0 r1 r2 r3 (fun c0 c1 c2 c3 =>
    pass2 R (mean c0) (mean c1) (mean c2) (mean c3) (fun a0 a1 a2 a3 =>
      quant R k 0 r0 a0 fun k0 => quant R k 1 r1 a1 fun k1 => quant R k 2 r2 a2 fun k2 => quant R k 3 r3 a3 fun k3 =>
      pass3 R k (stack k0 k1 k2 k3) (.ret ()) 64 0 rfl) 64 0 rfl zero zero zero zero) 32 0 rfl zero zero zero zero

end Cert.Trip
-- ==== Proof.Whole.lean ====
/-
  The whole kernel body at one grid point, as a short program around the loop over groups of rows: the first
  point clears the running sums and the scales and spreads gamma over eight rows; every point reads its rows'
  reciprocal deviations, runs the loop and stores its rows' scales; the last point adds up the column sums.
  Nothing in this file mentions a printed program.
-/
module

public import proofs.«01_k».proof.Proof.Trip

@[expose] public section

noncomputable section

namespace Cert.Trip

open Idealize.ShloMosaic Idealize.SL.Sem

abbrev B5x2048 : Shape := ⟨2, ![5, 2048]⟩
abbrev B5x128 : Shape := ⟨2, ![5, 128]⟩
abbrev B1x8192 : Shape := ⟨2, ![1, 8192]⟩
abbrev B8192 : Shape := ⟨1, ![8192]⟩
abbrev B1x128 : Shape := ⟨2, ![1, 128]⟩
abbrev B128 : Shape := ⟨1, ![128]⟩

theorem pos5x2048 : 0 < B5x2048.numel := by decide
theorem pos5x128 : 0 < B5x128.numel := by decide
theorem pos1x8192 : 0 < B1x8192.numel := by decide
theorem pos8x8192 : 0 < B8x8192.numel := by decide
theorem pos128x128 : 0 < B128x128.numel := by decide

/-- The first column of the `b`-th block of 128, in the words the kernel computes it in. -/
def col (b : Nat) : Nat := (Scalar.indexCast (Scalar.muli (BitVec.ofNat 32 b) 128#32)).toNat

theorem col_eq : ∀ b : Fin 16, col b.val = 128 * b.val := by decide +kernel

/-- All rows and the `b`-th block of 128 columns of a 5 × 2048 buffer. -/
def rB (b : Fin 16) : Rect B5x2048 :=
  Rect.unit (s := B5x2048) ![0, col b.val] B5x128.size (by
    rw [col_eq]; have := b.2
    intro a; fin_cases a <;> simp <;> omega)

/-- A whole buffer of rank two, as a rectangle. -/
def rW (s0 s1 : Nat) : Rect ⟨2, ![s0, s1]⟩ :=
  Rect.unit (s := ⟨2, ![s0, s1]⟩) ![0, 0] (⟨2, ![s0, s1]⟩ : Shape).size (by intro a; fin_cases a <;> simp)

/-- The word that says whether the point is `(a₀, b₀)`. -/
def atPoint (a b : Nat) (a₀ b₀ : BitVec 32) : BitVec 1 :=
  Scalar.cmpi .ne (Scalar.extui (Scalar.andi (Scalar.cmpi .eq (BitVec.ofNat 32 a) a₀) (Scalar.cmpi .eq (BitVec.ofNat 32 b) b₀)) : BitVec 32) 0#32

/-- The loop over the four groups of rows. -/
@[reducible] def loop : Scf.Loop 32 := ⟨0#32, Scalar.addi 0#32 4#32, 1#32⟩

theorem loop_ok : loop.OK := by decide +kernel

variable {F : FTy → Type} [FloatOps F]

/-- Which rows of a 5 × 128 block are row `a`. -/
def isRow (a : Nat) : IVec B5x128 1 :=
  cmpi .eq (iota .tc B5x128 32 [0] (by decide)) (broadcast B5x128 (BitVec.ofNat 32 a))

/-- Zero running sums. -/
def zeroAcc : FVec F B8x8192 .f32 := shapeCast B8x8192 (broadcast B8x8192 (Scalar.ofBits .f32 0x00000000#32) : FVec F B8x8192 .f32) (by decide)

/-- Zero scales. -/
def zeroScale : FVec F B5x2048 .f32 := broadcast B5x2048 (Scalar.ofBits .f32 0x00000000#32)

/-- Gamma over eight rows. -/
def spread (v : Vec F B1x8192 .f32) : FVec F B8x8192 .f32 :=
  shapeCast B8x8192 (broadcastTo B8x8192 (shapeCast B1x8192 (shapeCast B1x8192 v (by decide) : FVec F B1x8192 .f32) (by decide)) (by decide) :
    FVec F B8x8192 .f32) (by decide)

/-- Row `a` of a block, turned into a column and spread over the lanes. -/
def toCol (a : Nat) (v : Vec F B5x128 .f32) : FVec F B128x128 .f32 :=
  shapeCast B128x128 (transpose B128x128 [1, 0] (broadcastTo B128x128 (shapeCast B1x128 (shapeCast B1x128
    (multiReduction .add [0] B128 (select (isRow a) v (broadcast B5x128 (Scalar.ofBits .f32 0x00000000#32)) : FVec F B5x128 .f32)
      0x00000000#32 (by decide) (.inl rfl) rfl) (by decide) : FVec F B1x128 .f32) (by decide)) (by decide) : FVec F B128x128 .f32)
    (by decide)) (by decide)

/-- A block with its row `a` replaced by the first lane of a column. -/
def fromCol (a : Nat) (v : Vec F B128x128 .f32) (old : Vec F B5x128 .f32) : FVec F B5x128 .f32 :=
  select (isRow a) (broadcastTo B5x128 (shapeCast B1x128 (extractStridedSlice B1x128 ![0, 0]
    (transpose B128x128 [1, 0] v (by decide) : FVec F B128x128 .f32) (by decide)) (by decide) : FVec F B1x128 .f32) (by decide))
    (shapeCast B5x128 old (by decide))

/-- The eight rows of running sums added up. -/
def total (v : Vec F B8x8192 .f32) : FVec F B1x8192 .f32 :=
  shapeCast B1x8192 (multiReduction .add [0] B8192 v 0x00000000#32 (by decide) (.inl rfl) rfl : FVec F B8192 .f32) (by decide)

/-- The buffers the body reads and writes. -/
structure All (sig : RefSig) where
  R : Refs sig
  gamma : Memref sig .tc .vmem B1x8192 .f32
  rstd : Memref sig .tc .vmem B5x2048 .f32
  dgamma : Memref sig .tc .vmem B1x8192 .f32
  scale : Memref sig .tc .vmem B5x2048 .f32

variable {nD : Nat} {τ : Topo} {sig : RefSig} {Λ : Labels}

variable (A : All sig)

/-- What the first point does before the rest. -/
def start (K : P nD τ sig F Λ) : P nD τ sig F Λ :=
  .op (.load A.R.acc (rW 8 8192).toLoadRect (View.loadsAt_vmem pos8x8192)) fun _ =>
  .op (.store A.R.acc (rW 8 8192) zeroAcc Finset.univ (View.stores_vmem_bits_univ pos8x8192 rfl) (.inl rfl)) fun _ =>
  .op (.load A.scale (rW 5 2048).toLoadRect (View.loadsAt_vmem pos5x2048)) fun _ =>
  .op (.store A.scale (rW 5 2048) zeroScale Finset.univ (View.stores_vmem_bits_univ pos5x2048 rfl) (.inl rfl)) fun _ =>
  .op (.load A.gamma (rW 1 8192).toLoadRect (View.loadsAt_vmem pos1x8192)) fun (v : Vec F B1x8192 .f32) =>
  .op (.load A.R.gcol (rW 8 8192).toLoadRect (View.loadsAt_vmem pos8x8192)) fun _ =>
  .op (.store A.R.gcol (rW 8 8192) (spread v) Finset.univ (View.stores_vmem_bits_univ pos8x8192 rfl) (.inl rfl)) fun _ => K

/-- The point's reciprocal deviations, as a column. -/
def readDev (a : Nat) (b : Fin 16) (K : P nD τ sig F Λ) : P nD τ sig F Λ :=
  .op (.load A.rstd (rB b).toLoadRect (View.loadsAt_vmem pos5x128)) fun (v : Vec F B5x128 .f32) =>
  .op (.load A.R.rcol (rW 128 128).toLoadRect (View.loadsAt_vmem pos128x128)) fun _ =>
  .op (.store A.R.rcol (rW 128 128) (toCol a v) Finset.univ (View.stores_vmem_bits_univ pos128x128 rfl) (.inl rfl)) fun _ => K

/-- The point's scales, stored as a row. -/
def writeScale (a : Nat) (b : Fin 16) (K : P nD τ sig F Λ) : P nD τ sig F Λ :=
  .op (.load A.R.scol (rW 128 128).toLoadRect (View.loadsAt_vmem pos128x128)) fun (v : Vec F B128x128 .f32) =>
  .op (.load A.scale (rB b).toLoadRect (View.loadsAt_vmem pos5x128)) fun (old : Vec F B5x128 .f32) =>
  .op (.load A.scale (rB b).toLoadRect (View.loadsAt_vmem pos5x128)) fun _ =>
  .op (.store A.scale (rB b) (fromCol a v old) Finset.univ (View.stores_vmem_bits_univ pos5x128 rfl) (.inl rfl)) fun _ => K

/-- What the last point does after the rest. -/
def finish : P nD τ sig F Λ :=
  .op (.load A.R.acc (rW 8 8192).toLoadRect (View.loadsAt_vmem pos8x8192)) fun (v : Vec F B8x8192 .f32) =>
  .op (.load A.dgamma (rW 1 8192).toLoadRect (View.loadsAt_vmem pos1x8192)) fun _ =>
  .op (.store A.dgamma (rW 1 8192) (total v) Finset.univ (View.stores_vmem_bits_univ pos1x8192 rfl) (.inl rfl)) fun _ => .ret ()

/-- The body after the first point's part, its loop running `trip`. -/
def rest (a : Nat) (b : Fin 16) (trip : Fin loop.trips → Unit → P nD τ sig F Λ) : P nD τ sig F Λ :=
  readDev A a b <| Scf.Loop.for loop loop_ok () trip >>= fun _ =>
  writeScale A a b <| if _h : atPoint a b.val 4#32 15#32 = 1#1 then finish A else .ret ()

/-- The body at a grid point, its loop running `trip`. -/
def bodyOf (a : Nat) (b : Fin 16) (trip : Fin loop.trips → Unit → P nD τ sig F Λ) : P nD τ sig F Λ :=
  if _h : atPoint a b.val 0#32 0#32 = 1#1 then start A (rest A a b trip) else rest A a b trip

/-- The body at a grid point. -/
def body (a : Nat) (b : Fin 16) : P nD τ sig F Λ := bodyOf A a b fun k _ => trip A.R k

end Cert.Trip
-- ==== Proof.TripKernel.lean ====
/-
  The printed loop body of the kernel is the short program of `Trip`: both unfold to the same operations.
-/
module

public import proofs.«01_k».proof.Proof.Trip
public import proofs.«01_k».proof.Proof.Gen.Kernel.Skeleton

@[expose] public section

set_option maxRecDepth 65536
set_option maxHeartbeats 4000000

noncomputable section

namespace Cert.Kernel.Hand

open Cert.Kernel Cert.Kernel.Gen Cert.Trip
open Idealize.ShloMosaic Idealize.SL.Sem

variable {F : FTy → Type} [FloatOps F]

/-- One trip of the printed loop. -/
theorem trip_eq (i : grid0.Coords) (arg2 : Memref sig .tc .vmem S128x8192 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S5x2048 .f32) (harg5 : arg5.IsWhole) (arg6 : Memref sig .tc .vmem S1x8192 .f32) (harg6 : arg6.IsWhole) (arg7 : Memref sig .tc .vmem S128x8192 .fp8e5m2) (harg7 : arg7.IsWhole) (arg8 : Memref sig .tc .vmem S5x2048 .f32) (harg8 : arg8.IsWhole) (arg9 : Memref sig .tc .vmem S32x8192 .f32) (harg9 : arg9.IsWhole) (arg10 : Memref sig .tc .vmem S32x8192 .f32) (harg10 : arg10.IsWhole) (arg11 : Memref sig .tc .vmem S8x8192 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x8192 .f32) (harg14 : arg14.IsWhole) (k : Fin k0_t1_loop.trips) :
    k0_t1_body (F := F) i arg2 harg2 arg3 harg3 arg4 harg4 arg5 harg5 arg6 harg6 arg7 harg7 arg8 harg8 arg9 harg9 arg10 harg10 arg11 harg11 arg12 harg12 arg13 harg13 arg14 harg14 k () =
      trip ⟨arg2, arg3, arg7, arg9, arg10, arg11, arg12, arg13, arg14, harg7⟩ k := rfl

end Cert.Kernel.Hand
-- ==== Proof.BodyKernel.lean ====
/-
  The printed kernel body at a grid point is the short program of `Whole`.
-/
module

public import proofs.«01_k».proof.Proof.Whole
public import proofs.«01_k».proof.Proof.TripKernel

@[expose] public section

set_option maxRecDepth 65536
set_option maxHeartbeats 4000000

noncomputable section

namespace Cert.Kernel.Hand

open Cert.Kernel Cert.Kernel.Gen Cert.Trip
open Idealize.ShloMosaic Idealize.SL.Sem

variable {F : FTy → Type} [FloatOps F]

/-- Everything around the loop agrees, whatever the loop runs. -/
theorem bodyOf_eq (i : grid0.Coords) (arg2 : Memref sig .tc .vmem S128x8192 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S5x2048 .f32) (harg5 : arg5.IsWhole) (arg6 : Memref sig .tc .vmem S1x8192 .f32) (harg6 : arg6.IsWhole) (arg7 : Memref sig .tc .vmem S128x8192 .fp8e5m2) (harg7 : arg7.IsWhole) (arg8 : Memref sig .tc .vmem S5x2048 .f32) (harg8 : arg8.IsWhole) (arg9 : Memref sig .tc .vmem S32x8192 .f32) (harg9 : arg9.IsWhole) (arg10 : Memref sig .tc .vmem S32x8192 .f32) (harg10 : arg10.IsWhole) (arg11 : Memref sig .tc .vmem S8x8192 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x8192 .f32) (harg14 : arg14.IsWhole) :
    cc0_rmsnorm_bwd_e5m2 (F := F) i arg2 harg2 arg3 harg3 arg4 harg4 arg5 harg5 arg6 harg6 arg7 harg7 arg8 harg8 arg9 harg9 arg10 harg10 arg11 harg11 arg12 harg12 arg13 harg13 arg14 harg14 =
      bodyOf ⟨⟨arg2, arg3, arg7, arg9, arg10, arg11, arg12, arg13, arg14, harg7⟩, arg4, arg5, arg6, arg8⟩ (i 0).val (i 1)
        (k0_t1_body (F := F) i arg2 harg2 arg3 harg3 arg4 harg4 arg5 harg5 arg6 harg6 arg7 harg7 arg8 harg8 arg9 harg9 arg10 harg10 arg11 harg11 arg12 harg12 arg13 harg13 arg14 harg14) := by
  rw [cc0_rmsnorm_bwd_e5m2_eq_skeleton]
  unfold cc0_rmsnorm_bwd_e5m2_skel
  rw [k0_part234_eq_skeleton]
  unfold k0_part234_skel Trip.bodyOf Trip.rest
  by_cases h1 : atPoint (i 0).val (i 1).val 0#32 0#32 = 1#1 <;>
    by_cases h2 : atPoint (i 0).val (i 1).val 4#32 15#32 = 1#1 <;>
    [have e2 : k0_cond2 i = 1#1 := h2; have e2 : ¬ k0_cond2 i = 1#1 := h2; have e2 : k0_cond2 i = 1#1 := h2; have e2 : ¬ k0_cond2 i = 1#1 := h2] <;>
    have e1 := h1 <;> unfold atPoint at e1 <;>
    simp only [h1, e1, h2, e2, dite_true, dite_false, bind_assoc]

  all_goals rfl

/-- The body of the printed kernel. -/
theorem body_eq (i : grid0.Coords) (arg2 : Memref sig .tc .vmem S128x8192 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S5x2048 .f32) (harg5 : arg5.IsWhole) (arg6 : Memref sig .tc .vmem S1x8192 .f32) (harg6 : arg6.IsWhole) (arg7 : Memref sig .tc .vmem S128x8192 .fp8e5m2) (harg7 : arg7.IsWhole) (arg8 : Memref sig .tc .vmem S5x2048 .f32) (harg8 : arg8.IsWhole) (arg9 : Memref sig .tc .vmem S32x8192 .f32) (harg9 : arg9.IsWhole) (arg10 : Memref sig .tc .vmem S32x8192 .f32) (harg10 : arg10.IsWhole) (arg11 : Memref sig .tc .vmem S8x8192 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x8192 .f32) (harg14 : arg14.IsWhole) :
    cc0_rmsnorm_bwd_e5m2 (F := F) i arg2 harg2 arg3 harg3 arg4 harg4 arg5 harg5 arg6 harg6 arg7 harg7 arg8 harg8 arg9 harg9 arg10 harg10 arg11 harg11 arg12 harg12 arg13 harg13 arg14 harg14 =
      body ⟨⟨arg2, arg3, arg7, arg9, arg10, arg11, arg12, arg13, arg14, harg7⟩, arg4, arg5, arg6, arg8⟩ (i 0).val (i 1) :=
  (bodyOf_eq i arg2 harg2 arg3 harg3 arg4 harg4 arg5 harg5 arg6 harg6 arg7 harg7 arg8 harg8 arg9 harg9 arg10 harg10 arg11 harg11 arg12 harg12 arg13 harg13 arg14 harg14).trans
    (congrArg _ (funext fun k => funext fun _ =>
      trip_eq i arg2 harg2 arg3 harg3 arg4 harg4 arg5 harg5 arg6 harg6 arg7 harg7 arg8 harg8 arg9 harg9 arg10 harg10 arg11 harg11 arg12 harg12 arg13 harg13 arg14 harg14 k))

end Cert.Kernel.Hand
-- ==== Proof.Wp.lean ====
/-
  What the short programs of `Trip` and `Whole` do to the buffers' contents: each has a function from contents to
  contents, written beside the proof that the program, run on the buffers held at some contents, leaves them at
  that function's value.
-/
module

public import proofs.«01_k».proof.Proof.Whole
public import Idealize.ShloMosaic.Lib.Pipeline.Frame

@[expose] public section

noncomputable section

namespace Cert.Trip

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Contents -/

/-- What a rectangle holds. -/
def win {s : Shape} {α : Type} (r : Rect s) (X : s.Idx → α) : r.shape.Idx → α := fun y => X (r.emb y)

open Classical in
/-- Contents with a rectangle overwritten. -/
def upd {s : Shape} {α : Type} (r : Rect s) (w : r.shape.Idx → α) (X : s.Idx → α) : s.Idx → α :=
  fun i => if h : ∃ y, r.emb y = i then w h.choose else X i

theorem upd_emb {s : Shape} {α : Type} (r : Rect s) (w : r.shape.Idx → α) (X : s.Idx → α) (y : r.shape.Idx) :
    upd r w X (r.emb y) = w y := by
  have h : ∃ z, r.emb z = r.emb y := ⟨y, rfl⟩
  unfold upd
  rw [dif_pos h]
  exact congrArg w (r.emb.injective h.choose_spec)

theorem upd_of_not {s : Shape} {α : Type} (r : Rect s) (w : r.shape.Idx → α) (X : s.Idx → α) (i : s.Idx)
    (h : ¬ ∃ y, r.emb y = i) : upd r w X i = X i := by
  unfold upd; rw [dif_neg h]

variable (F) in
/-- The contents of the body's buffers. -/
structure St where
  x : B128x8192.Idx → Elt F .bf16
  dy : B128x8192.Idx → Elt F .bf16
  gamma : B1x8192.Idx → Elt F .f32
  rstd : B5x2048.Idx → Elt F .f32
  dgamma : B1x8192.Idx → Elt F .f32
  codes : B128x8192.Idx → Elt F .fp8e5m2
  scale : B5x2048.Idx → Elt F .f32
  g : B32x8192.Idx → Elt F .f32
  w : B32x8192.Idx → Elt F .f32
  gcol : B8x8192.Idx → Elt F .f32
  rcol : B128x128.Idx → Elt F .f32
  scol : B128x128.Idx → Elt F .f32
  acc : B8x8192.Idx → Elt F .f32

variable {nD : Nat} {τ : Topo} {sig : RefSig} {Λ : Labels} {U : Type} [URA U]

local notation "𝕄" => MT nD τ sig Unit (Elt F) ℕ U ℕ

variable (A : All sig) (defs₀ : Defs nD τ sig (Elt F) Λ) (𝒱₀ : Variants) (c : Dev nD) (E : Set ℕ)

/-- A program of the body runs to its end, leaving `Q`. -/
abbrev W (p : P nD τ sig F Λ) (Q : sProp 𝕄) : sProp 𝕄 := wp frame (wpE defs₀ 𝒱₀ (c : Thread nD τ) none) E p fun _ => Q

/-- The buffers held at contents `s`. -/
def Own (s : St F) : sProp 𝕄 :=
  iprop(owns (c : Thread nD τ) A.R.x fullShare s.x
    ∗ owns (c : Thread nD τ) A.R.dy fullShare s.dy
    ∗ owns (c : Thread nD τ) A.gamma fullShare s.gamma
    ∗ owns (c : Thread nD τ) A.rstd fullShare s.rstd
    ∗ owns (c : Thread nD τ) A.dgamma fullShare s.dgamma
    ∗ owns (c : Thread nD τ) A.R.codes fullShare s.codes
    ∗ owns (c : Thread nD τ) A.scale fullShare s.scale
    ∗ owns (c : Thread nD τ) A.R.g fullShare s.g
    ∗ owns (c : Thread nD τ) A.R.w fullShare s.w
    ∗ owns (c : Thread nD τ) A.R.gcol fullShare s.gcol
    ∗ owns (c : Thread nD τ) A.R.rcol fullShare s.rcol
    ∗ owns (c : Thread nD τ) A.R.scol fullShare s.scol
    ∗ owns (c : Thread nD τ) A.R.acc fullShare s.acc)

/-! ## Loads and stores -/

/-- A load of a rectangle of a buffer that the context holds. -/
theorem load_in {s : Shape} {e : EltTy} (m : Memref sig .tc .vmem s e) (r : Rect s) (hl : m.view.LoadsAt r.toLoadRect) (X : s.Idx → Elt F e)
    {H Q : sProp 𝕄} {k : (r.shape.Idx → Elt F e) → P nD τ sig F Λ}
    (hH : H ⊢ iprop(owns (c : Thread nD τ) m fullShare X ∗ (owns (c : Thread nD τ) m fullShare X -∗ H)))
    (h : H ⊢ W defs₀ 𝒱₀ c E (k (win r X)) Q) :
    H ⊢ W defs₀ 𝒱₀ c E (.op (.load m r.toLoadRect hl) k) Q := by
  refine hH.trans ?_
  unfold owns
  iintro ⟨⟨%f, %hf, Hp⟩, Hk⟩
  iapply (wp_load 𝒱₀ (c : Thread nD τ) none E (m := m) (r := r.toLoadRect) (hl := hl) (S := m.view.set) (View.setOn_subset_set _ _)) $$ Hp
  iintro Hp
  have hv : m.view.readAt (Elt F) r.toLoadRect f = win r X := by subst hf; rfl
  rw [hv]
  iapply h
  iapply Hk
  iexists f
  isplitr
  · ipureintro; exact hf
  · iexact Hp

/-- A store of a whole rectangle of a buffer that the context holds. -/
theorem store_in {s : Shape} {e : EltTy} (m : Memref sig .tc .vmem s e) (r : Rect s) (w : r.shape.Idx → Elt F e)
    (hx : (m.access r).Stores Finset.univ) (hm : (Finset.univ : Finset r.shape.Idx) = Finset.univ ∨ ∀ a, r.stride a = 1) (X : s.Idx → Elt F e)
    {H H' Q : sProp 𝕄} {k : PUnit → P nD τ sig F Λ}
    (hH : H ⊢ iprop(owns (c : Thread nD τ) m fullShare X ∗ (owns (c : Thread nD τ) m fullShare (upd r w X) -∗ H')))
    (h : H' ⊢ W defs₀ 𝒱₀ c E (k ⟨⟩) Q) :
    H ⊢ W defs₀ 𝒱₀ c E (.op (.store m r w Finset.univ hx hm) k) Q := by
  refine hH.trans ?_
  unfold owns
  iintro ⟨⟨%f, %hf, Hp⟩, Hk⟩
  iapply (wp_store 𝒱₀ (c : Thread nD τ) none E (m := m) (r := r) (hx := hx) (hm := hm) (S := m.view.set) (View.set_slice_subset _ _)) $$ Hp
  iintro Hp
  iapply h
  iapply Hk
  iexists (m.access r).write (Elt F) f w Finset.univ
  isplitr
  · ipureintro
    subst hf
    funext i
    by_cases hi : ∃ y, r.emb y = i
    · obtain ⟨y, rfl⟩ := hi
      rw [upd_emb]
      exact View.read_slice_write_emb (v := m.view) r f w (Finset.mem_univ y)
    · rw [upd_of_not _ _ _ _ hi]
      refine View.read_slice_write_of_not_mem (v := m.view) r f w Finset.univ fun hy => hi ?_
      obtain ⟨y, -, hy⟩ := Finset.mem_map.mp hy
      exact ⟨y, hy⟩
  · iexact Hp

/-! Each buffer can be taken out of the context and put back at other contents. -/

theorem own_x (s : St F) (X : B128x8192.Idx → Elt F .bf16) : (Own A c s : sProp 𝕄) ⊢
    iprop(owns (c : Thread nD τ) A.R.x fullShare s.x ∗ (owns (c : Thread nD τ) A.R.x fullShare X -∗ Own A c { s with x := X })) := by
  unfold Own
  iintro ⟨H0, H1, H2, H3, H4, H5, H6, H7, H8, H9, H10, H11, H12⟩
  isplitl [H0]; · iexact H0
  iintro H0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_dy (s : St F) (X : B128x8192.Idx → Elt F .bf16) : (Own A c s : sProp 𝕄) ⊢
    iprop(owns (c : Thread nD τ) A.R.dy fullShare s.dy ∗ (owns (c : Thread nD τ) A.R.dy fullShare X -∗ Own A c { s with dy := X })) := by
  unfold Own
  iintro ⟨H0, H1, H2, H3, H4, H5, H6, H7, H8, H9, H10, H11, H12⟩
  isplitl [H1]; · iexact H1
  iintro H1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_gamma (s : St F) (X : B1x8192.Idx → Elt F .f32) : (Own A c s : sProp 𝕄) ⊢
    iprop(owns (c : Thread nD τ) A.gamma fullShare s.gamma ∗ (owns (c : Thread nD τ) A.gamma fullShare X -∗ Own A c { s with gamma := X })) := by
  unfold Own
  iintro ⟨H0, H1, H2, H3, H4, H5, H6, H7, H8, H9, H10, H11, H12⟩
  isplitl [H2]; · iexact H2
  iintro H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_rstd (s : St F) (X : B5x2048.Idx → Elt F .f32) : (Own A c s : sProp 𝕄) ⊢
    iprop(owns (c : Thread nD τ) A.rstd fullShare s.rstd ∗ (owns (c : Thread nD τ) A.rstd fullShare X -∗ Own A c { s with rstd := X })) := by
  unfold Own
  iintro ⟨H0, H1, H2, H3, H4, H5, H6, H7, H8, H9, H10, H11, H12⟩
  isplitl [H3]; · iexact H3
  iintro H3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_dgamma (s : St F) (X : B1x8192.Idx → Elt F .f32) : (Own A c s : sProp 𝕄) ⊢
    iprop(owns (c : Thread nD τ) A.dgamma fullShare s.dgamma ∗ (owns (c : Thread nD τ) A.dgamma fullShare X -∗ Own A c { s with dgamma := X })) := by
  unfold Own
  iintro ⟨H0, H1, H2, H3, H4, H5, H6, H7, H8, H9, H10, H11, H12⟩
  isplitl [H4]; · iexact H4
  iintro H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_codes (s : St F) (X : B128x8192.Idx → Elt F .fp8e5m2) : (Own A c s : sProp 𝕄) ⊢
    iprop(owns (c : Thread nD τ) A.R.codes fullShare s.codes ∗ (owns (c : Thread nD τ) A.R.codes fullShare X -∗ Own A c { s with codes := X })) := by
  unfold Own
  iintro ⟨H0, H1, H2, H3, H4, H5, H6, H7, H8, H9, H10, H11, H12⟩
  isplitl [H5]; · iexact H5
  iintro H5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_scale (s : St F) (X : B5x2048.Idx → Elt F .f32) : (Own A c s : sProp 𝕄) ⊢
    iprop(owns (c : Thread nD τ) A.scale fullShare s.scale ∗ (owns (c : Thread nD τ) A.scale fullShare X -∗ Own A c { s with scale := X })) := by
  unfold Own
  iintro ⟨H0, H1, H2, H3, H4, H5, H6, H7, H8, H9, H10, H11, H12⟩
  isplitl [H6]; · iexact H6
  iintro H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_g (s : St F) (X : B32x8192.Idx → Elt F .f32) : (Own A c s : sProp 𝕄) ⊢
    iprop(owns (c : Thread nD τ) A.R.g fullShare s.g ∗ (owns (c : Thread nD τ) A.R.g fullShare X -∗ Own A c { s with g := X })) := by
  unfold Own
  iintro ⟨H0, H1, H2, H3, H4, H5, H6, H7, H8, H9, H10, H11, H12⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_w (s : St F) (X : B32x8192.Idx → Elt F .f32) : (Own A c s : sProp 𝕄) ⊢
    iprop(owns (c : Thread nD τ) A.R.w fullShare s.w ∗ (owns (c : Thread nD τ) A.R.w fullShare X -∗ Own A c { s with w := X })) := by
  unfold Own
  iintro ⟨H0, H1, H2, H3, H4, H5, H6, H7, H8, H9, H10, H11, H12⟩
  isplitl [H8]; · iexact H8
  iintro H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_gcol (s : St F) (X : B8x8192.Idx → Elt F .f32) : (Own A c s : sProp 𝕄) ⊢
    iprop(owns (c : Thread nD τ) A.R.gcol fullShare s.gcol ∗ (owns (c : Thread nD τ) A.R.gcol fullShare X -∗ Own A c { s with gcol := X })) := by
  unfold Own
  iintro ⟨H0, H1, H2, H3, H4, H5, H6, H7, H8, H9, H10, H11, H12⟩
  isplitl [H9]; · iexact H9
  iintro H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_rcol (s : St F) (X : B128x128.Idx → Elt F .f32) : (Own A c s : sProp 𝕄) ⊢
    iprop(owns (c : Thread nD τ) A.R.rcol fullShare s.rcol ∗ (owns (c : Thread nD τ) A.R.rcol fullShare X -∗ Own A c { s with rcol := X })) := by
  unfold Own
  iintro ⟨H0, H1, H2, H3, H4, H5, H6, H7, H8, H9, H10, H11, H12⟩
  isplitl [H10]; · iexact H10
  iintro H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_scol (s : St F) (X : B128x128.Idx → Elt F .f32) : (Own A c s : sProp 𝕄) ⊢
    iprop(owns (c : Thread nD τ) A.R.scol fullShare s.scol ∗ (owns (c : Thread nD τ) A.R.scol fullShare X -∗ Own A c { s with scol := X })) := by
  unfold Own
  iintro ⟨H0, H1, H2, H3, H4, H5, H6, H7, H8, H9, H10, H11, H12⟩
  isplitl [H11]; · iexact H11
  iintro H11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own_acc (s : St F) (X : B8x8192.Idx → Elt F .f32) : (Own A c s : sProp 𝕄) ⊢
    iprop(owns (c : Thread nD τ) A.R.acc fullShare s.acc ∗ (owns (c : Thread nD τ) A.R.acc fullShare X -∗ Own A c { s with acc := X })) := by
  unfold Own
  iintro ⟨H0, H1, H2, H3, H4, H5, H6, H7, H8, H9, H10, H11, H12⟩
  isplitl [H12]; · iexact H12
  iintro H12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Trip
-- ==== Proof.Run.lean ====
/-
  The body's short program, run from buffers held at some contents: what it leaves in each buffer, as a function of
  what was there.
-/
module

public import proofs.«01_k».proof.Proof.Wp

@[expose] public section

set_option maxRecDepth 16384

noncomputable section

namespace Cert.Trip

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Contents to contents -/

/-- Four vectors, one for each slab of a group of rows. -/
structure Four (α : Type) where
  a0 : α
  a1 : α
  a2 : α
  a3 : α

def gcAt (j : Fin 32) (h : Fin 2) (s : St F) : FVec F B8x128 .f32 := win (rG j h) s.gcol

def halfS (t : Fin 4) (j : Fin 32) (h : Fin 2) (r : FVec F B8x128 .f32) (dy x : FVec F B8x256 .f32) (s : St F) : St F :=
  { s with
    w := upd (rS1 t j h) (asStored (mulf (halfOf h x) r)) s.w
    g := upd (rS1 t j h) (asStored (mulf (halfOf h dy) (gcAt j h s))) s.g }

def halfC (h : Fin 2) (r : FVec F B8x128 .f32) (dy x : FVec F B8x256 .f32) (gc c : FVec F B8x128 .f32) : FVec F B8x128 .f32 :=
  addf c (mulf (mulf (halfOf h dy) gc) (mulf (halfOf h x) r))

def halfD (h : Fin 2) (r : FVec F B8x128 .f32) (dy x : FVec F B8x256 .f32) : FVec F B8x128 .f32 :=
  mulf (halfOf h dy) (mulf (halfOf h x) r)

def dyAt (k t : Fin 4) (j : Fin 32) (s : St F) : FVec F B8x256 .f32 := widen (win (rX k t j) s.dy)
def xAt (k t : Fin 4) (j : Fin 32) (s : St F) : FVec F B8x256 .f32 := widen (win (rX k t j) s.x)

def slabS (k t : Fin 4) (j : Fin 32) (r : FVec F B8x128 .f32) (s : St F) : St F :=
  halfS t j 1 r (dyAt k t j s) (xAt k t j s) (halfS t j 0 r (dyAt k t j s) (xAt k t j s) s)

def slabC (k t : Fin 4) (j : Fin 32) (r c : FVec F B8x128 .f32) (s : St F) : FVec F B8x128 .f32 :=
  halfC 1 r (dyAt k t j s) (xAt k t j s) (gcAt j 1 (halfS t j 0 r (dyAt k t j s) (xAt k t j s) s)) (halfC 0 r (dyAt k t j s) (xAt k t j s) (gcAt j 0 s) c)

def slabD (k t : Fin 4) (j : Fin 32) (h : Fin 2) (r : FVec F B8x128 .f32) (s : St F) : FVec F B8x128 .f32 :=
  halfD h r (dyAt k t j s) (xAt k t j s)

/-- One half's addition to the running column sums. -/
def addColsS (j : Fin 32) (h : Fin 2) (d0 d1 d2 d3 : FVec F B8x128 .f32) (s : St F) : St F :=
  { s with acc := upd (rG j h) (asStored (addf (win (rG j h) s.acc) (addf (addf d0 d1) (addf d2 d3)))) s.acc }

/-- The state after the slabs before the one named. -/
def slabs1 (k : Fin 4) (j : Fin 32) (r : Four (FVec F B8x128 .f32)) (s : St F) : St F := slabS k 0 j r.a0 s
def slabs2 (k : Fin 4) (j : Fin 32) (r : Four (FVec F B8x128 .f32)) (s : St F) : St F := slabS k 1 j r.a1 (slabs1 k j r s)
def slabs3 (k : Fin 4) (j : Fin 32) (r : Four (FVec F B8x128 .f32)) (s : St F) : St F := slabS k 2 j r.a2 (slabs2 k j r s)
def slabs4 (k : Fin 4) (j : Fin 32) (r : Four (FVec F B8x128 .f32)) (s : St F) : St F := slabS k 3 j r.a3 (slabs3 k j r s)

/-- A group's addition to the running column sums. -/
def groupD (k : Fin 4) (j : Fin 32) (h : Fin 2) (r : Four (FVec F B8x128 .f32)) (s u : St F) : St F :=
  addColsS j h (slabD k 0 j h r.a0 s) (slabD k 1 j h r.a1 (slabs1 k j r s)) (slabD k 2 j h r.a2 (slabs2 k j r s))
    (slabD k 3 j h r.a3 (slabs3 k j r s)) u

def pass1StepS (k : Fin 4) (j : Fin 32) (r : Four (FVec F B8x128 .f32)) (s : St F) : St F :=
  groupD k j 1 r s (groupD k j 0 r s (slabs4 k j r s))

def pass1StepC (k : Fin 4) (j : Fin 32) (r c : Four (FVec F B8x128 .f32)) (s : St F) : Four (FVec F B8x128 .f32) :=
  ⟨slabC k 0 j r.a0 c.a0 s, slabC k 1 j r.a1 c.a1 (slabs1 k j r s), slabC k 2 j r.a2 c.a2 (slabs2 k j r s),
    slabC k 3 j r.a3 c.a3 (slabs3 k j r s)⟩

def pass1S (k : Fin 4) (r : Four (FVec F B8x128 .f32)) : (n j : Nat) → (h : j + n = 32) → St F → St F
  | 0, _, _, s => s
  | n + 1, j, h, s => pass1S k r n (j + 1) (by omega) (pass1StepS k ⟨j, by omega⟩ r s)

def pass1C (k : Fin 4) (r : Four (FVec F B8x128 .f32)) :
    (n j : Nat) → (h : j + n = 32) → St F → Four (FVec F B8x128 .f32) → Four (FVec F B8x128 .f32)
  | 0, _, _, s, c => c
  | n + 1, j, h, s, c => pass1C k r n (j + 1) (by omega) (pass1StepS k ⟨j, by omega⟩ r s) (pass1StepC k ⟨j, by omega⟩ r c s)

/-- A slab's 128 columns of `g - w * c`. -/
def diffAt (t : Fin 4) (j : Fin 64) (c : FVec F B8x128 .f32) (s : St F) : FVec F B8x128 .f32 :=
  subf (win (rS2 t j) s.g) (mulf (win (rS2 t j) s.w) c)

def sub2S (t : Fin 4) (j : Fin 64) (c : FVec F B8x128 .f32) (s : St F) : St F :=
  { s with g := upd (rS2 t j) (asStored (diffAt t j c s)) s.g }

def sub2A (t : Fin 4) (j : Fin 64) (c a : FVec F B8x128 .f32) (s : St F) : FVec F B8x128 .f32 :=
  maximumf a (absf (diffAt t j c s))

def pass2StepS (j : Fin 64) (c : Four (FVec F B8x128 .f32)) (s : St F) : St F :=
  sub2S 3 j c.a3 <| sub2S 2 j c.a2 <| sub2S 1 j c.a1 <| sub2S 0 j c.a0 s

def pass2StepA (j : Fin 64) (c a : Four (FVec F B8x128 .f32)) (s : St F) : Four (FVec F B8x128 .f32) :=
  ⟨sub2A 0 j c.a0 a.a0 s, sub2A 1 j c.a1 a.a1 (sub2S 0 j c.a0 s), sub2A 2 j c.a2 a.a2 (sub2S 1 j c.a1 <| sub2S 0 j c.a0 s),
    sub2A 3 j c.a3 a.a3 (sub2S 2 j c.a2 <| sub2S 1 j c.a1 <| sub2S 0 j c.a0 s)⟩

def pass2S (c : Four (FVec F B8x128 .f32)) : (n j : Nat) → (h : j + n = 64) → St F → St F
  | 0, _, _, s => s
  | n + 1, j, h, s => pass2S c n (j + 1) (by omega) (pass2StepS ⟨j, by omega⟩ c s)

def pass2A (c : Four (FVec F B8x128 .f32)) :
    (n j : Nat) → (h : j + n = 64) → St F → Four (FVec F B8x128 .f32) → Four (FVec F B8x128 .f32)
  | 0, _, _, s, a => a
  | n + 1, j, h, s, a => pass2A c n (j + 1) (by omega) (pass2StepS ⟨j, by omega⟩ c s) (pass2StepA ⟨j, by omega⟩ c a s)

def quantS (k t : Fin 4) (r a : FVec F B8x128 .f32) (s : St F) : St F :=
  { s with scol := upd (rR k t) (asStored (pow2 (expo (ratio a r)))) s.scol }

/-- What a slab's entries are multiplied by. -/
def factor (r a : FVec F B8x128 .f32) : FVec F B8x128 .f32 := mulf r (pow2 (negExpo (expo (ratio a r))))

def factors (r a : Four (FVec F B8x128 .f32)) : FVec F B32x128 .f32 :=
  stack (factor r.a0 a.a0) (factor r.a1 a.a1) (factor r.a2 a.a2) (factor r.a3 a.a3)

def quantAllS (k : Fin 4) (r a : Four (FVec F B8x128 .f32)) (s : St F) : St F :=
  quantS k 3 r.a3 a.a3 <| quantS k 2 r.a2 a.a2 <| quantS k 1 r.a1 a.a1 <| quantS k 0 r.a0 a.a0 s

def pass3StepS (k : Fin 4) (j : Fin 64) (f : FVec F B32x128 .f32) (s : St F) : St F :=
  { s with codes := upd (rC k j) (code f (win (rS3 j) s.g)) s.codes }

def pass3S (k : Fin 4) (f : FVec F B32x128 .f32) : (n j : Nat) → (h : j + n = 64) → St F → St F
  | 0, _, _, s => s
  | n + 1, j, h, s => pass3S k f n (j + 1) (by omega) (pass3StepS k ⟨j, by omega⟩ f s)

/-- The reciprocal deviations of a group's four slabs. -/
def devs (k : Fin 4) (s : St F) : Four (FVec F B8x128 .f32) :=
  ⟨win (rR k 0) s.rcol, win (rR k 1) s.rcol, win (rR k 2) s.rcol, win (rR k 3) s.rcol⟩

def Four.map {α β : Type} (f : α → β) (v : Four α) : Four β := ⟨f v.a0, f v.a1, f v.a2, f v.a3⟩

def zeros : Four (FVec F B8x128 .f32) := ⟨zero, zero, zero, zero⟩

/-- The means of a group's rows. -/
def means (k : Fin 4) (s : St F) : Four (FVec F B8x128 .f32) := (pass1C k (devs k s) 32 0 rfl s zeros).map mean

def after1 (k : Fin 4) (s : St F) : St F := pass1S k (devs k s) 32 0 rfl s
def after2 (k : Fin 4) (s : St F) : St F := pass2S (means k s) 64 0 rfl (after1 k s)
/-- The partial maxima of a group's rows. -/
def maxima (k : Fin 4) (s : St F) : Four (FVec F B8x128 .f32) := pass2A (means k s) 64 0 rfl (after1 k s) zeros

def tripS (k : Fin 4) (s : St F) : St F :=
  pass3S k (factors (devs k s) (maxima k s)) 64 0 rfl (quantAllS k (devs k s) (maxima k s) (after2 k s))

def startS (s : St F) : St F :=
  { s with
    acc := upd (rW 8 8192) zeroAcc s.acc
    scale := upd (rW 5 2048) zeroScale s.scale
    gcol := upd (rW 8 8192) (spread (win (rW 1 8192) s.gamma)) s.gcol }

def readDevS (a : Nat) (b : Fin 16) (s : St F) : St F :=
  { s with rcol := upd (rW 128 128) (toCol a (win (rB b) s.rstd)) s.rcol }

def writeScaleS (a : Nat) (b : Fin 16) (s : St F) : St F :=
  { s with scale := upd (rB b) (fromCol a (win (rW 128 128) s.scol) (win (rB b) s.scale)) s.scale }

def finishS (s : St F) : St F := { s with dgamma := upd (rW 1 8192) (total (win (rW 8 8192) s.acc)) s.dgamma }

/-- The loop's first `n` trips. -/
def tripsS : Nat → St F → St F
  | 0, s => s
  | n + 1, s => if h : n < 4 then tripS ⟨n, h⟩ (tripsS n s) else tripsS n s

def bodyS (a : Nat) (b : Fin 16) (s : St F) : St F :=
  (fun s => if atPoint a b.val 4#32 15#32 = 1#1 then finishS s else s) <|
    writeScaleS a b <| tripsS 4 <| readDevS a b <| if atPoint a b.val 0#32 0#32 = 1#1 then startS s else s

/-! The inputs are left as they were. -/

/-- Two contents that agree on the inputs. -/
def SameIn (s u : St F) : Prop := s.x = u.x ∧ s.dy = u.dy ∧ s.gamma = u.gamma ∧ s.rstd = u.rstd

theorem SameIn.trans {s u v : St F} (h : SameIn s u) (k : SameIn u v) : SameIn s v :=
  ⟨h.1.trans k.1, h.2.1.trans k.2.1, h.2.2.1.trans k.2.2.1, h.2.2.2.trans k.2.2.2⟩

theorem SameIn.rfl {s : St F} : SameIn s s := ⟨Eq.refl _, Eq.refl _, Eq.refl _, Eq.refl _⟩

theorem halfS_in (t : Fin 4) (j : Fin 32) (h : Fin 2) (r : FVec F B8x128 .f32) (dy x : FVec F B8x256 .f32) (s : St F) :
    SameIn (halfS t j h r dy x s) s := by
  unfold halfS; exact ⟨Eq.refl _, Eq.refl _, Eq.refl _, Eq.refl _⟩

theorem slabS_in (k t : Fin 4) (j : Fin 32) (r : FVec F B8x128 .f32) (s : St F) : SameIn (slabS k t j r s) s :=
  (halfS_in _ _ _ _ _ _ _).trans (halfS_in _ _ _ _ _ _ _)

theorem groupD_in (k : Fin 4) (j : Fin 32) (h : Fin 2) (r : Four (FVec F B8x128 .f32)) (s u : St F) : SameIn (groupD k j h r s u) u := by
  unfold groupD addColsS; exact ⟨Eq.refl _, Eq.refl _, Eq.refl _, Eq.refl _⟩

theorem pass1StepS_in (k : Fin 4) (j : Fin 32) (r : Four (FVec F B8x128 .f32)) (s : St F) : SameIn (pass1StepS k j r s) s :=
  (groupD_in _ _ _ _ _ _).trans ((groupD_in _ _ _ _ _ _).trans
    ((slabS_in k 3 j _ _).trans ((slabS_in k 2 j _ _).trans ((slabS_in k 1 j _ _).trans (slabS_in k 0 j _ _)))))

theorem sub2S_in (t : Fin 4) (j : Fin 64) (c : FVec F B8x128 .f32) (s : St F) : SameIn (sub2S t j c s) s := by
  unfold sub2S; exact ⟨Eq.refl _, Eq.refl _, Eq.refl _, Eq.refl _⟩

theorem pass2StepS_in (j : Fin 64) (c : Four (FVec F B8x128 .f32)) (s : St F) : SameIn (pass2StepS j c s) s :=
  (sub2S_in _ _ _ _).trans ((sub2S_in _ _ _ _).trans ((sub2S_in _ _ _ _).trans (sub2S_in _ _ _ _)))

theorem quantS_in (k t : Fin 4) (r a : FVec F B8x128 .f32) (s : St F) : SameIn (quantS k t r a s) s := by
  unfold quantS; exact ⟨Eq.refl _, Eq.refl _, Eq.refl _, Eq.refl _⟩

theorem quantAllS_in (k : Fin 4) (r a : Four (FVec F B8x128 .f32)) (s : St F) : SameIn (quantAllS k r a s) s :=
  (quantS_in _ _ _ _ _).trans ((quantS_in _ _ _ _ _).trans ((quantS_in _ _ _ _ _).trans (quantS_in _ _ _ _ _)))

theorem pass3StepS_in (k : Fin 4) (j : Fin 64) (f : FVec F B32x128 .f32) (s : St F) : SameIn (pass3StepS k j f s) s := by
  unfold pass3StepS; exact ⟨Eq.refl _, Eq.refl _, Eq.refl _, Eq.refl _⟩

theorem startS_in (s : St F) : SameIn (startS s) s := by unfold startS; exact ⟨Eq.refl _, Eq.refl _, Eq.refl _, Eq.refl _⟩
theorem readDevS_in (a : Nat) (b : Fin 16) (s : St F) : SameIn (readDevS a b s) s := by unfold readDevS; exact ⟨Eq.refl _, Eq.refl _, Eq.refl _, Eq.refl _⟩
theorem writeScaleS_in (a : Nat) (b : Fin 16) (s : St F) : SameIn (writeScaleS a b s) s := by unfold writeScaleS; exact ⟨Eq.refl _, Eq.refl _, Eq.refl _, Eq.refl _⟩
theorem finishS_in (s : St F) : SameIn (finishS s) s := by unfold finishS; exact ⟨Eq.refl _, Eq.refl _, Eq.refl _, Eq.refl _⟩

theorem pass1S_in (k : Fin 4) (r : Four (FVec F B8x128 .f32)) : ∀ (n j : Nat) (h : j + n = 32) (s : St F), SameIn (pass1S k r n j h s) s
  | 0, _, _, _ => .rfl
  | n + 1, j, h, s => (pass1S_in k r n (j + 1) (by omega) _).trans (pass1StepS_in k ⟨j, by omega⟩ r s)

theorem pass2S_in (c : Four (FVec F B8x128 .f32)) : ∀ (n j : Nat) (h : j + n = 64) (s : St F), SameIn (pass2S c n j h s) s
  | 0, _, _, _ => .rfl
  | n + 1, j, h, s => (pass2S_in c n (j + 1) (by omega) (pass2StepS ⟨j, by omega⟩ c s)).trans (pass2StepS_in _ _ _)

theorem pass3S_in (k : Fin 4) (f : FVec F B32x128 .f32) : ∀ (n j : Nat) (h : j + n = 64) (s : St F), SameIn (pass3S k f n j h s) s
  | 0, _, _, _ => .rfl
  | n + 1, j, h, s => (pass3S_in k f n (j + 1) (by omega) (pass3StepS k ⟨j, by omega⟩ f s)).trans (pass3StepS_in _ _ _ _)

theorem tripS_in (k : Fin 4) (s : St F) : SameIn (tripS k s) s :=
  (pass3S_in k _ 64 0 _ _).trans ((quantAllS_in _ _ _ _).trans ((pass2S_in _ 64 0 _ _).trans (pass1S_in k _ 32 0 _ s)))

theorem tripsS_in : ∀ (n : Nat) (s : St F), SameIn (tripsS n s) s
  | 0, s => .rfl
  | n + 1, s => by
      rw [tripsS]
      split
      · exact (tripS_in _ _).trans (tripsS_in n s)
      · exact tripsS_in n s

theorem bodyS_inputs (a : Nat) (b : Fin 16) (s : St F) : SameIn (bodyS a b s) s := by
  have h1 : ∀ s : St F, SameIn (if atPoint a b.val 4#32 15#32 = 1#1 then finishS s else s) s := fun s => by
    split
    · exact finishS_in s
    · exact .rfl
  have h0 : ∀ s : St F, SameIn (if atPoint a b.val 0#32 0#32 = 1#1 then startS s else s) s := fun s => by
    split
    · exact startS_in s
    · exact .rfl
  exact (h1 _).trans ((writeScaleS_in _ _ _).trans ((tripsS_in 4 _).trans ((readDevS_in _ _ _).trans (h0 s))))

/-! ## The runs -/

variable {nD : Nat} {τ : Topo} {sig : RefSig} {Λ : Labels} {U : Type} [URA U]

local notation "𝕄" => MT nD τ sig Unit (Elt F) ℕ U ℕ

variable (A : All sig) (defs₀ : Defs nD τ sig (Elt F) Λ) (𝒱₀ : Variants) (c : Dev nD) (E : Set ℕ)
variable {Q : sProp (MT nD τ sig Unit (Elt F) ℕ U ℕ)}

theorem wp_half (t : Fin 4) (j : Fin 32) (h : Fin 2) (r : FVec F B8x128 .f32) (dy x : FVec F B8x256 .f32) (q : FVec F B8x128 .f32)
    (K : FVec F B8x128 .f32 → FVec F B8x128 .f32 → P nD τ sig F Λ) (s : St F)
    (hK : Own A c (halfS t j h r dy x s) ⊢ W defs₀ 𝒱₀ c E (K (halfC h r dy x (gcAt j h s) q) (halfD h r dy x)) Q) :
    Own A c s ⊢ W defs₀ 𝒱₀ c E (half A.R t j h r dy x q K) Q := by
  unfold half
  refine load_in _ _ _ _ _ _ _ _ (own_gcol A c s _) ?_
  refine load_in _ _ _ _ _ _ _ _ (own_w A c s _) ?_
  refine store_in _ _ _ _ _ _ _ _ _ _ (own_w A c s _) ?_
  refine load_in _ _ _ _ _ _ _ _ (own_g A c _ _) ?_
  exact store_in _ _ _ _ _ _ _ _ _ _ (own_g A c _ _) hK

theorem wp_slab (k t : Fin 4) (j : Fin 32) (r q : FVec F B8x128 .f32)
    (K : FVec F B8x128 .f32 → FVec F B8x128 .f32 → FVec F B8x128 .f32 → P nD τ sig F Λ) (s : St F)
    (hK : Own A c (slabS k t j r s) ⊢ W defs₀ 𝒱₀ c E (K (slabC k t j r q s) (slabD k t j 0 r s) (slabD k t j 1 r s)) Q) :
    Own A c s ⊢ W defs₀ 𝒱₀ c E (slab A.R k t j r q K) Q := by
  unfold slab
  refine load_in _ _ _ _ _ _ _ _ (own_dy A c s _) ?_
  refine load_in _ _ _ _ _ _ _ _ (own_x A c s _) ?_
  refine wp_half A defs₀ 𝒱₀ c E _ _ _ _ _ _ _ _ _ ?_
  exact wp_half A defs₀ 𝒱₀ c E _ _ _ _ _ _ _ _ _ hK

theorem wp_addCols (j : Fin 32) (h : Fin 2) (d0 d1 d2 d3 : FVec F B8x128 .f32) (K : P nD τ sig F Λ) (s : St F)
    (hK : Own A c (addColsS j h d0 d1 d2 d3 s) ⊢ W defs₀ 𝒱₀ c E K Q) :
    Own A c s ⊢ W defs₀ 𝒱₀ c E (addCols A.R j h d0 d1 d2 d3 K) Q := by
  unfold addCols
  refine load_in _ _ _ _ _ _ _ _ (own_acc A c s _) ?_
  refine load_in _ _ _ _ _ _ _ _ (own_acc A c s _) ?_
  exact store_in _ _ _ _ _ _ _ _ _ _ (own_acc A c _ _) hK

theorem wp_pass1Step (k : Fin 4) (j : Fin 32) (r q : Four (FVec F B8x128 .f32))
    (K : FVec F B8x128 .f32 → FVec F B8x128 .f32 → FVec F B8x128 .f32 → FVec F B8x128 .f32 → P nD τ sig F Λ) (s : St F)
    (hK : Own A c (pass1StepS k j r s) ⊢ W defs₀ 𝒱₀ c E
      (K (pass1StepC k j r q s).a0 (pass1StepC k j r q s).a1 (pass1StepC k j r q s).a2 (pass1StepC k j r q s).a3) Q) :
    Own A c s ⊢ W defs₀ 𝒱₀ c E (pass1Step A.R k j r.a0 r.a1 r.a2 r.a3 q.a0 q.a1 q.a2 q.a3 K) Q := by
  unfold pass1Step
  refine wp_slab A defs₀ 𝒱₀ c E _ _ _ _ _ _ _ ?_
  refine wp_slab A defs₀ 𝒱₀ c E _ _ _ _ _ _ _ ?_
  refine wp_slab A defs₀ 𝒱₀ c E _ _ _ _ _ _ _ ?_
  refine wp_slab A defs₀ 𝒱₀ c E _ _ _ _ _ _ _ ?_
  refine wp_addCols A defs₀ 𝒱₀ c E _ _ _ _ _ _ _ _ ?_
  exact wp_addCols A defs₀ 𝒱₀ c E _ _ _ _ _ _ _ _ hK

theorem wp_pass1 (k : Fin 4) (r : Four (FVec F B8x128 .f32))
    (K : FVec F B8x128 .f32 → FVec F B8x128 .f32 → FVec F B8x128 .f32 → FVec F B8x128 .f32 → P nD τ sig F Λ) :
    ∀ (n j : Nat) (h : j + n = 32) (q : Four (FVec F B8x128 .f32)) (s : St F)
      (_ : Own A c (pass1S k r n j h s) ⊢ W defs₀ 𝒱₀ c E
        (K (pass1C k r n j h s q).a0 (pass1C k r n j h s q).a1 (pass1C k r n j h s q).a2 (pass1C k r n j h s q).a3) Q),
      Own A c s ⊢ W defs₀ 𝒱₀ c E (pass1 A.R k r.a0 r.a1 r.a2 r.a3 K n j h q.a0 q.a1 q.a2 q.a3) Q
  | 0, _, _, _, _, hK => hK
  | n + 1, j, h, q, s, hK => by
      rw [pass1]
      exact wp_pass1Step A defs₀ 𝒱₀ c E k _ r q _ s (wp_pass1 k r K n (j + 1) (by omega) (pass1StepC k ⟨j, by omega⟩ r q s) _ hK)

theorem wp_sub2 (t : Fin 4) (j : Fin 64) (q a : FVec F B8x128 .f32) (K : FVec F B8x128 .f32 → P nD τ sig F Λ) (s : St F)
    (hK : Own A c (sub2S t j q s) ⊢ W defs₀ 𝒱₀ c E (K (sub2A t j q a s)) Q) :
    Own A c s ⊢ W defs₀ 𝒱₀ c E (sub2 A.R t j q a K) Q := by
  unfold sub2
  refine load_in _ _ _ _ _ _ _ _ (own_g A c s _) ?_
  refine load_in _ _ _ _ _ _ _ _ (own_w A c s _) ?_
  refine load_in _ _ _ _ _ _ _ _ (own_g A c s _) ?_
  exact store_in _ _ _ _ _ _ _ _ _ _ (own_g A c _ _) hK

theorem wp_pass2Step (j : Fin 64) (q a : Four (FVec F B8x128 .f32))
    (K : FVec F B8x128 .f32 → FVec F B8x128 .f32 → FVec F B8x128 .f32 → FVec F B8x128 .f32 → P nD τ sig F Λ) (s : St F)
    (hK : Own A c (pass2StepS j q s) ⊢ W defs₀ 𝒱₀ c E
      (K (pass2StepA j q a s).a0 (pass2StepA j q a s).a1 (pass2StepA j q a s).a2 (pass2StepA j q a s).a3) Q) :
    Own A c s ⊢ W defs₀ 𝒱₀ c E (pass2Step A.R j q.a0 q.a1 q.a2 q.a3 a.a0 a.a1 a.a2 a.a3 K) Q := by
  unfold pass2Step
  refine wp_sub2 A defs₀ 𝒱₀ c E _ _ _ _ _ _ ?_
  refine wp_sub2 A defs₀ 𝒱₀ c E _ _ _ _ _ _ ?_
  refine wp_sub2 A defs₀ 𝒱₀ c E _ _ _ _ _ _ ?_
  exact wp_sub2 A defs₀ 𝒱₀ c E _ _ _ _ _ _ hK

theorem wp_pass2 (q : Four (FVec F B8x128 .f32))
    (K : FVec F B8x128 .f32 → FVec F B8x128 .f32 → FVec F B8x128 .f32 → FVec F B8x128 .f32 → P nD τ sig F Λ) :
    ∀ (n j : Nat) (h : j + n = 64) (a : Four (FVec F B8x128 .f32)) (s : St F)
      (_ : Own A c (pass2S q n j h s) ⊢ W defs₀ 𝒱₀ c E
        (K (pass2A q n j h s a).a0 (pass2A q n j h s a).a1 (pass2A q n j h s a).a2 (pass2A q n j h s a).a3) Q),
      Own A c s ⊢ W defs₀ 𝒱₀ c E (pass2 A.R q.a0 q.a1 q.a2 q.a3 K n j h a.a0 a.a1 a.a2 a.a3) Q
  | 0, _, _, _, _, hK => hK
  | n + 1, j, h, a, s, hK => by
      rw [pass2]
      exact wp_pass2Step A defs₀ 𝒱₀ c E _ q a _ s (wp_pass2 q K n (j + 1) (by omega) (pass2StepA ⟨j, by omega⟩ q a s) _ hK)

theorem wp_quant (k t : Fin 4) (r a : FVec F B8x128 .f32) (K : FVec F B8x128 .f32 → P nD τ sig F Λ) (s : St F)
    (hK : Own A c (quantS k t r a s) ⊢ W defs₀ 𝒱₀ c E (K (factor r a)) Q) :
    Own A c s ⊢ W defs₀ 𝒱₀ c E (quant A.R k t r a K) Q := by
  unfold quant
  refine load_in _ _ _ _ _ _ _ _ (own_scol A c s _) ?_
  exact store_in _ _ _ _ _ _ _ _ _ _ (own_scol A c _ _) hK

theorem wp_pass3 (k : Fin 4) (f : FVec F B32x128 .f32) (K : P nD τ sig F Λ) :
    ∀ (n j : Nat) (h : j + n = 64) (s : St F) (_ : Own A c (pass3S k f n j h s) ⊢ W defs₀ 𝒱₀ c E K Q),
      Own A c s ⊢ W defs₀ 𝒱₀ c E (pass3 A.R k f K n j h) Q
  | 0, _, _, _, hK => hK
  | n + 1, j, h, s, hK => by
      rw [pass3]
      unfold pass3Step
      refine load_in _ _ _ _ _ _ _ _ (own_g A c s _) ?_
      refine load_in _ _ _ _ _ _ _ _ (own_codes A c s _) ?_
      exact store_in _ _ _ _ _ _ _ _ _ _ (own_codes A c _ _) (wp_pass3 k f K n (j + 1) (by omega) _ hK)

attribute [local irreducible] pass1 pass2 pass3 pass1S pass1C pass2S pass2A pass3S

theorem wp_trip (k : Fin 4) (s : St F) (hK : Own A c (tripS k s) ⊢ Q) :
    Own A c s ⊢ W defs₀ 𝒱₀ c E (trip (F := F) A.R k) Q := by
  unfold trip
  refine load_in _ _ _ _ _ _ _ _ (own_rcol A c s _) ?_
  refine load_in _ _ _ _ _ _ _ _ (own_rcol A c s _) ?_
  refine load_in _ _ _ _ _ _ _ _ (own_rcol A c s _) ?_
  refine load_in _ _ _ _ _ _ _ _ (own_rcol A c s _) ?_
  refine wp_pass1 A defs₀ 𝒱₀ c E k (devs k s) _ 32 0 rfl zeros s ?_
  refine wp_pass2 A defs₀ 𝒱₀ c E (means k s) _ 64 0 rfl zeros (after1 k s) ?_
  refine wp_quant A defs₀ 𝒱₀ c E k 0 _ _ _ _ ?_
  refine wp_quant A defs₀ 𝒱₀ c E k 1 _ _ _ _ ?_
  refine wp_quant A defs₀ 𝒱₀ c E k 2 _ _ _ _ ?_
  refine wp_quant A defs₀ 𝒱₀ c E k 3 _ _ _ _ ?_
  exact wp_pass3 A defs₀ 𝒱₀ c E k _ _ 64 0 rfl _ (hK.trans fupd_intro)

theorem wp_finish (s : St F) (hK : Own A c (finishS s) ⊢ Q) : Own A c s ⊢ W defs₀ 𝒱₀ c E (finish (F := F) A) Q := by
  unfold finish
  refine load_in _ _ _ _ _ _ _ _ (own_acc A c s _) ?_
  refine load_in _ _ _ _ _ _ _ _ (own_dgamma A c s _) ?_
  exact store_in _ _ _ _ _ _ _ _ _ _ (own_dgamma A c _ _) (hK.trans fupd_intro)

theorem wp_writeScale (a : Nat) (b : Fin 16) (K : P nD τ sig F Λ) (s : St F)
    (hK : Own A c (writeScaleS a b s) ⊢ W defs₀ 𝒱₀ c E K Q) : Own A c s ⊢ W defs₀ 𝒱₀ c E (writeScale A a b K) Q := by
  unfold writeScale
  refine load_in _ _ _ _ _ _ _ _ (own_scol A c s _) ?_
  refine load_in _ _ _ _ _ _ _ _ (own_scale A c s _) ?_
  refine load_in _ _ _ _ _ _ _ _ (own_scale A c s _) ?_
  exact store_in _ _ _ _ _ _ _ _ _ _ (own_scale A c _ _) hK

theorem wp_readDev (a : Nat) (b : Fin 16) (K : P nD τ sig F Λ) (s : St F)
    (hK : Own A c (readDevS a b s) ⊢ W defs₀ 𝒱₀ c E K Q) : Own A c s ⊢ W defs₀ 𝒱₀ c E (readDev A a b K) Q := by
  unfold readDev
  refine load_in _ _ _ _ _ _ _ _ (own_rstd A c s _) ?_
  refine load_in _ _ _ _ _ _ _ _ (own_rcol A c s _) ?_
  exact store_in _ _ _ _ _ _ _ _ _ _ (own_rcol A c _ _) hK

theorem wp_start (K : P nD τ sig F Λ) (s : St F)
    (hK : Own A c (startS s) ⊢ W defs₀ 𝒱₀ c E K Q) : Own A c s ⊢ W defs₀ 𝒱₀ c E (start A K) Q := by
  unfold start
  refine load_in _ _ _ _ _ _ _ _ (own_acc A c s _) ?_
  refine store_in _ _ _ _ _ _ _ _ _ _ (own_acc A c _ _) ?_
  refine load_in _ _ _ _ _ _ _ _ (own_scale A c _ _) ?_
  refine store_in _ _ _ _ _ _ _ _ _ _ (own_scale A c _ _) ?_
  refine load_in _ _ _ _ _ _ _ _ (own_gamma A c _ _) ?_
  refine load_in _ _ _ _ _ _ _ _ (own_gcol A c _ _) ?_
  exact store_in _ _ _ _ _ _ _ _ _ _ (own_gcol A c _ _) hK

theorem tripsS_succ (k : Fin 4) (s : St F) : tripsS (k.val + 1) s = tripS k (tripsS k.val s) := by
  rw [tripsS, dif_pos k.2]

theorem loop_trips : Scf.trips loop.lb loop.ub loop.st = 4 := by decide +kernel

/-- The loop, whatever follows it. -/
theorem wp_loop (K : P nD τ sig F Λ) (s : St F) (tr : Fin loop.trips → Unit → P nD τ sig F Λ)
    (htr : ∀ k u s, (Own A c s : sProp 𝕄) ⊢ W defs₀ 𝒱₀ c E (tr k u) (Own A c (tripS k s)))
    (hK : Own A c (tripsS 4 s) ⊢ W defs₀ 𝒱₀ c E K Q) :
    Own A c s ⊢ W defs₀ 𝒱₀ c E (Scf.Loop.for loop loop_ok () tr >>= fun _ => K) Q := by
  have hb : ∀ (k : Fin loop.trips) (u : Unit), (Own A c (tripsS k.val s) : sProp 𝕄) ⊢
      W defs₀ 𝒱₀ c E (tr k u) (Own A c (tripsS (k.val + 1) s)) := fun k u => by
    rw [tripsS_succ k s]
    exact htr k u _
  rw [← loop_trips] at hK
  iintro H
  iapply (Scf.wp_for_bind (frame (U := U)) (wpE defs₀ 𝒱₀ (c : Thread nD τ) none) E loop.lb loop.ub loop.st loop_ok () tr
    (fun n _ => Own A c (tripsS n s)) hb (kk := fun _ => K) (Q := fun _ => Q)) $$ [H]
  · rw [tripsS]
    iexact H
  iintro %acc H
  iapply hK $$ H

theorem wp_rest (a : Nat) (b : Fin 16) (s : St F)
    (hK : Own A c ((fun s => if atPoint a b.val 4#32 15#32 = 1#1 then finishS s else s) (writeScaleS a b <| tripsS 4 <| readDevS a b s)) ⊢ Q) :
    Own A c s ⊢ W defs₀ 𝒱₀ c E (rest (F := F) A a b fun k _ => trip A.R k) Q := by
  unfold rest
  refine wp_readDev A defs₀ 𝒱₀ c E a b _ s ?_
  refine wp_loop A defs₀ 𝒱₀ c E _ _ _ (fun k _ s => wp_trip A defs₀ 𝒱₀ c E k s (Laws.entails_refl _)) ?_
  refine wp_writeScale A defs₀ 𝒱₀ c E a b _ _ ?_
  generalize writeScaleS a b (tripsS 4 (readDevS a b s)) = u at hK ⊢
  by_cases h : atPoint a b.val 4#32 15#32 = 1#1
  · simp only [h, dite_true, if_true] at hK ⊢
    exact wp_finish A defs₀ 𝒱₀ c E u hK
  · simp only [h, dite_false, if_false] at hK ⊢
    exact hK.trans fupd_intro

/-- The body's run. -/
theorem wp_body (a : Nat) (b : Fin 16) (s : St F) (hK : Own A c (bodyS a b s) ⊢ Q) :
    Own A c s ⊢ W defs₀ 𝒱₀ c E (body (F := F) A a b) Q := by
  unfold body bodyOf
  unfold bodyS at hK
  by_cases h : atPoint a b.val 0#32 0#32 = 1#1
  · simp only [h, dite_true, if_true] at hK ⊢
    exact wp_start A defs₀ 𝒱₀ c E _ s (wp_rest A defs₀ 𝒱₀ c E a b (startS s) hK)
  · simp only [h, dite_false, if_false] at hK ⊢
    exact wp_rest A defs₀ 𝒱₀ c E a b s hK

end Cert.Trip
-- ==== Proof.FrameKernel.lean ====
/-
  The kernel runs and leaves its arguments as they were: nothing is said here of what it leaves in its results.
-/
module

public import proofs.«01_k».proof.Proof.BodyKernel
public import proofs.«01_k».proof.Proof.Run
public import proofs.«01_k».proof.Proof.Gen.Kernel.Frame

@[expose] public section

set_option maxRecDepth 16384

noncomputable section

namespace Cert.Kernel.Hand

open Cert.Kernel Cert.Kernel.Gen Cert.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is called with at a point. -/
def bufs (t : Fin cfg0.N) : All sig :=
  ⟨⟨st0_0 t, st0_1 t, st0_5 t, Memref.whole cc0_scratch0, Memref.whole cc0_scratch1, Memref.whole cc0_scratch2, Memref.whole cc0_scratch3,
    Memref.whole cc0_scratch4, Memref.whole cc0_scratch5, hstage0_5 ((cfg0.slots t 5).cast nbuf0_5)⟩, st0_2 t, st0_3 t, st0_4 t, st0_6 t⟩

/-- The body table's row at a point is the short program. -/
theorem defs₀_row (t : Fin cfg0.N) :
    defs₀ (F := F) .tc cfg0.body (cfg0.bodyArgs t (cfg0.slots t)) = body (bufs t) ((grid0.coords t) 0).val ((grid0.coords t) 1) := by
  have h : defs₀ (F := F) .tc cfg0.body (cfg0.bodyArgs t (cfg0.slots t)) = bodyAt0 t := by
    unfold defs₀; rw [Defs.onTc_tc]
  rw [h]
  exact body_eq _ _ _ _ _ _ _ _ _ _ _ _ _ _ _ _ _ _ _ _ _ _ _ _ _ _ _

/-- The contents after the body at a point. -/
def stepS (t : Fin cfg0.N) (s : St F) : St F := bodyS ((grid0.coords t) 0).val ((grid0.coords t) 1) s

/-- The body at a point, from the buffers at some contents and anything else. -/
theorem body_run (c : Dev nD) (t : Fin cfg0.N) (s : St F) (Q : sProp 𝕄) :
    iprop(Own (bufs t) c s ∗ (Own (bufs t) c (stepS t s) -∗ Q)) ⊢
      wp frame (wpE (defs₀ (F := F)) Variants.none (c : Thread nD τ) none) Set.univ
        (defs₀ (F := F) .tc cfg0.body (cfg0.bodyArgs t (cfg0.slots t))) (fun _ => Q) := by
  rw [defs₀_row]
  iintro ⟨H, Hk⟩
  iapply wp_wand $$ [H]
  · iapply (wp_body (bufs t) (defs₀ (F := F)) Variants.none c Set.univ _ _ s (Laws.entails_refl _)) $$ H
  iintro %a H
  iapply Hk
  iexact H

/-- The results' windows, of which nothing is said. -/
def fgt : Fin 7 → Bool := ![false, false, false, false, true, true, true]

/-- The proof data: each input's block left in place, the scratch at any contents. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d))

theorem PhiA_eq (c : Dev nD) : (Pipeline.ΦA spec0 c : sProp 𝕄) =
    iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f) ∗ (∃ f, owns (c : Thread nD τ) (Memref.whole cc0_scratch5) fullShare f))
      ∗ ∃ r, prngReg c r) := by
  unfold Pipeline.ΦA
  rw [scopedRest0_eq]
  simp only [owns_whole]

theorem stepS_x (t : Fin cfg0.N) (s : St F) : (stepS t s).x = s.x ∧ (stepS t s).dy = s.dy ∧ (stepS t s).gamma = s.gamma ∧ (stepS t s).rstd = s.rstd :=
  bodyS_inputs _ _ s

theorem sound_body (c : Dev nD) (t : Fin cfg0.N) :
    bodyPre m c t ⊢ wp frame (wpE (defs₀ (F := F)) Variants.none (c : Thread nD τ) none) Set.univ
      (defs₀ (F := F) .tc cfg0.body (cfg0.bodyArgs t (cfg0.slots t))) (fun _ => bodyPost m c t) := by
  unfold bodyPre bodyPost
  simp only [before0_0, before0_1, before0_2, before0_3, after0_0, after0_1, after0_2, after0_3]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  iintro ⟨⟨⟨⟨%g, HA⟩, ⟨%w, HB⟩, ⟨%gc, HC⟩, ⟨%rc, HD⟩, ⟨%sc, HE⟩, ⟨%ac, HF⟩⟩, Hp⟩, Ho, ⟨%d0, H0⟩, ⟨%d1, H1⟩, ⟨%d2, H2⟩, ⟨%d3, H3⟩, ⟨%d4, H4⟩, ⟨%d5, H5⟩, ⟨%d6, H6⟩⟩
  iapply (body_run c t ⟨iblk m c 0 t, iblk m c 1 t, iblk m c 2 t, iblk m c 3 t, d4, d5, d6, g, w, gc, rc, sc, ac⟩ _)
  obtain ⟨e0, e1, e2, e3⟩ := stepS_x t (⟨iblk m c 0 t, iblk m c 1 t, iblk m c 2 t, iblk m c 3 t, d4, d5, d6, g, w, gc, rc, sc, ac⟩ : St F)
  unfold Own bufs
  dsimp only
  rw [e0, e1, e2, e3]
  isplitl [HA HB HC HD HE HF H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HB]; · iexact HB
    isplitl [HC]; · iexact HC
    isplitl [HD]; · iexact HD
    isplitl [HE]; · iexact HE
    iexact HF
  iintro ⟨H0, H1, H2, H3, H4, H5, H6, HA, HB, HC, HD, HE, HF⟩
  isplitl [HA HB HC HD HE HF Hp]
  · isplitl [HA HB HC HD HE HF]
    · isplitl [HA]; · iexists _; iexact HA
      isplitl [HB]; · iexists _; iexact HB
      isplitl [HC]; · iexists _; iexact HC
      isplitl [HD]; · iexists _; iexact HD
      isplitl [HE]; · iexists _; iexact HE
      iexists _; iexact HF
    iexact Hp
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem body_obligation (c : Dev nD) :
    BodyObligation (dats (F := F) m 0 c) (defs₀ (F := F)) Variants.none () Set.univ fgt := fun t => by
  rw [bigSep_W0, bigSep_W0]
  exact sound_body m c t

set_option backward.isDefEq.respectTransparency.types false in
theorem run_main :
    θ_run defs (onTc (τ := τ) (main (F := F))) (s₀ m ρ)
      (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hΦ := fun _ _ => rfl) (hQ' := fun _ h => h)

/-- The run, the arguments unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (((congrFun (Pipeline.RDat.ArrAt_in ((dats m 0 c).toRForget fgt) 3 rfl _) _).mp ((h.1 c).1 3) : _ = _)).trans ((A_eq m c 3).trans (V_main_arg3 m c))⟩, h.2⟩)
    (run_main m ρ)

end Cert.Kernel.Hand

end
-- ==== Proof.TripKernelIdeal.lean ====
/-
  The printed loop body of the kernel is the short program of `Trip`: both unfold to the same operations.
-/
module

public import proofs.«01_k».proof.Proof.Trip
public import proofs.«01_k».proof.Proof.Gen.KernelIdeal.Skeleton

@[expose] public section

set_option maxRecDepth 65536
set_option maxHeartbeats 4000000

noncomputable section

namespace Cert.KernelIdeal.Hand

open Cert.KernelIdeal Cert.KernelIdeal.Gen Cert.Trip
open Idealize.ShloMosaic Idealize.SL.Sem

variable {F : FTy → Type} [FloatOps F]

/-- One trip of the printed loop. -/
theorem trip_eq (i : grid0.Coords) (arg2 : Memref sig .tc .vmem S128x8192 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S5x2048 .f32) (harg5 : arg5.IsWhole) (arg6 : Memref sig .tc .vmem S1x8192 .f32) (harg6 : arg6.IsWhole) (arg7 : Memref sig .tc .vmem S128x8192 .fp8e5m2) (harg7 : arg7.IsWhole) (arg8 : Memref sig .tc .vmem S5x2048 .f32) (harg8 : arg8.IsWhole) (arg9 : Memref sig .tc .vmem S32x8192 .f32) (harg9 : arg9.IsWhole) (arg10 : Memref sig .tc .vmem S32x8192 .f32) (harg10 : arg10.IsWhole) (arg11 : Memref sig .tc .vmem S8x8192 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x8192 .f32) (harg14 : arg14.IsWhole) (k : Fin k0_t1_loop.trips) :
    k0_t1_body (F := F) i arg2 harg2 arg3 harg3 arg4 harg4 arg5 harg5 arg6 harg6 arg7 harg7 arg8 harg8 arg9 harg9 arg10 harg10 arg11 harg11 arg12 harg12 arg13 harg13 arg14 harg14 k () =
      trip ⟨arg2, arg3, arg7, arg9, arg10, arg11, arg12, arg13, arg14, harg7⟩ k := rfl

end Cert.KernelIdeal.Hand
-- ==== Proof.BodyKernelIdeal.lean ====
/-
  The printed kernel body at a grid point is the short program of `Whole`.
-/
module

public import proofs.«01_k».proof.Proof.Whole
public import proofs.«01_k».proof.Proof.TripKernelIdeal

@[expose] public section

set_option maxRecDepth 65536
set_option maxHeartbeats 4000000

noncomputable section

namespace Cert.KernelIdeal.Hand

open Cert.KernelIdeal Cert.KernelIdeal.Gen Cert.Trip
open Idealize.ShloMosaic Idealize.SL.Sem

variable {F : FTy → Type} [FloatOps F]

/-- Everything around the loop agrees, whatever the loop runs. -/
theorem bodyOf_eq (i : grid0.Coords) (arg2 : Memref sig .tc .vmem S128x8192 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S5x2048 .f32) (harg5 : arg5.IsWhole) (arg6 : Memref sig .tc .vmem S1x8192 .f32) (harg6 : arg6.IsWhole) (arg7 : Memref sig .tc .vmem S128x8192 .fp8e5m2) (harg7 : arg7.IsWhole) (arg8 : Memref sig .tc .vmem S5x2048 .f32) (harg8 : arg8.IsWhole) (arg9 : Memref sig .tc .vmem S32x8192 .f32) (harg9 : arg9.IsWhole) (arg10 : Memref sig .tc .vmem S32x8192 .f32) (harg10 : arg10.IsWhole) (arg11 : Memref sig .tc .vmem S8x8192 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x8192 .f32) (harg14 : arg14.IsWhole) :
    cc0_rmsnorm_bwd_e5m2 (F := F) i arg2 harg2 arg3 harg3 arg4 harg4 arg5 harg5 arg6 harg6 arg7 harg7 arg8 harg8 arg9 harg9 arg10 harg10 arg11 harg11 arg12 harg12 arg13 harg13 arg14 harg14 =
      bodyOf ⟨⟨arg2, arg3, arg7, arg9, arg10, arg11, arg12, arg13, arg14, harg7⟩, arg4, arg5, arg6, arg8⟩ (i 0).val (i 1)
        (k0_t1_body (F := F) i arg2 harg2 arg3 harg3 arg4 harg4 arg5 harg5 arg6 harg6 arg7 harg7 arg8 harg8 arg9 harg9 arg10 harg10 arg11 harg11 arg12 harg12 arg13 harg13 arg14 harg14) := by
  rw [cc0_rmsnorm_bwd_e5m2_eq_skeleton]
  unfold cc0_rmsnorm_bwd_e5m2_skel
  rw [k0_part234_eq_skeleton]
  unfold k0_part234_skel Trip.bodyOf Trip.rest
  by_cases h1 : atPoint (i 0).val (i 1).val 0#32 0#32 = 1#1 <;>
    by_cases h2 : atPoint (i 0).val (i 1).val 4#32 15#32 = 1#1 <;>
    [have e2 : k0_cond2 i = 1#1 := h2; have e2 : ¬ k0_cond2 i = 1#1 := h2; have e2 : k0_cond2 i = 1#1 := h2; have e2 : ¬ k0_cond2 i = 1#1 := h2] <;>
    have e1 := h1 <;> unfold atPoint at e1 <;>
    simp only [h1, e1, h2, e2, dite_true, dite_false, bind_assoc]

  all_goals rfl

/-- The body of the printed kernel. -/
theorem body_eq (i : grid0.Coords) (arg2 : Memref sig .tc .vmem S128x8192 .bf16) (harg2 : arg2.IsWhole) (arg3 : Memref sig .tc .vmem S128x8192 .bf16) (harg3 : arg3.IsWhole) (arg4 : Memref sig .tc .vmem S1x8192 .f32) (harg4 : arg4.IsWhole) (arg5 : Memref sig .tc .vmem S5x2048 .f32) (harg5 : arg5.IsWhole) (arg6 : Memref sig .tc .vmem S1x8192 .f32) (harg6 : arg6.IsWhole) (arg7 : Memref sig .tc .vmem S128x8192 .fp8e5m2) (harg7 : arg7.IsWhole) (arg8 : Memref sig .tc .vmem S5x2048 .f32) (harg8 : arg8.IsWhole) (arg9 : Memref sig .tc .vmem S32x8192 .f32) (harg9 : arg9.IsWhole) (arg10 : Memref sig .tc .vmem S32x8192 .f32) (harg10 : arg10.IsWhole) (arg11 : Memref sig .tc .vmem S8x8192 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x8192 .f32) (harg14 : arg14.IsWhole) :
    cc0_rmsnorm_bwd_e5m2 (F := F) i arg2 harg2 arg3 harg3 arg4 harg4 arg5 harg5 arg6 harg6 arg7 harg7 arg8 harg8 arg9 harg9 arg10 harg10 arg11 harg11 arg12 harg12 arg13 harg13 arg14 harg14 =
      body ⟨⟨arg2, arg3, arg7, arg9, arg10, arg11, arg12, arg13, arg14, harg7⟩, arg4, arg5, arg6, arg8⟩ (i 0).val (i 1) :=
  (bodyOf_eq i arg2 harg2 arg3 harg3 arg4 harg4 arg5 harg5 arg6 harg6 arg7 harg7 arg8 harg8 arg9 harg9 arg10 harg10 arg11 harg11 arg12 harg12 arg13 harg13 arg14 harg14).trans
    (congrArg _ (funext fun k => funext fun _ =>
      trip_eq i arg2 harg2 arg3 harg3 arg4 harg4 arg5 harg5 arg6 harg6 arg7 harg7 arg8 harg8 arg9 harg9 arg10 harg10 arg11 harg11 arg12 harg12 arg13 harg13 arg14 harg14 k))

end Cert.KernelIdeal.Hand
-- ==== Proof.FrameKernelIdeal.lean ====
/-
  The kernel runs and leaves its arguments as they were: nothing is said here of what it leaves in its results.
-/
module

public import proofs.«01_k».proof.Proof.BodyKernelIdeal
public import proofs.«01_k».proof.Proof.Run
public import proofs.«01_k».proof.Proof.Gen.KernelIdeal.Frame

@[expose] public section

set_option maxRecDepth 16384

noncomputable section

namespace Cert.KernelIdeal.Hand

open Cert.KernelIdeal Cert.KernelIdeal.Gen Cert.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is called with at a point. -/
def bufs (t : Fin cfg0.N) : All sig :=
  ⟨⟨st0_0 t, st0_1 t, st0_5 t, Memref.whole cc0_scratch0, Memref.whole cc0_scratch1, Memref.whole cc0_scratch2, Memref.whole cc0_scratch3,
    Memref.whole cc0_scratch4, Memref.whole cc0_scratch5, hstage0_5 ((cfg0.slots t 5).cast nbuf0_5)⟩, st0_2 t, st0_3 t, st0_4 t, st0_6 t⟩

/-- The body table's row at a point is the short program. -/
theorem defs₀_row (t : Fin cfg0.N) :
    defs₀ (F := F) .tc cfg0.body (cfg0.bodyArgs t (cfg0.slots t)) = body (bufs t) ((grid0.coords t) 0).val ((grid0.coords t) 1) := by
  have h : defs₀ (F := F) .tc cfg0.body (cfg0.bodyArgs t (cfg0.slots t)) = bodyAt0 t := by
    unfold defs₀; rw [Defs.onTc_tc]
  rw [h]
  exact body_eq _ _ _ _ _ _ _ _ _ _ _ _ _ _ _ _ _ _ _ _ _ _ _ _ _ _ _

/-- The contents after the body at a point. -/
def stepS (t : Fin cfg0.N) (s : St F) : St F := bodyS ((grid0.coords t) 0).val ((grid0.coords t) 1) s

/-- The body at a point, from the buffers at some contents and anything else. -/
theorem body_run (c : Dev nD) (t : Fin cfg0.N) (s : St F) (Q : sProp 𝕄) :
    iprop(Own (bufs t) c s ∗ (Own (bufs t) c (stepS t s) -∗ Q)) ⊢
      wp frame (wpE (defs₀ (F := F)) Variants.none (c : Thread nD τ) none) Set.univ
        (defs₀ (F := F) .tc cfg0.body (cfg0.bodyArgs t (cfg0.slots t))) (fun _ => Q) := by
  rw [defs₀_row]
  iintro ⟨H, Hk⟩
  iapply wp_wand $$ [H]
  · iapply (wp_body (bufs t) (defs₀ (F := F)) Variants.none c Set.univ _ _ s (Laws.entails_refl _)) $$ H
  iintro %a H
  iapply Hk
  iexact H

/-- The results' windows, of which nothing is said. -/
def fgt : Fin 7 → Bool := ![false, false, false, false, true, true, true]

/-- The proof data: each input's block left in place, the scratch at any contents. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d))

theorem PhiA_eq (c : Dev nD) : (Pipeline.ΦA spec0 c : sProp 𝕄) =
    iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f) ∗ (∃ f, owns (c : Thread nD τ) (Memref.whole cc0_scratch5) fullShare f))
      ∗ ∃ r, prngReg c r) := by
  unfold Pipeline.ΦA
  rw [scopedRest0_eq]
  simp only [owns_whole]

theorem stepS_x (t : Fin cfg0.N) (s : St F) : (stepS t s).x = s.x ∧ (stepS t s).dy = s.dy ∧ (stepS t s).gamma = s.gamma ∧ (stepS t s).rstd = s.rstd :=
  bodyS_inputs _ _ s

theorem sound_body (c : Dev nD) (t : Fin cfg0.N) :
    bodyPre m c t ⊢ wp frame (wpE (defs₀ (F := F)) Variants.none (c : Thread nD τ) none) Set.univ
      (defs₀ (F := F) .tc cfg0.body (cfg0.bodyArgs t (cfg0.slots t))) (fun _ => bodyPost m c t) := by
  unfold bodyPre bodyPost
  simp only [before0_0, before0_1, before0_2, before0_3, after0_0, after0_1, after0_2, after0_3]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  iintro ⟨⟨⟨⟨%g, HA⟩, ⟨%w, HB⟩, ⟨%gc, HC⟩, ⟨%rc, HD⟩, ⟨%sc, HE⟩, ⟨%ac, HF⟩⟩, Hp⟩, Ho, ⟨%d0, H0⟩, ⟨%d1, H1⟩, ⟨%d2, H2⟩, ⟨%d3, H3⟩, ⟨%d4, H4⟩, ⟨%d5, H5⟩, ⟨%d6, H6⟩⟩
  iapply (body_run c t ⟨iblk m c 0 t, iblk m c 1 t, iblk m c 2 t, iblk m c 3 t, d4, d5, d6, g, w, gc, rc, sc, ac⟩ _)
  obtain ⟨e0, e1, e2, e3⟩ := stepS_x t (⟨iblk m c 0 t, iblk m c 1 t, iblk m c 2 t, iblk m c 3 t, d4, d5, d6, g, w, gc, rc, sc, ac⟩ : St F)
  unfold Own bufs
  dsimp only
  rw [e0, e1, e2, e3]
  isplitl [HA HB HC HD HE HF H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HB]; · iexact HB
    isplitl [HC]; · iexact HC
    isplitl [HD]; · iexact HD
    isplitl [HE]; · iexact HE
    iexact HF
  iintro ⟨H0, H1, H2, H3, H4, H5, H6, HA, HB, HC, HD, HE, HF⟩
  isplitl [HA HB HC HD HE HF Hp]
  · isplitl [HA HB HC HD HE HF]
    · isplitl [HA]; · iexists _; iexact HA
      isplitl [HB]; · iexists _; iexact HB
      isplitl [HC]; · iexists _; iexact HC
      isplitl [HD]; · iexists _; iexact HD
      isplitl [HE]; · iexists _; iexact HE
      iexists _; iexact HF
    iexact Hp
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem body_obligation (c : Dev nD) :
    BodyObligation (dats (F := F) m 0 c) (defs₀ (F := F)) Variants.none () Set.univ fgt := fun t => by
  rw [bigSep_W0, bigSep_W0]
  exact sound_body m c t

set_option backward.isDefEq.respectTransparency.types false in
theorem run_main :
    θ_run defs (onTc (τ := τ) (main (F := F))) (s₀ m ρ)
      (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hΦ := fun _ _ => rfl) (hQ' := fun _ h => h)

/-- The run, the arguments unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (((congrFun (Pipeline.RDat.ArrAt_in ((dats m 0 c).toRForget fgt) 3 rfl _) _).mp ((h.1 c).1 3) : _ = _)).trans ((A_eq m c 3).trans (V_main_arg3 m c))⟩, h.2⟩)
    (run_main m ρ)

end Cert.KernelIdeal.Hand

end
-- ==== Proof.Vals.lean ====
/-
  The values of the short program read at a row and a column, over the extended reals.
-/
module

public import proofs.«01_k».proof.Proof.Run
public import Idealize.ShloMosaic.Lib.Pointwise

@[expose] public section

noncomputable section

namespace Cert.Trip

open Idealize.ShloMosaic

theorem halfOf_at (h : Fin 2) (v : FVec Ideal B8x256 .f32) (p : Fin 8) (l : Fin 128) :
    halfOf h v (ix2 p l) = v (ix2 p ⟨128 * h.val + l.val, by omega⟩) := by
  unfold halfOf
  fin_cases h <;> pointwise

theorem widen_at (v : Vec Ideal B8x256 .bf16) (i : B8x256.Idx) : widen v i = v i := by
  unfold widen
  pointwise

theorem asStored_at (v : FVec Ideal B8x128 .f32) (i : B8x128.Idx) : asStored v i = v i := by
  unfold asStored
  pointwise

theorem mean_at (v : FVec Ideal B8x128 .f32) (p : Fin 8) (l : Fin 128) :
    mean v (ix2 p l) = (∑ k : Fin 128, v (ix2 p k)) * Ideal.ofBits .f32 0x39000000#32 := by
  unfold mean
  pointwise

theorem rowMax_at (v : FVec Ideal B8x128 .f32) (p : Fin 8) (l : Fin 128) :
    rowMax v (ix2 p l) = Finset.univ.fold max (Ideal.ofBits .f32 0xFF800000#32) fun k : Fin 128 => v (ix2 p k) := by
  unfold rowMax
  pointwise

theorem code_at (f v : FVec Ideal B32x128 .f32) (i : B32x128.Idx) :
    code f v i = min (Ideal.ofBits .f32 0x47600000#32) (max (Ideal.ofBits .f32 0xC7600000#32) (v i * f i)) := by
  unfold code
  pointwise

theorem stack_at (k0 k1 k2 k3 : FVec Ideal B8x128 .f32) (p : Fin 32) (l : Fin 128) :
    stack k0 k1 k2 k3 (ix2 p l) = if h : p.val < 8 then k0 (ix2 ⟨p.val, h⟩ l) else if h : p.val - 8 < 8 then k1 (ix2 ⟨p.val - 8, h⟩ l)
      else if h : p.val - 8 - 8 < 8 then k2 (ix2 ⟨p.val - 8 - 8, h⟩ l) else k3 (ix2 ⟨p.val - 8 - 8 - 8, by omega⟩ l) := by
  unfold stack
  pointwise

theorem spread_at (v : Vec Ideal B1x8192 .f32) (p : Fin 8) (c : Fin 8192) : spread v (ix2 p c) = v (ix2 0 c) := by
  unfold spread
  pointwise

theorem zeroAcc_at (i : B8x8192.Idx) : (zeroAcc : FVec Ideal B8x8192 .f32) i = Ideal.ofBits .f32 0#32 := by
  unfold zeroAcc
  pointwise

theorem total_at (v : Vec Ideal B8x8192 .f32) (z : Fin 1) (c : Fin 8192) : total v (ix2 z c) = ∑ k : Fin 8, v (ix2 k c) := by
  unfold total
  pointwise

theorem toCol_at (a : Nat) (v : Vec Ideal B5x128 .f32) (p : Fin 128) (l : Fin 128) :
    toCol a v (ix2 p l) = ∑ k : Fin 5, if isRow a (ix2 k p) = 1#1 then v (ix2 k p) else Ideal.ofBits .f32 0#32 := by
  unfold toCol
  pointwise
  rfl

theorem fromCol_at (a : Nat) (v : Vec Ideal B128x128 .f32) (old : Vec Ideal B5x128 .f32) (k : Fin 5) (l : Fin 128) :
    fromCol a v old (ix2 k l) = if isRow a (ix2 k l) = 1#1 then v (ix2 l 0) else old (ix2 k l) := by
  unfold fromCol
  pointwise
  rfl

theorem isRow_at (a : Nat) (k : Fin 5) (l : Fin 128) : isRow a (ix2 k l) = BitVec.ofBool (BitVec.ofNat 32 k.val == BitVec.ofNat 32 a) := by
  unfold isRow
  pointwise
  rfl

theorem ratio_at (m r : FVec Ideal B8x128 .f32) (i : B8x128.Idx) :
    ratio m r i = rowMax m i * max (r i) (-r i) * Ideal.ofBits .f32 0x37924925#32 := by
  unfold ratio
  pointwise
  rfl

theorem pow2_at (e : IVec B8x128 32) (i : B8x128.Idx) : (pow2 e : FVec Ideal B8x128 .f32) i = Ideal.ofBits .f32 ((e i + 127#32) <<< 23) := by
  unfold pow2
  pointwise
  rfl

theorem searchStep_at (q : FVec Ideal B8x128 .f32) (s d : BitVec 32) (n : IVec B8x128 32) (i : B8x128.Idx) :
    searchStep q s d n i = if Ideal.ofBits .f32 ((n i + d + 127#32) <<< 23) ≤ q i then n i + s else n i := by
  unfold searchStep
  pointwise
  rw [pow2_at]
  rfl

end Cert.Trip
-- ==== Proof.Grid2.lean ====
/-
  Arrays of rank two read at natural numbers, and the body's rectangles at natural numbers.
-/
module

public import proofs.«01_k».proof.Proof.Vals

@[expose] public section

noncomputable section

namespace Cert.Trip

open Idealize.ShloMosaic

/-- An array at row `p` and column `c`, zero outside. -/
def nd {n m : ℕ} (X : (⟨2, ![n, m]⟩ : Shape).Idx → EReal) (p c : ℕ) : EReal :=
  if h : p < n ∧ c < m then X (ix2 ⟨p, h.1⟩ ⟨c, h.2⟩) else 0

theorem nd_lt {n m : ℕ} (X : (⟨2, ![n, m]⟩ : Shape).Idx → EReal) {p c : ℕ} (hp : p < n) (hc : c < m) : nd X p c = X (ix2 ⟨p, hp⟩ ⟨c, hc⟩) := by
  unfold nd; rw [dif_pos ⟨hp, hc⟩]

theorem nd_fin {n m : ℕ} (X : (⟨2, ![n, m]⟩ : Shape).Idx → EReal) (p : Fin n) (c : Fin m) : X (ix2 p c) = nd X p.val c.val :=
  (nd_lt X p.2 c.2).symm

theorem eq_of_nd {n m : ℕ} {X Y : (⟨2, ![n, m]⟩ : Shape).Idx → EReal} (h : ∀ p c, p < n → c < m → nd X p c = nd Y p c) : X = Y := by
  funext i
  have e := h (i 0).val (i 1).val (i 0).2 (i 1).2
  rw [nd_lt X (i 0).2 (i 1).2, nd_lt Y (i 0).2 (i 1).2] at e
  have k : ix2 (n0 := n) (n1 := m) ⟨(i 0).val, (i 0).2⟩ ⟨(i 1).val, (i 1).2⟩ = i := (eq_ix2 i).symm
  rw [k] at e
  exact e

theorem nd_win {n m a b o0 o1 : ℕ} (inb : ∀ d, (![o0, o1] : Fin 2 → ℕ) d + (![a, b] : Fin 2 → ℕ) d ≤ (⟨2, ![n, m]⟩ : Shape).size d)
    (X : (⟨2, ![n, m]⟩ : Shape).Idx → EReal) {p c : ℕ} (hp : p < a) (hc : c < b) :
    nd (n := a) (m := b) (win (Rect.unit (s := ⟨2, ![n, m]⟩) ![o0, o1] ![a, b] inb) X) p c = nd X (o0 + p) (o1 + c) := by
  have h0 : o0 + a ≤ n := inb 0
  have h1 : o1 + b ≤ m := inb 1
  rw [nd_lt _ hp hc, nd_lt _ (by omega) (by omega)]
  unfold win
  congr 1
  funext d
  apply Fin.ext
  rw [Rect.emb_apply, Rect.off_unit, Rect.stride_unit]
  fin_cases d <;> simp

theorem nd_upd {n m a b o0 o1 : ℕ} (inb : ∀ d, (![o0, o1] : Fin 2 → ℕ) d + (![a, b] : Fin 2 → ℕ) d ≤ (⟨2, ![n, m]⟩ : Shape).size d)
    (w : (⟨2, ![a, b]⟩ : Shape).Idx → EReal) (X : (⟨2, ![n, m]⟩ : Shape).Idx → EReal) {p c : ℕ} (hp : p < n) (hc : c < m) :
    nd (upd (Rect.unit (s := ⟨2, ![n, m]⟩) ![o0, o1] ![a, b] inb) w X) p c =
      if o0 ≤ p ∧ p < o0 + a ∧ o1 ≤ c ∧ c < o1 + b then nd w (p - o0) (c - o1) else nd X p c := by
  split
  · rename_i h
    have hx : ix2 ⟨p, hp⟩ ⟨c, hc⟩ = (Rect.unit (s := ⟨2, ![n, m]⟩) ![o0, o1] ![a, b] inb).emb
        (ix2 (n0 := a) (n1 := b) ⟨p - o0, by omega⟩ ⟨c - o1, by omega⟩) := by
      funext d
      apply Fin.ext
      rw [Rect.emb_apply, Rect.off_unit, Rect.stride_unit]
      fin_cases d <;> simp <;> omega
    rw [nd_lt _ hp hc, hx, upd_emb, nd_lt _ (by omega) (by omega)]
  · rename_i h
    rw [nd_lt _ hp hc, nd_lt _ hp hc]
    refine upd_of_not _ _ _ _ ?_
    rintro ⟨y, hy⟩
    apply h
    have e0 : o0 + (y 0).val * 1 = p := by
      have := congrArg Fin.val (congrFun hy 0)
      rw [Rect.emb_apply, Rect.off_unit, Rect.stride_unit] at this
      simpa using this
    have e1 : o1 + (y 1).val * 1 = c := by
      have := congrArg Fin.val (congrFun hy 1)
      rw [Rect.emb_apply, Rect.off_unit, Rect.stride_unit] at this
      simpa using this
    have l0 : (y 0).val < a := (y 0).2
    have l1 : (y 1).val < b := (y 1).2
    omega

/-! The rectangles of the body. -/

theorem win_rX (k t : Fin 4) (j : Fin 32) (X : B128x8192.Idx → EReal) {p c : ℕ} (hp : p < 8) (hc : c < 256) :
    nd (n := 8) (m := 256) (win (rX k t j) X) p c = nd X (32 * k.val + 8 * t.val + p) (256 * j.val + c) := by
  rw [← row_eq]; exact nd_win _ X hp hc

theorem win_rR (k t : Fin 4) (X : B128x128.Idx → EReal) {p c : ℕ} (hp : p < 8) (hc : c < 128) :
    nd (n := 8) (m := 128) (win (rR k t) X) p c = nd X (32 * k.val + 8 * t.val + p) c := by
  rw [← row_eq]; exact (nd_win _ X hp hc).trans (by rw [Nat.zero_add])

theorem win_rG (j : Fin 32) (h : Fin 2) (X : B8x8192.Idx → EReal) {p c : ℕ} (hp : p < 8) (hc : c < 128) :
    nd (n := 8) (m := 128) (win (rG j h) X) p c = nd X p (256 * j.val + 128 * h.val + c) :=
  (nd_win _ X hp hc).trans (by rw [Nat.zero_add])

theorem win_rS2 (t : Fin 4) (j : Fin 64) (X : B32x8192.Idx → EReal) {p c : ℕ} (hp : p < 8) (hc : c < 128) :
    nd (n := 8) (m := 128) (win (rS2 t j) X) p c = nd X (8 * t.val + p) (128 * j.val + c) := nd_win _ X hp hc

theorem win_rS3 (j : Fin 64) (X : B32x8192.Idx → EReal) {p c : ℕ} (hp : p < 32) (hc : c < 128) :
    nd (n := 32) (m := 128) (win (rS3 j) X) p c = nd X p (128 * j.val + c) := (nd_win _ X hp hc).trans (by rw [Nat.zero_add])

theorem win_rB (b : Fin 16) (X : B5x2048.Idx → EReal) {p c : ℕ} (hp : p < 5) (hc : c < 128) :
    nd (n := 5) (m := 128) (win (rB b) X) p c = nd X p (128 * b.val + c) := by
  rw [← col_eq]; exact (nd_win _ X hp hc).trans (by rw [Nat.zero_add])

theorem win_rW (s0 s1 : ℕ) (X : (⟨2, ![s0, s1]⟩ : Shape).Idx → EReal) : win (rW s0 s1) X = X :=
  eq_of_nd (n := s0) (m := s1) fun p c hp hc => (nd_win _ X hp hc).trans (by rw [Nat.zero_add, Nat.zero_add])

theorem upd_rW (s0 s1 : ℕ) (w X : (⟨2, ![s0, s1]⟩ : Shape).Idx → EReal) : upd (rW s0 s1) w X = w :=
  eq_of_nd (n := s0) (m := s1) fun p c hp hc => (nd_upd _ w X hp hc).trans (by rw [if_pos (by omega), Nat.sub_zero, Nat.sub_zero])

theorem upd_rS1 (t : Fin 4) (j : Fin 32) (h : Fin 2) (w : B8x128.Idx → EReal) (X : B32x8192.Idx → EReal) {p c : ℕ} (hp : p < 32) (hc : c < 8192) :
    nd (upd (rS1 t j h) w X) p c = if 8 * t.val ≤ p ∧ p < 8 * t.val + 8 ∧ 256 * j.val + 128 * h.val ≤ c ∧ c < 256 * j.val + 128 * h.val + 128
      then nd w (p - 8 * t.val) (c - (256 * j.val + 128 * h.val)) else nd X p c := nd_upd _ w X hp hc

theorem upd_rG (j : Fin 32) (h : Fin 2) (w : B8x128.Idx → EReal) (X : B8x8192.Idx → EReal) {p c : ℕ} (hp : p < 8) (hc : c < 8192) :
    nd (upd (rG j h) w X) p c = if 256 * j.val + 128 * h.val ≤ c ∧ c < 256 * j.val + 128 * h.val + 128
      then nd w p (c - (256 * j.val + 128 * h.val)) else nd X p c :=
  (nd_upd _ w X hp hc).trans (by rw [Nat.sub_zero]; exact if_congr (by omega) rfl rfl)

theorem upd_rS2 (t : Fin 4) (j : Fin 64) (w : B8x128.Idx → EReal) (X : B32x8192.Idx → EReal) {p c : ℕ} (hp : p < 32) (hc : c < 8192) :
    nd (upd (rS2 t j) w X) p c = if 8 * t.val ≤ p ∧ p < 8 * t.val + 8 ∧ 128 * j.val ≤ c ∧ c < 128 * j.val + 128
      then nd w (p - 8 * t.val) (c - 128 * j.val) else nd X p c := nd_upd _ w X hp hc

theorem upd_rC (k : Fin 4) (j : Fin 64) (w : B32x128.Idx → EReal) (X : B128x8192.Idx → EReal) {p c : ℕ} (hp : p < 128) (hc : c < 8192) :
    nd (upd (rC k j) w X) p c = if 32 * k.val ≤ p ∧ p < 32 * k.val + 32 ∧ 128 * j.val ≤ c ∧ c < 128 * j.val + 128
      then nd w (p - 32 * k.val) (c - 128 * j.val) else nd X p c := by
  rw [← row0_eq]; exact nd_upd _ w X hp hc

theorem upd_rR (k t : Fin 4) (w : B8x128.Idx → EReal) (X : B128x128.Idx → EReal) {p c : ℕ} (hp : p < 128) (hc : c < 128) :
    nd (upd (rR k t) w X) p c = if 32 * k.val + 8 * t.val ≤ p ∧ p < 32 * k.val + 8 * t.val + 8
      then nd w (p - (32 * k.val + 8 * t.val)) c else nd X p c := by
  rw [← row_eq]; exact (nd_upd _ w X hp hc).trans (by rw [Nat.sub_zero]; exact if_congr (by omega) rfl rfl)

theorem upd_rB (b : Fin 16) (w : B5x128.Idx → EReal) (X : B5x2048.Idx → EReal) {p c : ℕ} (hp : p < 5) (hc : c < 2048) :
    nd (upd (rB b) w X) p c = if 128 * b.val ≤ c ∧ c < 128 * b.val + 128 then nd w p (c - 128 * b.val) else nd X p c := by
  rw [← col_eq]; exact (nd_upd _ w X hp hc).trans (by rw [Nat.sub_zero]; exact if_congr (by omega) rfl rfl)

/-! Elementwise operations. -/

theorem nd_mulf {n m : ℕ} (a b : FVec Ideal ⟨2, ![n, m]⟩ .f32) (p c : ℕ) : nd (mulf a b) p c = nd a p c * nd b p c := by
  unfold nd; split
  · rfl
  · rw [mul_zero]

theorem nd_addf {n m : ℕ} (a b : FVec Ideal ⟨2, ![n, m]⟩ .f32) (p c : ℕ) : nd (addf a b) p c = nd a p c + nd b p c := by
  unfold nd; split
  · rfl
  · rw [add_zero]

theorem nd_subf {n m : ℕ} (a b : FVec Ideal ⟨2, ![n, m]⟩ .f32) (p c : ℕ) : nd (subf a b) p c = nd a p c - nd b p c := by
  unfold nd; split
  · rfl
  · rw [sub_zero]

theorem nd_maximumf {n m : ℕ} (a b : FVec Ideal ⟨2, ![n, m]⟩ .f32) (p c : ℕ) : nd (maximumf a b) p c = max (nd a p c) (nd b p c) := by
  unfold nd; split
  · rfl
  · rw [max_self]

theorem nd_absf {n m : ℕ} (a : FVec Ideal ⟨2, ![n, m]⟩ .f32) (p c : ℕ) : nd (absf a) p c = max (nd a p c) (-nd a p c) := by
  unfold nd; split
  · rfl
  · rw [neg_zero, max_self]

theorem nd_halfOf (h : Fin 2) (v : FVec Ideal B8x256 .f32) {p l : ℕ} (hp : p < 8) (hl : l < 128) : nd (halfOf h v) p l = nd v p (128 * h.val + l) := by
  rw [nd_lt _ hp hl, halfOf_at, nd_lt _ hp (by have := h.2; omega)]

theorem nd_widen (v : Vec Ideal B8x256 .bf16) (p l : ℕ) : nd (widen v) p l = nd v p l := by
  have : widen v = v := funext (widen_at v)
  rw [this]

theorem asStored_eq (v : FVec Ideal B8x128 .f32) : asStored v = v := funext (asStored_at v)

theorem nd_zero (p l : ℕ) : nd (zero : FVec Ideal B8x128 .f32) p l = 0 := by
  unfold nd; split
  · unfold zero
    pointwise
  · rfl

theorem sum_fin (n : ℕ) (f : ℕ → EReal) : ∑ k : Fin n, f k.val = ∑ k ∈ Finset.range n, f k := Fin.sum_univ_eq_sum_range f n

theorem nd_mean (v : FVec Ideal B8x128 .f32) {p l : ℕ} (hp : p < 8) (hl : l < 128) :
    nd (mean v) p l = (∑ k ∈ Finset.range 128, nd v p k) * Ideal.ofBits .f32 0x39000000#32 := by
  rw [nd_lt _ hp hl, mean_at, ← sum_fin]
  congr 1
  exact Finset.sum_congr rfl fun k _ => nd_fin v _ k

theorem negInf : Ideal.ofBits .f32 0xFF800000#32 = ⊥ := by
  simp [Ideal.ofBits, Ideal.ieee]

theorem nd_rowMax (v : FVec Ideal B8x128 .f32) {p l : ℕ} (hp : p < 8) (hl : l < 128) :
    nd (rowMax v) p l = (Finset.range 128).sup fun k => nd v p k := by
  rw [nd_lt _ hp hl, rowMax_at, negInf]
  have h : (Finset.univ.fold max ⊥ fun k : Fin 128 => v (ix2 ⟨p, hp⟩ k)) = Finset.univ.sup fun k : Fin 128 => nd v p k.val := by
    simp only [← nd_fin v ⟨p, hp⟩]; rfl
  rw [h]
  apply le_antisymm
  · exact Finset.sup_le fun k _ => Finset.le_sup (f := fun k => nd v p k) (Finset.mem_range.mpr k.2)
  · exact Finset.sup_le fun k hk => Finset.le_sup (f := fun k : Fin 128 => nd v p k.val) (Finset.mem_univ ⟨k, Finset.mem_range.mp hk⟩)

end Cert.Trip
-- ==== Proof.Keep.lean ====
/-
  What each step of a trip leaves alone.
-/
module

public import proofs.«01_k».proof.Proof.Grid2

@[expose] public section

noncomputable section

namespace Cert.Trip

open Idealize.ShloMosaic

@[simp] theorem halfS_x (t : Fin 4) (j : Fin 32) (h : Fin 2) (r : FVec Ideal B8x128 .f32) (dy x : FVec Ideal B8x256 .f32) (s : St Ideal) : (halfS t j h r dy x s).x = s.x := rfl
@[simp] theorem halfS_dy (t : Fin 4) (j : Fin 32) (h : Fin 2) (r : FVec Ideal B8x128 .f32) (dy x : FVec Ideal B8x256 .f32) (s : St Ideal) : (halfS t j h r dy x s).dy = s.dy := rfl
@[simp] theorem halfS_gamma (t : Fin 4) (j : Fin 32) (h : Fin 2) (r : FVec Ideal B8x128 .f32) (dy x : FVec Ideal B8x256 .f32) (s : St Ideal) : (halfS t j h r dy x s).gamma = s.gamma := rfl
@[simp] theorem halfS_rstd (t : Fin 4) (j : Fin 32) (h : Fin 2) (r : FVec Ideal B8x128 .f32) (dy x : FVec Ideal B8x256 .f32) (s : St Ideal) : (halfS t j h r dy x s).rstd = s.rstd := rfl
@[simp] theorem halfS_dgamma (t : Fin 4) (j : Fin 32) (h : Fin 2) (r : FVec Ideal B8x128 .f32) (dy x : FVec Ideal B8x256 .f32) (s : St Ideal) : (halfS t j h r dy x s).dgamma = s.dgamma := rfl
@[simp] theorem halfS_codes (t : Fin 4) (j : Fin 32) (h : Fin 2) (r : FVec Ideal B8x128 .f32) (dy x : FVec Ideal B8x256 .f32) (s : St Ideal) : (halfS t j h r dy x s).codes = s.codes := rfl
@[simp] theorem halfS_scale (t : Fin 4) (j : Fin 32) (h : Fin 2) (r : FVec Ideal B8x128 .f32) (dy x : FVec Ideal B8x256 .f32) (s : St Ideal) : (halfS t j h r dy x s).scale = s.scale := rfl
@[simp] theorem halfS_gcol (t : Fin 4) (j : Fin 32) (h : Fin 2) (r : FVec Ideal B8x128 .f32) (dy x : FVec Ideal B8x256 .f32) (s : St Ideal) : (halfS t j h r dy x s).gcol = s.gcol := rfl
@[simp] theorem halfS_rcol (t : Fin 4) (j : Fin 32) (h : Fin 2) (r : FVec Ideal B8x128 .f32) (dy x : FVec Ideal B8x256 .f32) (s : St Ideal) : (halfS t j h r dy x s).rcol = s.rcol := rfl
@[simp] theorem halfS_scol (t : Fin 4) (j : Fin 32) (h : Fin 2) (r : FVec Ideal B8x128 .f32) (dy x : FVec Ideal B8x256 .f32) (s : St Ideal) : (halfS t j h r dy x s).scol = s.scol := rfl
@[simp] theorem halfS_acc (t : Fin 4) (j : Fin 32) (h : Fin 2) (r : FVec Ideal B8x128 .f32) (dy x : FVec Ideal B8x256 .f32) (s : St Ideal) : (halfS t j h r dy x s).acc = s.acc := rfl

@[simp] theorem addColsS_x (j : Fin 32) (h : Fin 2) (d0 d1 d2 d3 : FVec Ideal B8x128 .f32) (s : St Ideal) : (addColsS j h d0 d1 d2 d3 s).x = s.x := rfl
@[simp] theorem addColsS_dy (j : Fin 32) (h : Fin 2) (d0 d1 d2 d3 : FVec Ideal B8x128 .f32) (s : St Ideal) : (addColsS j h d0 d1 d2 d3 s).dy = s.dy := rfl
@[simp] theorem addColsS_gamma (j : Fin 32) (h : Fin 2) (d0 d1 d2 d3 : FVec Ideal B8x128 .f32) (s : St Ideal) : (addColsS j h d0 d1 d2 d3 s).gamma = s.gamma := rfl
@[simp] theorem addColsS_rstd (j : Fin 32) (h : Fin 2) (d0 d1 d2 d3 : FVec Ideal B8x128 .f32) (s : St Ideal) : (addColsS j h d0 d1 d2 d3 s).rstd = s.rstd := rfl
@[simp] theorem addColsS_dgamma (j : Fin 32) (h : Fin 2) (d0 d1 d2 d3 : FVec Ideal B8x128 .f32) (s : St Ideal) : (addColsS j h d0 d1 d2 d3 s).dgamma = s.dgamma := rfl
@[simp] theorem addColsS_codes (j : Fin 32) (h : Fin 2) (d0 d1 d2 d3 : FVec Ideal B8x128 .f32) (s : St Ideal) : (addColsS j h d0 d1 d2 d3 s).codes = s.codes := rfl
@[simp] theorem addColsS_scale (j : Fin 32) (h : Fin 2) (d0 d1 d2 d3 : FVec Ideal B8x128 .f32) (s : St Ideal) : (addColsS j h d0 d1 d2 d3 s).scale = s.scale := rfl
@[simp] theorem addColsS_g (j : Fin 32) (h : Fin 2) (d0 d1 d2 d3 : FVec Ideal B8x128 .f32) (s : St Ideal) : (addColsS j h d0 d1 d2 d3 s).g = s.g := rfl
@[simp] theorem addColsS_w (j : Fin 32) (h : Fin 2) (d0 d1 d2 d3 : FVec Ideal B8x128 .f32) (s : St Ideal) : (addColsS j h d0 d1 d2 d3 s).w = s.w := rfl
@[simp] theorem addColsS_gcol (j : Fin 32) (h : Fin 2) (d0 d1 d2 d3 : FVec Ideal B8x128 .f32) (s : St Ideal) : (addColsS j h d0 d1 d2 d3 s).gcol = s.gcol := rfl
@[simp] theorem addColsS_rcol (j : Fin 32) (h : Fin 2) (d0 d1 d2 d3 : FVec Ideal B8x128 .f32) (s : St Ideal) : (addColsS j h d0 d1 d2 d3 s).rcol = s.rcol := rfl
@[simp] theorem addColsS_scol (j : Fin 32) (h : Fin 2) (d0 d1 d2 d3 : FVec Ideal B8x128 .f32) (s : St Ideal) : (addColsS j h d0 d1 d2 d3 s).scol = s.scol := rfl

@[simp] theorem sub2S_x (t : Fin 4) (j : Fin 64) (c : FVec Ideal B8x128 .f32) (s : St Ideal) : (sub2S t j c s).x = s.x := rfl
@[simp] theorem sub2S_dy (t : Fin 4) (j : Fin 64) (c : FVec Ideal B8x128 .f32) (s : St Ideal) : (sub2S t j c s).dy = s.dy := rfl
@[simp] theorem sub2S_gamma (t : Fin 4) (j : Fin 64) (c : FVec Ideal B8x128 .f32) (s : St Ideal) : (sub2S t j c s).gamma = s.gamma := rfl
@[simp] theorem sub2S_rstd (t : Fin 4) (j : Fin 64) (c : FVec Ideal B8x128 .f32) (s : St Ideal) : (sub2S t j c s).rstd = s.rstd := rfl
@[simp] theorem sub2S_dgamma (t : Fin 4) (j : Fin 64) (c : FVec Ideal B8x128 .f32) (s : St Ideal) : (sub2S t j c s).dgamma = s.dgamma := rfl
@[simp] theorem sub2S_codes (t : Fin 4) (j : Fin 64) (c : FVec Ideal B8x128 .f32) (s : St Ideal) : (sub2S t j c s).codes = s.codes := rfl
@[simp] theorem sub2S_scale (t : Fin 4) (j : Fin 64) (c : FVec Ideal B8x128 .f32) (s : St Ideal) : (sub2S t j c s).scale = s.scale := rfl
@[simp] theorem sub2S_w (t : Fin 4) (j : Fin 64) (c : FVec Ideal B8x128 .f32) (s : St Ideal) : (sub2S t j c s).w = s.w := rfl
@[simp] theorem sub2S_gcol (t : Fin 4) (j : Fin 64) (c : FVec Ideal B8x128 .f32) (s : St Ideal) : (sub2S t j c s).gcol = s.gcol := rfl
@[simp] theorem sub2S_rcol (t : Fin 4) (j : Fin 64) (c : FVec Ideal B8x128 .f32) (s : St Ideal) : (sub2S t j c s).rcol = s.rcol := rfl
@[simp] theorem sub2S_scol (t : Fin 4) (j : Fin 64) (c : FVec Ideal B8x128 .f32) (s : St Ideal) : (sub2S t j c s).scol = s.scol := rfl
@[simp] theorem sub2S_acc (t : Fin 4) (j : Fin 64) (c : FVec Ideal B8x128 .f32) (s : St Ideal) : (sub2S t j c s).acc = s.acc := rfl

@[simp] theorem quantS_x (k t : Fin 4) (r a : FVec Ideal B8x128 .f32) (s : St Ideal) : (quantS k t r a s).x = s.x := rfl
@[simp] theorem quantS_dy (k t : Fin 4) (r a : FVec Ideal B8x128 .f32) (s : St Ideal) : (quantS k t r a s).dy = s.dy := rfl
@[simp] theorem quantS_gamma (k t : Fin 4) (r a : FVec Ideal B8x128 .f32) (s : St Ideal) : (quantS k t r a s).gamma = s.gamma := rfl
@[simp] theorem quantS_rstd (k t : Fin 4) (r a : FVec Ideal B8x128 .f32) (s : St Ideal) : (quantS k t r a s).rstd = s.rstd := rfl
@[simp] theorem quantS_dgamma (k t : Fin 4) (r a : FVec Ideal B8x128 .f32) (s : St Ideal) : (quantS k t r a s).dgamma = s.dgamma := rfl
@[simp] theorem quantS_codes (k t : Fin 4) (r a : FVec Ideal B8x128 .f32) (s : St Ideal) : (quantS k t r a s).codes = s.codes := rfl
@[simp] theorem quantS_scale (k t : Fin 4) (r a : FVec Ideal B8x128 .f32) (s : St Ideal) : (quantS k t r a s).scale = s.scale := rfl
@[simp] theorem quantS_g (k t : Fin 4) (r a : FVec Ideal B8x128 .f32) (s : St Ideal) : (quantS k t r a s).g = s.g := rfl
@[simp] theorem quantS_w (k t : Fin 4) (r a : FVec Ideal B8x128 .f32) (s : St Ideal) : (quantS k t r a s).w = s.w := rfl
@[simp] theorem quantS_gcol (k t : Fin 4) (r a : FVec Ideal B8x128 .f32) (s : St Ideal) : (quantS k t r a s).gcol = s.gcol := rfl
@[simp] theorem quantS_rcol (k t : Fin 4) (r a : FVec Ideal B8x128 .f32) (s : St Ideal) : (quantS k t r a s).rcol = s.rcol := rfl
@[simp] theorem quantS_acc (k t : Fin 4) (r a : FVec Ideal B8x128 .f32) (s : St Ideal) : (quantS k t r a s).acc = s.acc := rfl

@[simp] theorem pass3StepS_x (k : Fin 4) (j : Fin 64) (f : FVec Ideal B32x128 .f32) (s : St Ideal) : (pass3StepS k j f s).x = s.x := rfl
@[simp] theorem pass3StepS_dy (k : Fin 4) (j : Fin 64) (f : FVec Ideal B32x128 .f32) (s : St Ideal) : (pass3StepS k j f s).dy = s.dy := rfl
@[simp] theorem pass3StepS_gamma (k : Fin 4) (j : Fin 64) (f : FVec Ideal B32x128 .f32) (s : St Ideal) : (pass3StepS k j f s).gamma = s.gamma := rfl
@[simp] theorem pass3StepS_rstd (k : Fin 4) (j : Fin 64) (f : FVec Ideal B32x128 .f32) (s : St Ideal) : (pass3StepS k j f s).rstd = s.rstd := rfl
@[simp] theorem pass3StepS_dgamma (k : Fin 4) (j : Fin 64) (f : FVec Ideal B32x128 .f32) (s : St Ideal) : (pass3StepS k j f s).dgamma = s.dgamma := rfl
@[simp] theorem pass3StepS_scale (k : Fin 4) (j : Fin 64) (f : FVec Ideal B32x128 .f32) (s : St Ideal) : (pass3StepS k j f s).scale = s.scale := rfl
@[simp] theorem pass3StepS_g (k : Fin 4) (j : Fin 64) (f : FVec Ideal B32x128 .f32) (s : St Ideal) : (pass3StepS k j f s).g = s.g := rfl
@[simp] theorem pass3StepS_w (k : Fin 4) (j : Fin 64) (f : FVec Ideal B32x128 .f32) (s : St Ideal) : (pass3StepS k j f s).w = s.w := rfl
@[simp] theorem pass3StepS_gcol (k : Fin 4) (j : Fin 64) (f : FVec Ideal B32x128 .f32) (s : St Ideal) : (pass3StepS k j f s).gcol = s.gcol := rfl
@[simp] theorem pass3StepS_rcol (k : Fin 4) (j : Fin 64) (f : FVec Ideal B32x128 .f32) (s : St Ideal) : (pass3StepS k j f s).rcol = s.rcol := rfl
@[simp] theorem pass3StepS_scol (k : Fin 4) (j : Fin 64) (f : FVec Ideal B32x128 .f32) (s : St Ideal) : (pass3StepS k j f s).scol = s.scol := rfl
@[simp] theorem pass3StepS_acc (k : Fin 4) (j : Fin 64) (f : FVec Ideal B32x128 .f32) (s : St Ideal) : (pass3StepS k j f s).acc = s.acc := rfl

@[simp] theorem slabS_x (k t : Fin 4) (j : Fin 32) (r : FVec Ideal B8x128 .f32) (s : St Ideal) : (slabS k t j r s).x = s.x := by unfold slabS; simp only [halfS_x]
@[simp] theorem slabS_dy (k t : Fin 4) (j : Fin 32) (r : FVec Ideal B8x128 .f32) (s : St Ideal) : (slabS k t j r s).dy = s.dy := by unfold slabS; simp only [halfS_dy]
@[simp] theorem slabS_gamma (k t : Fin 4) (j : Fin 32) (r : FVec Ideal B8x128 .f32) (s : St Ideal) : (slabS k t j r s).gamma = s.gamma := by unfold slabS; simp only [halfS_gamma]
@[simp] theorem slabS_rstd (k t : Fin 4) (j : Fin 32) (r : FVec Ideal B8x128 .f32) (s : St Ideal) : (slabS k t j r s).rstd = s.rstd := by unfold slabS; simp only [halfS_rstd]
@[simp] theorem slabS_dgamma (k t : Fin 4) (j : Fin 32) (r : FVec Ideal B8x128 .f32) (s : St Ideal) : (slabS k t j r s).dgamma = s.dgamma := by unfold slabS; simp only [halfS_dgamma]
@[simp] theorem slabS_codes (k t : Fin 4) (j : Fin 32) (r : FVec Ideal B8x128 .f32) (s : St Ideal) : (slabS k t j r s).codes = s.codes := by unfold slabS; simp only [halfS_codes]
@[simp] theorem slabS_scale (k t : Fin 4) (j : Fin 32) (r : FVec Ideal B8x128 .f32) (s : St Ideal) : (slabS k t j r s).scale = s.scale := by unfold slabS; simp only [halfS_scale]
@[simp] theorem slabS_gcol (k t : Fin 4) (j : Fin 32) (r : FVec Ideal B8x128 .f32) (s : St Ideal) : (slabS k t j r s).gcol = s.gcol := by unfold slabS; simp only [halfS_gcol]
@[simp] theorem slabS_rcol (k t : Fin 4) (j : Fin 32) (r : FVec Ideal B8x128 .f32) (s : St Ideal) : (slabS k t j r s).rcol = s.rcol := by unfold slabS; simp only [halfS_rcol]
@[simp] theorem slabS_scol (k t : Fin 4) (j : Fin 32) (r : FVec Ideal B8x128 .f32) (s : St Ideal) : (slabS k t j r s).scol = s.scol := by unfold slabS; simp only [halfS_scol]
@[simp] theorem slabS_acc (k t : Fin 4) (j : Fin 32) (r : FVec Ideal B8x128 .f32) (s : St Ideal) : (slabS k t j r s).acc = s.acc := by unfold slabS; simp only [halfS_acc]

@[simp] theorem slabs1_x (k : Fin 4) (j : Fin 32) (r : Four (FVec Ideal B8x128 .f32)) (s : St Ideal) : (slabs1 k j r s).x = s.x := by unfold slabs1; simp only [slabS_x]
@[simp] theorem slabs1_dy (k : Fin 4) (j : Fin 32) (r : Four (FVec Ideal B8x128 .f32)) (s : St Ideal) : (slabs1 k j r s).dy = s.dy := by unfold slabs1; simp only [slabS_dy]
@[simp] theorem slabs1_gamma (k : Fin 4) (j : Fin 32) (r : Four (FVec Ideal B8x128 .f32)) (s : St Ideal) : (slabs1 k j r s).gamma = s.gamma := by unfold slabs1; simp only [slabS_gamma]
@[simp] theorem slabs1_rstd (k : Fin 4) (j : Fin 32) (r : Four (FVec Ideal B8x128 .f32)) (s : St Ideal) : (slabs1 k j r s).rstd = s.rstd := by unfold slabs1; simp only [slabS_rstd]
@[simp] theorem slabs1_dgamma (k : Fin 4) (j : Fin 32) (r : Four (FVec Ideal B8x128 .f32)) (s : St Ideal) : (slabs1 k j r s).dgamma = s.dgamma := by unfold slabs1; simp only [slabS_dgamma]
@[simp] theorem slabs1_codes (k : Fin 4) (j : Fin 32) (r : Four (FVec Ideal B8x128 .f32)) (s : St Ideal) : (slabs1 k j r s).codes = s.codes := by unfold slabs1; simp only [slabS_codes]
@[simp] theorem slabs1_scale (k : Fin 4) (j : Fin 32) (r : Four (FVec Ideal B8x128 .f32)) (s : St Ideal) : (slabs1 k j r s).scale = s.scale := by unfold slabs1; simp only [slabS_scale]
@[simp] theorem slabs1_gcol (k : Fin 4) (j : Fin 32) (r : Four (FVec Ideal B8x128 .f32)) (s : St Ideal) : (slabs1 k j r s).gcol = s.gcol := by unfold slabs1; simp only [slabS_gcol]
@[simp] theorem slabs1_rcol (k : Fin 4) (j : Fin 32) (r : Four (FVec Ideal B8x128 .f32)) (s : St Ideal) : (slabs1 k j r s).rcol = s.rcol := by unfold slabs1; simp only [slabS_rcol]
@[simp] theorem slabs1_scol (k : Fin 4) (j : Fin 32) (r : Four (FVec Ideal B8x128 .f32)) (s : St Ideal) : (slabs1 k j r s).scol = s.scol := by unfold slabs1; simp only [slabS_scol]
@[simp] theorem slabs1_acc (k : Fin 4) (j : Fin 32) (r : Four (FVec Ideal B8x128 .f32)) (s : St Ideal) : (slabs1 k j r s).acc = s.acc := by unfold slabs1; simp only [slabS_acc]

@[simp] theorem slabs2_x (k : Fin 4) (j : Fin 32) (r : Four (FVec Ideal B8x128 .f32)) (s : St Ideal) : (slabs2 k j r s).x = s.x := by unfold slabs2; simp only [slabS_x, slabs1_x]
@[simp] theorem slabs2_dy (k : Fin 4) (j : Fin 32) (r : Four (FVec Ideal B8x128 .f32)) (s : St Ideal) : (slabs2 k j r s).dy = s.dy := by unfold slabs2; simp only [slabS_dy, slabs1_dy]
@[simp] theorem slabs2_gamma (k : Fin 4) (j : Fin 32) (r : Four (FVec Ideal B8x128 .f32)) (s : St Ideal) : (slabs2 k j r s).gamma = s.gamma := by unfold slabs2; simp only [slabS_gamma, slabs1_gamma]
@[simp] theorem slabs2_rstd (k : Fin 4) (j : Fin 32) (r : Four (FVec Ideal B8x128 .f32)) (s : St Ideal) : (slabs2 k j r s).rstd = s.rstd := by unfold slabs2; simp only [slabS_rstd, slabs1_rstd]
@[simp] theorem slabs2_dgamma (k : Fin 4) (j : Fin 32) (r : Four (FVec Ideal B8x128 .f32)) (s : St Ideal) : (slabs2 k j r s).dgamma = s.dgamma := by unfold slabs2; simp only [slabS_dgamma, slabs1_dgamma]
@[simp] theorem slabs2_codes (k : Fin 4) (j : Fin 32) (r : Four (FVec Ideal B8x128 .f32)) (s : St Ideal) : (slabs2 k j r s).codes = s.codes := by unfold slabs2; simp only [slabS_codes, slabs1_codes]
@[simp] theorem slabs2_scale (k : Fin 4) (j : Fin 32) (r : Four (FVec Ideal B8x128 .f32)) (s : St Ideal) : (slabs2 k j r s).scale = s.scale := by unfold slabs2; simp only [slabS_scale, slabs1_scale]
@[simp] theorem slabs2_gcol (k : Fin 4) (j : Fin 32) (r : Four (FVec Ideal B8x128 .f32)) (s : St Ideal) : (slabs2 k j r s).gcol = s.gcol := by unfold slabs2; simp only [slabS_gcol, slabs1_gcol]
@[simp] theorem slabs2_rcol (k : Fin 4) (j : Fin 32) (r : Four (FVec Ideal B8x128 .f32)) (s : St Ideal) : (slabs2 k j r s).rcol = s.rcol := by unfold slabs2; simp only [slabS_rcol, slabs1_rcol]
@[simp] theorem slabs2_scol (k : Fin 4) (j : Fin 32) (r : Four (FVec Ideal B8x128 .f32)) (s : St Ideal) : (slabs2 k j r s).scol = s.scol := by unfold slabs2; simp only [slabS_scol, slabs1_scol]
@[simp] theorem slabs2_acc (k : Fin 4) (j : Fin 32) (r : Four (FVec Ideal B8x128 .f32)) (s : St Ideal) : (slabs2 k j r s).acc = s.acc := by unfold slabs2; simp only [slabS_acc, slabs1_acc]

@[simp] theorem slabs3_x (k : Fin 4) (j : Fin 32) (r : Four (FVec Ideal B8x128 .f32)) (s : St Ideal) : (slabs3 k j r s).x = s.x := by unfold slabs3; simp only [slabS_x, slabs2_x]
@[simp] theorem slabs3_dy (k : Fin 4) (j : Fin 32) (r : Four (FVec Ideal B8x128 .f32)) (s : St Ideal) : (slabs3 k j r s).dy = s.dy := by unfold slabs3; simp only [slabS_dy, slabs2_dy]
@[simp] theorem slabs3_gamma (k : Fin 4) (j : Fin 32) (r : Four (FVec Ideal B8x128 .f32)) (s : St Ideal) : (slabs3 k j r s).gamma = s.gamma := by unfold slabs3; simp only [slabS_gamma, slabs2_gamma]
@[simp] theorem slabs3_rstd (k : Fin 4) (j : Fin 32) (r : Four (FVec Ideal B8x128 .f32)) (s : St Ideal) : (slabs3 k j r s).rstd = s.rstd := by unfold slabs3; simp only [slabS_rstd, slabs2_rstd]
@[simp] theorem slabs3_dgamma (k : Fin 4) (j : Fin 32) (r : Four (FVec Ideal B8x128 .f32)) (s : St Ideal) : (slabs3 k j r s).dgamma = s.dgamma := by unfold slabs3; simp only [slabS_dgamma, slabs2_dgamma]
@[simp] theorem slabs3_codes (k : Fin 4) (j : Fin 32) (r : Four (FVec Ideal B8x128 .f32)) (s : St Ideal) : (slabs3 k j r s).codes = s.codes := by unfold slabs3; simp only [slabS_codes, slabs2_codes]
@[simp] theorem slabs3_scale (k : Fin 4) (j : Fin 32) (r : Four (FVec Ideal B8x128 .f32)) (s : St Ideal) : (slabs3 k j r s).scale = s.scale := by unfold slabs3; simp only [slabS_scale, slabs2_scale]
@[simp] theorem slabs3_gcol (k : Fin 4) (j : Fin 32) (r : Four (FVec Ideal B8x128 .f32)) (s : St Ideal) : (slabs3 k j r s).gcol = s.gcol := by unfold slabs3; simp only [slabS_gcol, slabs2_gcol]
@[simp] theorem slabs3_rcol (k : Fin 4) (j : Fin 32) (r : Four (FVec Ideal B8x128 .f32)) (s : St Ideal) : (slabs3 k j r s).rcol = s.rcol := by unfold slabs3; simp only [slabS_rcol, slabs2_rcol]
@[simp] theorem slabs3_scol (k : Fin 4) (j : Fin 32) (r : Four (FVec Ideal B8x128 .f32)) (s : St Ideal) : (slabs3 k j r s).scol = s.scol := by unfold slabs3; simp only [slabS_scol, slabs2_scol]
@[simp] theorem slabs3_acc (k : Fin 4) (j : Fin 32) (r : Four (FVec Ideal B8x128 .f32)) (s : St Ideal) : (slabs3 k j r s).acc = s.acc := by unfold slabs3; simp only [slabS_acc, slabs2_acc]

@[simp] theorem slabs4_x (k : Fin 4) (j : Fin 32) (r : Four (FVec Ideal B8x128 .f32)) (s : St Ideal) : (slabs4 k j r s).x = s.x := by unfold slabs4; simp only [slabS_x, slabs3_x]
@[simp] theorem slabs4_dy (k : Fin 4) (j : Fin 32) (r : Four (FVec Ideal B8x128 .f32)) (s : St Ideal) : (slabs4 k j r s).dy = s.dy := by unfold slabs4; simp only [slabS_dy, slabs3_dy]
@[simp] theorem slabs4_gamma (k : Fin 4) (j : Fin 32) (r : Four (FVec Ideal B8x128 .f32)) (s : St Ideal) : (slabs4 k j r s).gamma = s.gamma := by unfold slabs4; simp only [slabS_gamma, slabs3_gamma]
@[simp] theorem slabs4_rstd (k : Fin 4) (j : Fin 32) (r : Four (FVec Ideal B8x128 .f32)) (s : St Ideal) : (slabs4 k j r s).rstd = s.rstd := by unfold slabs4; simp only [slabS_rstd, slabs3_rstd]
@[simp] theorem slabs4_dgamma (k : Fin 4) (j : Fin 32) (r : Four (FVec Ideal B8x128 .f32)) (s : St Ideal) : (slabs4 k j r s).dgamma = s.dgamma := by unfold slabs4; simp only [slabS_dgamma, slabs3_dgamma]
@[simp] theorem slabs4_codes (k : Fin 4) (j : Fin 32) (r : Four (FVec Ideal B8x128 .f32)) (s : St Ideal) : (slabs4 k j r s).codes = s.codes := by unfold slabs4; simp only [slabS_codes, slabs3_codes]
@[simp] theorem slabs4_scale (k : Fin 4) (j : Fin 32) (r : Four (FVec Ideal B8x128 .f32)) (s : St Ideal) : (slabs4 k j r s).scale = s.scale := by unfold slabs4; simp only [slabS_scale, slabs3_scale]
@[simp] theorem slabs4_gcol (k : Fin 4) (j : Fin 32) (r : Four (FVec Ideal B8x128 .f32)) (s : St Ideal) : (slabs4 k j r s).gcol = s.gcol := by unfold slabs4; simp only [slabS_gcol, slabs3_gcol]
@[simp] theorem slabs4_rcol (k : Fin 4) (j : Fin 32) (r : Four (FVec Ideal B8x128 .f32)) (s : St Ideal) : (slabs4 k j r s).rcol = s.rcol := by unfold slabs4; simp only [slabS_rcol, slabs3_rcol]
@[simp] theorem slabs4_scol (k : Fin 4) (j : Fin 32) (r : Four (FVec Ideal B8x128 .f32)) (s : St Ideal) : (slabs4 k j r s).scol = s.scol := by unfold slabs4; simp only [slabS_scol, slabs3_scol]
@[simp] theorem slabs4_acc (k : Fin 4) (j : Fin 32) (r : Four (FVec Ideal B8x128 .f32)) (s : St Ideal) : (slabs4 k j r s).acc = s.acc := by unfold slabs4; simp only [slabS_acc, slabs3_acc]

@[simp] theorem groupD_x (k : Fin 4) (j : Fin 32) (h : Fin 2) (r : Four (FVec Ideal B8x128 .f32)) (s u : St Ideal) : (groupD k j h r s u).x = u.x := by unfold groupD; simp only [addColsS_x]
@[simp] theorem groupD_dy (k : Fin 4) (j : Fin 32) (h : Fin 2) (r : Four (FVec Ideal B8x128 .f32)) (s u : St Ideal) : (groupD k j h r s u).dy = u.dy := by unfold groupD; simp only [addColsS_dy]
@[simp] theorem groupD_gamma (k : Fin 4) (j : Fin 32) (h : Fin 2) (r : Four (FVec Ideal B8x128 .f32)) (s u : St Ideal) : (groupD k j h r s u).gamma = u.gamma := by unfold groupD; simp only [addColsS_gamma]
@[simp] theorem groupD_rstd (k : Fin 4) (j : Fin 32) (h : Fin 2) (r : Four (FVec Ideal B8x128 .f32)) (s u : St Ideal) : (groupD k j h r s u).rstd = u.rstd := by unfold groupD; simp only [addColsS_rstd]
@[simp] theorem groupD_dgamma (k : Fin 4) (j : Fin 32) (h : Fin 2) (r : Four (FVec Ideal B8x128 .f32)) (s u : St Ideal) : (groupD k j h r s u).dgamma = u.dgamma := by unfold groupD; simp only [addColsS_dgamma]
@[simp] theorem groupD_codes (k : Fin 4) (j : Fin 32) (h : Fin 2) (r : Four (FVec Ideal B8x128 .f32)) (s u : St Ideal) : (groupD k j h r s u).codes = u.codes := by unfold groupD; simp only [addColsS_codes]
@[simp] theorem groupD_scale (k : Fin 4) (j : Fin 32) (h : Fin 2) (r : Four (FVec Ideal B8x128 .f32)) (s u : St Ideal) : (groupD k j h r s u).scale = u.scale := by unfold groupD; simp only [addColsS_scale]
@[simp] theorem groupD_g (k : Fin 4) (j : Fin 32) (h : Fin 2) (r : Four (FVec Ideal B8x128 .f32)) (s u : St Ideal) : (groupD k j h r s u).g = u.g := by unfold groupD; simp only [addColsS_g]
@[simp] theorem groupD_w (k : Fin 4) (j : Fin 32) (h : Fin 2) (r : Four (FVec Ideal B8x128 .f32)) (s u : St Ideal) : (groupD k j h r s u).w = u.w := by unfold groupD; simp only [addColsS_w]
@[simp] theorem groupD_gcol (k : Fin 4) (j : Fin 32) (h : Fin 2) (r : Four (FVec Ideal B8x128 .f32)) (s u : St Ideal) : (groupD k j h r s u).gcol = u.gcol := by unfold groupD; simp only [addColsS_gcol]
@[simp] theorem groupD_rcol (k : Fin 4) (j : Fin 32) (h : Fin 2) (r : Four (FVec Ideal B8x128 .f32)) (s u : St Ideal) : (groupD k j h r s u).rcol = u.rcol := by unfold groupD; simp only [addColsS_rcol]
@[simp] theorem groupD_scol (k : Fin 4) (j : Fin 32) (h : Fin 2) (r : Four (FVec Ideal B8x128 .f32)) (s u : St Ideal) : (groupD k j h r s u).scol = u.scol := by unfold groupD; simp only [addColsS_scol]

@[simp] theorem pass1StepS_x (k : Fin 4) (j : Fin 32) (r : Four (FVec Ideal B8x128 .f32)) (s : St Ideal) : (pass1StepS k j r s).x = s.x := by unfold pass1StepS; simp only [groupD_x, slabs4_x]
@[simp] theorem pass1StepS_dy (k : Fin 4) (j : Fin 32) (r : Four (FVec Ideal B8x128 .f32)) (s : St Ideal) : (pass1StepS k j r s).dy = s.dy := by unfold pass1StepS; simp only [groupD_dy, slabs4_dy]
@[simp] theorem pass1StepS_gamma (k : Fin 4) (j : Fin 32) (r : Four (FVec Ideal B8x128 .f32)) (s : St Ideal) : (pass1StepS k j r s).gamma = s.gamma := by unfold pass1StepS; simp only [groupD_gamma, slabs4_gamma]
@[simp] theorem pass1StepS_rstd (k : Fin 4) (j : Fin 32) (r : Four (FVec Ideal B8x128 .f32)) (s : St Ideal) : (pass1StepS k j r s).rstd = s.rstd := by unfold pass1StepS; simp only [groupD_rstd, slabs4_rstd]
@[simp] theorem pass1StepS_dgamma (k : Fin 4) (j : Fin 32) (r : Four (FVec Ideal B8x128 .f32)) (s : St Ideal) : (pass1StepS k j r s).dgamma = s.dgamma := by unfold pass1StepS; simp only [groupD_dgamma, slabs4_dgamma]
@[simp] theorem pass1StepS_codes (k : Fin 4) (j : Fin 32) (r : Four (FVec Ideal B8x128 .f32)) (s : St Ideal) : (pass1StepS k j r s).codes = s.codes := by unfold pass1StepS; simp only [groupD_codes, slabs4_codes]
@[simp] theorem pass1StepS_scale (k : Fin 4) (j : Fin 32) (r : Four (FVec Ideal B8x128 .f32)) (s : St Ideal) : (pass1StepS k j r s).scale = s.scale := by unfold pass1StepS; simp only [groupD_scale, slabs4_scale]
@[simp] theorem pass1StepS_gcol (k : Fin 4) (j : Fin 32) (r : Four (FVec Ideal B8x128 .f32)) (s : St Ideal) : (pass1StepS k j r s).gcol = s.gcol := by unfold pass1StepS; simp only [groupD_gcol, slabs4_gcol]
@[simp] theorem pass1StepS_rcol (k : Fin 4) (j : Fin 32) (r : Four (FVec Ideal B8x128 .f32)) (s : St Ideal) : (pass1StepS k j r s).rcol = s.rcol := by unfold pass1StepS; simp only [groupD_rcol, slabs4_rcol]
@[simp] theorem pass1StepS_scol (k : Fin 4) (j : Fin 32) (r : Four (FVec Ideal B8x128 .f32)) (s : St Ideal) : (pass1StepS k j r s).scol = s.scol := by unfold pass1StepS; simp only [groupD_scol, slabs4_scol]

@[simp] theorem pass2StepS_x (j : Fin 64) (c : Four (FVec Ideal B8x128 .f32)) (s : St Ideal) : (pass2StepS j c s).x = s.x := by unfold pass2StepS; simp only [sub2S_x]
@[simp] theorem pass2StepS_dy (j : Fin 64) (c : Four (FVec Ideal B8x128 .f32)) (s : St Ideal) : (pass2StepS j c s).dy = s.dy := by unfold pass2StepS; simp only [sub2S_dy]
@[simp] theorem pass2StepS_gamma (j : Fin 64) (c : Four (FVec Ideal B8x128 .f32)) (s : St Ideal) : (pass2StepS j c s).gamma = s.gamma := by unfold pass2StepS; simp only [sub2S_gamma]
@[simp] theorem pass2StepS_rstd (j : Fin 64) (c : Four (FVec Ideal B8x128 .f32)) (s : St Ideal) : (pass2StepS j c s).rstd = s.rstd := by unfold pass2StepS; simp only [sub2S_rstd]
@[simp] theorem pass2StepS_dgamma (j : Fin 64) (c : Four (FVec Ideal B8x128 .f32)) (s : St Ideal) : (pass2StepS j c s).dgamma = s.dgamma := by unfold pass2StepS; simp only [sub2S_dgamma]
@[simp] theorem pass2StepS_codes (j : Fin 64) (c : Four (FVec Ideal B8x128 .f32)) (s : St Ideal) : (pass2StepS j c s).codes = s.codes := by unfold pass2StepS; simp only [sub2S_codes]
@[simp] theorem pass2StepS_scale (j : Fin 64) (c : Four (FVec Ideal B8x128 .f32)) (s : St Ideal) : (pass2StepS j c s).scale = s.scale := by unfold pass2StepS; simp only [sub2S_scale]
@[simp] theorem pass2StepS_w (j : Fin 64) (c : Four (FVec Ideal B8x128 .f32)) (s : St Ideal) : (pass2StepS j c s).w = s.w := by unfold pass2StepS; simp only [sub2S_w]
@[simp] theorem pass2StepS_gcol (j : Fin 64) (c : Four (FVec Ideal B8x128 .f32)) (s : St Ideal) : (pass2StepS j c s).gcol = s.gcol := by unfold pass2StepS; simp only [sub2S_gcol]
@[simp] theorem pass2StepS_rcol (j : Fin 64) (c : Four (FVec Ideal B8x128 .f32)) (s : St Ideal) : (pass2StepS j c s).rcol = s.rcol := by unfold pass2StepS; simp only [sub2S_rcol]
@[simp] theorem pass2StepS_scol (j : Fin 64) (c : Four (FVec Ideal B8x128 .f32)) (s : St Ideal) : (pass2StepS j c s).scol = s.scol := by unfold pass2StepS; simp only [sub2S_scol]
@[simp] theorem pass2StepS_acc (j : Fin 64) (c : Four (FVec Ideal B8x128 .f32)) (s : St Ideal) : (pass2StepS j c s).acc = s.acc := by unfold pass2StepS; simp only [sub2S_acc]

@[simp] theorem quantAllS_x (k : Fin 4) (r a : Four (FVec Ideal B8x128 .f32)) (s : St Ideal) : (quantAllS k r a s).x = s.x := by unfold quantAllS; simp only [quantS_x]
@[simp] theorem quantAllS_dy (k : Fin 4) (r a : Four (FVec Ideal B8x128 .f32)) (s : St Ideal) : (quantAllS k r a s).dy = s.dy := by unfold quantAllS; simp only [quantS_dy]
@[simp] theorem quantAllS_gamma (k : Fin 4) (r a : Four (FVec Ideal B8x128 .f32)) (s : St Ideal) : (quantAllS k r a s).gamma = s.gamma := by unfold quantAllS; simp only [quantS_gamma]
@[simp] theorem quantAllS_rstd (k : Fin 4) (r a : Four (FVec Ideal B8x128 .f32)) (s : St Ideal) : (quantAllS k r a s).rstd = s.rstd := by unfold quantAllS; simp only [quantS_rstd]
@[simp] theorem quantAllS_dgamma (k : Fin 4) (r a : Four (FVec Ideal B8x128 .f32)) (s : St Ideal) : (quantAllS k r a s).dgamma = s.dgamma := by unfold quantAllS; simp only [quantS_dgamma]
@[simp] theorem quantAllS_codes (k : Fin 4) (r a : Four (FVec Ideal B8x128 .f32)) (s : St Ideal) : (quantAllS k r a s).codes = s.codes := by unfold quantAllS; simp only [quantS_codes]
@[simp] theorem quantAllS_scale (k : Fin 4) (r a : Four (FVec Ideal B8x128 .f32)) (s : St Ideal) : (quantAllS k r a s).scale = s.scale := by unfold quantAllS; simp only [quantS_scale]
@[simp] theorem quantAllS_g (k : Fin 4) (r a : Four (FVec Ideal B8x128 .f32)) (s : St Ideal) : (quantAllS k r a s).g = s.g := by unfold quantAllS; simp only [quantS_g]
@[simp] theorem quantAllS_w (k : Fin 4) (r a : Four (FVec Ideal B8x128 .f32)) (s : St Ideal) : (quantAllS k r a s).w = s.w := by unfold quantAllS; simp only [quantS_w]
@[simp] theorem quantAllS_gcol (k : Fin 4) (r a : Four (FVec Ideal B8x128 .f32)) (s : St Ideal) : (quantAllS k r a s).gcol = s.gcol := by unfold quantAllS; simp only [quantS_gcol]
@[simp] theorem quantAllS_rcol (k : Fin 4) (r a : Four (FVec Ideal B8x128 .f32)) (s : St Ideal) : (quantAllS k r a s).rcol = s.rcol := by unfold quantAllS; simp only [quantS_rcol]
@[simp] theorem quantAllS_acc (k : Fin 4) (r a : Four (FVec Ideal B8x128 .f32)) (s : St Ideal) : (quantAllS k r a s).acc = s.acc := by unfold quantAllS; simp only [quantS_acc]

@[simp] theorem pass1S_x (k : Fin 4) (r : Four (FVec Ideal B8x128 .f32)) : ∀ (n j : ℕ) (h : j + n = 32) (s : St Ideal), (pass1S k r n j h s).x = s.x
  | 0, _, _, _ => rfl
  | n + 1, j, h, s => by rw [pass1S, pass1S_x k r n, pass1StepS_x]

@[simp] theorem pass1S_dy (k : Fin 4) (r : Four (FVec Ideal B8x128 .f32)) : ∀ (n j : ℕ) (h : j + n = 32) (s : St Ideal), (pass1S k r n j h s).dy = s.dy
  | 0, _, _, _ => rfl
  | n + 1, j, h, s => by rw [pass1S, pass1S_dy k r n, pass1StepS_dy]

@[simp] theorem pass1S_gamma (k : Fin 4) (r : Four (FVec Ideal B8x128 .f32)) : ∀ (n j : ℕ) (h : j + n = 32) (s : St Ideal), (pass1S k r n j h s).gamma = s.gamma
  | 0, _, _, _ => rfl
  | n + 1, j, h, s => by rw [pass1S, pass1S_gamma k r n, pass1StepS_gamma]

@[simp] theorem pass1S_rstd (k : Fin 4) (r : Four (FVec Ideal B8x128 .f32)) : ∀ (n j : ℕ) (h : j + n = 32) (s : St Ideal), (pass1S k r n j h s).rstd = s.rstd
  | 0, _, _, _ => rfl
  | n + 1, j, h, s => by rw [pass1S, pass1S_rstd k r n, pass1StepS_rstd]

@[simp] theorem pass1S_dgamma (k : Fin 4) (r : Four (FVec Ideal B8x128 .f32)) : ∀ (n j : ℕ) (h : j + n = 32) (s : St Ideal), (pass1S k r n j h s).dgamma = s.dgamma
  | 0, _, _, _ => rfl
  | n + 1, j, h, s => by rw [pass1S, pass1S_dgamma k r n, pass1StepS_dgamma]

@[simp] theorem pass1S_codes (k : Fin 4) (r : Four (FVec Ideal B8x128 .f32)) : ∀ (n j : ℕ) (h : j + n = 32) (s : St Ideal), (pass1S k r n j h s).codes = s.codes
  | 0, _, _, _ => rfl
  | n + 1, j, h, s => by rw [pass1S, pass1S_codes k r n, pass1StepS_codes]

@[simp] theorem pass1S_scale (k : Fin 4) (r : Four (FVec Ideal B8x128 .f32)) : ∀ (n j : ℕ) (h : j + n = 32) (s : St Ideal), (pass1S k r n j h s).scale = s.scale
  | 0, _, _, _ => rfl
  | n + 1, j, h, s => by rw [pass1S, pass1S_scale k r n, pass1StepS_scale]

@[simp] theorem pass1S_gcol (k : Fin 4) (r : Four (FVec Ideal B8x128 .f32)) : ∀ (n j : ℕ) (h : j + n = 32) (s : St Ideal), (pass1S k r n j h s).gcol = s.gcol
  | 0, _, _, _ => rfl
  | n + 1, j, h, s => by rw [pass1S, pass1S_gcol k r n, pass1StepS_gcol]

@[simp] theorem pass1S_rcol (k : Fin 4) (r : Four (FVec Ideal B8x128 .f32)) : ∀ (n j : ℕ) (h : j + n = 32) (s : St Ideal), (pass1S k r n j h s).rcol = s.rcol
  | 0, _, _, _ => rfl
  | n + 1, j, h, s => by rw [pass1S, pass1S_rcol k r n, pass1StepS_rcol]

@[simp] theorem pass1S_scol (k : Fin 4) (r : Four (FVec Ideal B8x128 .f32)) : ∀ (n j : ℕ) (h : j + n = 32) (s : St Ideal), (pass1S k r n j h s).scol = s.scol
  | 0, _, _, _ => rfl
  | n + 1, j, h, s => by rw [pass1S, pass1S_scol k r n, pass1StepS_scol]

@[simp] theorem pass2S_x (c : Four (FVec Ideal B8x128 .f32)) : ∀ (n j : ℕ) (h : j + n = 64) (s : St Ideal), (pass2S c n j h s).x = s.x
  | 0, _, _, _ => rfl
  | n + 1, j, h, s => by rw [pass2S, pass2S_x c n, pass2StepS_x]

@[simp] theorem pass2S_dy (c : Four (FVec Ideal B8x128 .f32)) : ∀ (n j : ℕ) (h : j + n = 64) (s : St Ideal), (pass2S c n j h s).dy = s.dy
  | 0, _, _, _ => rfl
  | n + 1, j, h, s => by rw [pass2S, pass2S_dy c n, pass2StepS_dy]

@[simp] theorem pass2S_gamma (c : Four (FVec Ideal B8x128 .f32)) : ∀ (n j : ℕ) (h : j + n = 64) (s : St Ideal), (pass2S c n j h s).gamma = s.gamma
  | 0, _, _, _ => rfl
  | n + 1, j, h, s => by rw [pass2S, pass2S_gamma c n, pass2StepS_gamma]

@[simp] theorem pass2S_rstd (c : Four (FVec Ideal B8x128 .f32)) : ∀ (n j : ℕ) (h : j + n = 64) (s : St Ideal), (pass2S c n j h s).rstd = s.rstd
  | 0, _, _, _ => rfl
  | n + 1, j, h, s => by rw [pass2S, pass2S_rstd c n, pass2StepS_rstd]

@[simp] theorem pass2S_dgamma (c : Four (FVec Ideal B8x128 .f32)) : ∀ (n j : ℕ) (h : j + n = 64) (s : St Ideal), (pass2S c n j h s).dgamma = s.dgamma
  | 0, _, _, _ => rfl
  | n + 1, j, h, s => by rw [pass2S, pass2S_dgamma c n, pass2StepS_dgamma]

@[simp] theorem pass2S_codes (c : Four (FVec Ideal B8x128 .f32)) : ∀ (n j : ℕ) (h : j + n = 64) (s : St Ideal), (pass2S c n j h s).codes = s.codes
  | 0, _, _, _ => rfl
  | n + 1, j, h, s => by rw [pass2S, pass2S_codes c n, pass2StepS_codes]

@[simp] theorem pass2S_scale (c : Four (FVec Ideal B8x128 .f32)) : ∀ (n j : ℕ) (h : j + n = 64) (s : St Ideal), (pass2S c n j h s).scale = s.scale
  | 0, _, _, _ => rfl
  | n + 1, j, h, s => by rw [pass2S, pass2S_scale c n, pass2StepS_scale]

@[simp] theorem pass2S_w (c : Four (FVec Ideal B8x128 .f32)) : ∀ (n j : ℕ) (h : j + n = 64) (s : St Ideal), (pass2S c n j h s).w = s.w
  | 0, _, _, _ => rfl
  | n + 1, j, h, s => by rw [pass2S, pass2S_w c n, pass2StepS_w]

@[simp] theorem pass2S_gcol (c : Four (FVec Ideal B8x128 .f32)) : ∀ (n j : ℕ) (h : j + n = 64) (s : St Ideal), (pass2S c n j h s).gcol = s.gcol
  | 0, _, _, _ => rfl
  | n + 1, j, h, s => by rw [pass2S, pass2S_gcol c n, pass2StepS_gcol]

@[simp] theorem pass2S_rcol (c : Four (FVec Ideal B8x128 .f32)) : ∀ (n j : ℕ) (h : j + n = 64) (s : St Ideal), (pass2S c n j h s).rcol = s.rcol
  | 0, _, _, _ => rfl
  | n + 1, j, h, s => by rw [pass2S, pass2S_rcol c n, pass2StepS_rcol]

@[simp] theorem pass2S_scol (c : Four (FVec Ideal B8x128 .f32)) : ∀ (n j : ℕ) (h : j + n = 64) (s : St Ideal), (pass2S c n j h s).scol = s.scol
  | 0, _, _, _ => rfl
  | n + 1, j, h, s => by rw [pass2S, pass2S_scol c n, pass2StepS_scol]

@[simp] theorem pass2S_acc (c : Four (FVec Ideal B8x128 .f32)) : ∀ (n j : ℕ) (h : j + n = 64) (s : St Ideal), (pass2S c n j h s).acc = s.acc
  | 0, _, _, _ => rfl
  | n + 1, j, h, s => by rw [pass2S, pass2S_acc c n, pass2StepS_acc]

@[simp] theorem pass3S_x (k : Fin 4) (f : FVec Ideal B32x128 .f32) : ∀ (n j : ℕ) (h : j + n = 64) (s : St Ideal), (pass3S k f n j h s).x = s.x
  | 0, _, _, _ => rfl
  | n + 1, j, h, s => by rw [pass3S, pass3S_x k f n, pass3StepS_x]

@[simp] theorem pass3S_dy (k : Fin 4) (f : FVec Ideal B32x128 .f32) : ∀ (n j : ℕ) (h : j + n = 64) (s : St Ideal), (pass3S k f n j h s).dy = s.dy
  | 0, _, _, _ => rfl
  | n + 1, j, h, s => by rw [pass3S, pass3S_dy k f n, pass3StepS_dy]

@[simp] theorem pass3S_gamma (k : Fin 4) (f : FVec Ideal B32x128 .f32) : ∀ (n j : ℕ) (h : j + n = 64) (s : St Ideal), (pass3S k f n j h s).gamma = s.gamma
  | 0, _, _, _ => rfl
  | n + 1, j, h, s => by rw [pass3S, pass3S_gamma k f n, pass3StepS_gamma]

@[simp] theorem pass3S_rstd (k : Fin 4) (f : FVec Ideal B32x128 .f32) : ∀ (n j : ℕ) (h : j + n = 64) (s : St Ideal), (pass3S k f n j h s).rstd = s.rstd
  | 0, _, _, _ => rfl
  | n + 1, j, h, s => by rw [pass3S, pass3S_rstd k f n, pass3StepS_rstd]

@[simp] theorem pass3S_dgamma (k : Fin 4) (f : FVec Ideal B32x128 .f32) : ∀ (n j : ℕ) (h : j + n = 64) (s : St Ideal), (pass3S k f n j h s).dgamma = s.dgamma
  | 0, _, _, _ => rfl
  | n + 1, j, h, s => by rw [pass3S, pass3S_dgamma k f n, pass3StepS_dgamma]

@[simp] theorem pass3S_scale (k : Fin 4) (f : FVec Ideal B32x128 .f32) : ∀ (n j : ℕ) (h : j + n = 64) (s : St Ideal), (pass3S k f n j h s).scale = s.scale
  | 0, _, _, _ => rfl
  | n + 1, j, h, s => by rw [pass3S, pass3S_scale k f n, pass3StepS_scale]

@[simp] theorem pass3S_g (k : Fin 4) (f : FVec Ideal B32x128 .f32) : ∀ (n j : ℕ) (h : j + n = 64) (s : St Ideal), (pass3S k f n j h s).g = s.g
  | 0, _, _, _ => rfl
  | n + 1, j, h, s => by rw [pass3S, pass3S_g k f n, pass3StepS_g]

@[simp] theorem pass3S_w (k : Fin 4) (f : FVec Ideal B32x128 .f32) : ∀ (n j : ℕ) (h : j + n = 64) (s : St Ideal), (pass3S k f n j h s).w = s.w
  | 0, _, _, _ => rfl
  | n + 1, j, h, s => by rw [pass3S, pass3S_w k f n, pass3StepS_w]

@[simp] theorem pass3S_gcol (k : Fin 4) (f : FVec Ideal B32x128 .f32) : ∀ (n j : ℕ) (h : j + n = 64) (s : St Ideal), (pass3S k f n j h s).gcol = s.gcol
  | 0, _, _, _ => rfl
  | n + 1, j, h, s => by rw [pass3S, pass3S_gcol k f n, pass3StepS_gcol]

@[simp] theorem pass3S_rcol (k : Fin 4) (f : FVec Ideal B32x128 .f32) : ∀ (n j : ℕ) (h : j + n = 64) (s : St Ideal), (pass3S k f n j h s).rcol = s.rcol
  | 0, _, _, _ => rfl
  | n + 1, j, h, s => by rw [pass3S, pass3S_rcol k f n, pass3StepS_rcol]

@[simp] theorem pass3S_scol (k : Fin 4) (f : FVec Ideal B32x128 .f32) : ∀ (n j : ℕ) (h : j + n = 64) (s : St Ideal), (pass3S k f n j h s).scol = s.scol
  | 0, _, _, _ => rfl
  | n + 1, j, h, s => by rw [pass3S, pass3S_scol k f n, pass3StepS_scol]

@[simp] theorem pass3S_acc (k : Fin 4) (f : FVec Ideal B32x128 .f32) : ∀ (n j : ℕ) (h : j + n = 64) (s : St Ideal), (pass3S k f n j h s).acc = s.acc
  | 0, _, _, _ => rfl
  | n + 1, j, h, s => by rw [pass3S, pass3S_acc k f n, pass3StepS_acc]

end Cert.Trip
-- ==== Proof.Pass1.lean ====
/-
  The first pass of a trip: the two scratch buffers, the partial sums and the running column sums it leaves.
-/
module

public import proofs.«01_k».proof.Proof.Keep

@[expose] public section

noncomputable section

namespace Cert.Trip

open Idealize.ShloMosaic

/-! ## Row by row, as the mathematics says it. `dy`, `x`, `gc` and `rc` are a block's entries, gamma and the reciprocal
deviations, each at a row and a column. -/

variable (dy x gc rc : ℕ → ℕ → EReal)

def gV (p c : ℕ) : EReal := dy p c * gc (p % 8) c
def wV (p c : ℕ) : EReal := x p c * rc p (c % 128)
def eV (p c : ℕ) : EReal := dy p c * (x p c * rc p (c % 128))
def mV (p : ℕ) : EReal :=
  (∑ l ∈ Finset.range 128, ∑ m ∈ Finset.range 64, gV dy gc p (128 * m + l) * wV x rc p (128 * m + l)) * Ideal.ofBits .f32 0x39000000#32
def dV (p c : ℕ) : EReal := gV dy gc p c - wV x rc p c * mV dy x gc rc p
/-- A group's share of the column sums. -/
def share (k p c : ℕ) : EReal :=
  (eV dy x rc (32 * k + p) c + eV dy x rc (32 * k + 8 + p) c) + (eV dy x rc (32 * k + 16 + p) c + eV dy x rc (32 * k + 24 + p) c)

/-- A group's entries of a slab's vector, at a state. -/
def IsDev (k t : Fin 4) (r : FVec Ideal B8x128 .f32) (s : St Ideal) : Prop :=
  ∀ p l, p < 8 → l < 128 → nd r p l = nd s.rcol (32 * k.val + 8 * t.val + p) l

theorem nd_dyAt (k t : Fin 4) (j : Fin 32) (s : St Ideal) {p c : ℕ} (hp : p < 8) (hc : c < 256) :
    nd (dyAt k t j s) p c = nd s.dy (32 * k.val + 8 * t.val + p) (256 * j.val + c) := by
  unfold dyAt; exact (nd_widen _ p c).trans (win_rX k t j s.dy hp hc)

theorem nd_xAt (k t : Fin 4) (j : Fin 32) (s : St Ideal) {p c : ℕ} (hp : p < 8) (hc : c < 256) :
    nd (xAt k t j s) p c = nd s.x (32 * k.val + 8 * t.val + p) (256 * j.val + c) := by
  unfold xAt; exact (nd_widen _ p c).trans (win_rX k t j s.x hp hc)

theorem nd_gcAt (j : Fin 32) (h : Fin 2) (s : St Ideal) {p c : ℕ} (hp : p < 8) (hc : c < 128) :
    nd (gcAt j h s) p c = nd s.gcol p (256 * j.val + 128 * h.val + c) := win_rG j h s.gcol hp hc

theorem half_g (k t : Fin 4) (j : Fin 32) (h : Fin 2) (r : FVec Ideal B8x128 .f32) (u s : St Ideal) (hu : u.dy = s.dy) {p c : ℕ} (hp : p < 32) (hc : c < 8192) :
    nd (halfS t j h r (dyAt k t j u) (xAt k t j u) s).g p c =
      if 8 * t.val ≤ p ∧ p < 8 * t.val + 8 ∧ 256 * j.val + 128 * h.val ≤ c ∧ c < 256 * j.val + 128 * h.val + 128
      then gV (nd s.dy) (nd s.gcol) (32 * k.val + p) c else nd s.g p c := by
  have hh := h.2
  unfold halfS
  rw [upd_rS1 t j h _ _ hp hc]
  refine ite_congr rfl (fun hi => ?_) fun _ => rfl
  rw [asStored_eq, nd_mulf, nd_halfOf _ _ (by omega) (by omega), nd_dyAt _ _ _ _ (by omega) (by omega), nd_gcAt _ _ _ (by omega) (by omega), hu]
  unfold gV
  congr 2 <;> omega

theorem half_w (k t : Fin 4) (j : Fin 32) (h : Fin 2) (r : FVec Ideal B8x128 .f32) (u s : St Ideal) (hu : u.x = s.x) (hr : IsDev k t r s)
    {p c : ℕ} (hp : p < 32) (hc : c < 8192) :
    nd (halfS t j h r (dyAt k t j u) (xAt k t j u) s).w p c =
      if 8 * t.val ≤ p ∧ p < 8 * t.val + 8 ∧ 256 * j.val + 128 * h.val ≤ c ∧ c < 256 * j.val + 128 * h.val + 128
      then wV (nd s.x) (nd s.rcol) (32 * k.val + p) c else nd s.w p c := by
  have hh := h.2
  unfold halfS
  rw [upd_rS1 t j h _ _ hp hc]
  refine ite_congr rfl (fun hi => ?_) fun _ => rfl
  rw [asStored_eq, nd_mulf, nd_halfOf _ _ (by omega) (by omega), nd_xAt _ _ _ _ (by omega) (by omega), hr _ _ (by omega) (by omega), hu]
  unfold wV
  congr 2 <;> omega

theorem slab_g (k t : Fin 4) (j : Fin 32) (r : FVec Ideal B8x128 .f32) (s : St Ideal) {p c : ℕ} (hp : p < 32) (hc : c < 8192) :
    nd (slabS k t j r s).g p c = if 8 * t.val ≤ p ∧ p < 8 * t.val + 8 ∧ 256 * j.val ≤ c ∧ c < 256 * j.val + 256
      then gV (nd s.dy) (nd s.gcol) (32 * k.val + p) c else nd s.g p c := by
  unfold slabS
  rw [half_g k t j 1 r s _ (halfS_dy ..).symm hp hc, half_g k t j 0 r s _ rfl hp hc, halfS_dy, halfS_gcol]
  have h0 : (0 : Fin 2).val = 0 := rfl
  have h1 : (1 : Fin 2).val = 1 := rfl
  split_ifs <;> first | rfl | (exfalso; omega)

theorem slab_w (k t : Fin 4) (j : Fin 32) (r : FVec Ideal B8x128 .f32) (s : St Ideal) (hr : IsDev k t r s) {p c : ℕ} (hp : p < 32) (hc : c < 8192) :
    nd (slabS k t j r s).w p c = if 8 * t.val ≤ p ∧ p < 8 * t.val + 8 ∧ 256 * j.val ≤ c ∧ c < 256 * j.val + 256
      then wV (nd s.x) (nd s.rcol) (32 * k.val + p) c else nd s.w p c := by
  unfold slabS
  have hr' : IsDev k t r (halfS t j 0 r (dyAt k t j s) (xAt k t j s) s) := by
    intro p l hp hl; rw [halfS_rcol]; exact hr p l hp hl
  rw [half_w k t j 1 r s _ (halfS_x ..).symm hr' hp hc, half_w k t j 0 r s _ rfl hr hp hc, halfS_x, halfS_rcol]
  have h0 : (0 : Fin 2).val = 0 := rfl
  have h1 : (1 : Fin 2).val = 1 := rfl
  split_ifs <;> first | rfl | (exfalso; omega)

/-- The product summed into a row's mean. -/
def gwV (p c : ℕ) : EReal := gV dy gc p c * wV x rc p c

theorem half_c (k t : Fin 4) (j : Fin 32) (h : Fin 2) (r c : FVec Ideal B8x128 .f32) (u s : St Ideal) (hr : IsDev k t r s) (hg : u.gcol = s.gcol)
    {p l : ℕ} (hp : p < 8) (hl : l < 128) :
    nd (halfC h r (dyAt k t j s) (xAt k t j s) (gcAt j h u) c) p l =
      nd c p l + gwV (nd s.dy) (nd s.x) (nd s.gcol) (nd s.rcol) (32 * k.val + 8 * t.val + p) (128 * (2 * j.val + h.val) + l) := by
  have hh := h.2
  unfold halfC
  rw [nd_addf, nd_mulf, nd_mulf, nd_mulf, nd_halfOf _ _ hp hl, nd_halfOf _ _ hp hl, nd_dyAt _ _ _ _ hp (by omega), nd_xAt _ _ _ _ hp (by omega),
    nd_gcAt _ _ _ hp hl, hr _ _ hp hl, hg]
  unfold gwV gV wV
  congr 3 <;> congr 1 <;> omega

theorem slab_c (k t : Fin 4) (j : Fin 32) (r c : FVec Ideal B8x128 .f32) (s : St Ideal) (hr : IsDev k t r s) {p l : ℕ} (hp : p < 8) (hl : l < 128) :
    nd (slabC k t j r c s) p l = nd c p l
      + gwV (nd s.dy) (nd s.x) (nd s.gcol) (nd s.rcol) (32 * k.val + 8 * t.val + p) (128 * (2 * j.val) + l)
      + gwV (nd s.dy) (nd s.x) (nd s.gcol) (nd s.rcol) (32 * k.val + 8 * t.val + p) (128 * (2 * j.val + 1) + l) := by
  unfold slabC
  rw [half_c k t j 1 r _ _ s hr (halfS_gcol ..) hp hl, half_c k t j 0 r _ _ s hr rfl hp hl]
  rfl

theorem half_d (k t : Fin 4) (j : Fin 32) (h : Fin 2) (r : FVec Ideal B8x128 .f32) (s : St Ideal) (hr : IsDev k t r s) {p l : ℕ} (hp : p < 8) (hl : l < 128) :
    nd (slabD k t j h r s) p l = eV (nd s.dy) (nd s.x) (nd s.rcol) (32 * k.val + 8 * t.val + p) (256 * j.val + 128 * h.val + l) := by
  have hh := h.2
  unfold slabD halfD
  rw [nd_mulf, nd_mulf, nd_halfOf _ _ hp hl, nd_halfOf _ _ hp hl, nd_dyAt _ _ _ _ hp (by omega), nd_xAt _ _ _ _ hp (by omega), hr _ _ hp hl]
  have e : 256 * j.val + (128 * h.val + l) = 256 * j.val + 128 * h.val + l := by omega
  have e' : (256 * j.val + 128 * h.val + l) % 128 = l := by omega
  unfold eV
  rw [e, e']

theorem addCols_acc (j : Fin 32) (h : Fin 2) (d0 d1 d2 d3 : FVec Ideal B8x128 .f32) (s : St Ideal) {p c : ℕ} (hp : p < 8) (hc : c < 8192) :
    nd (addColsS j h d0 d1 d2 d3 s).acc p c = if 256 * j.val + 128 * h.val ≤ c ∧ c < 256 * j.val + 128 * h.val + 128
      then nd s.acc p c + ((nd d0 p (c - (256 * j.val + 128 * h.val)) + nd d1 p (c - (256 * j.val + 128 * h.val)))
        + (nd d2 p (c - (256 * j.val + 128 * h.val)) + nd d3 p (c - (256 * j.val + 128 * h.val)))) else nd s.acc p c := by
  unfold addColsS
  rw [upd_rG j h _ _ hp hc]
  refine ite_congr rfl (fun hi => ?_) fun _ => rfl
  rw [asStored_eq]
  refine (nd_addf _ _ p _).trans ?_
  rw [nd_addf, nd_addf, nd_addf]
  congr 1
  refine (win_rG _ _ _ hp (by omega)).trans ?_
  congr 1; omega

/-- The slabs' deviations are those of a state. -/
structure IsDevs (k : Fin 4) (r : Four (FVec Ideal B8x128 .f32)) (s : St Ideal) : Prop where
  d0 : IsDev k 0 r.a0 s
  d1 : IsDev k 1 r.a1 s
  d2 : IsDev k 2 r.a2 s
  d3 : IsDev k 3 r.a3 s

theorem IsDev.of_eq {k t : Fin 4} {r : FVec Ideal B8x128 .f32} {s u : St Ideal} (h : IsDev k t r s) (e : u.rcol = s.rcol) : IsDev k t r u := by
  intro p l hp hl; rw [e]; exact h p l hp hl

theorem IsDevs.of_eq {k : Fin 4} {r : Four (FVec Ideal B8x128 .f32)} {s u : St Ideal} (h : IsDevs k r s) (e : u.rcol = s.rcol) : IsDevs k r u :=
  ⟨h.d0.of_eq e, h.d1.of_eq e, h.d2.of_eq e, h.d3.of_eq e⟩

theorem isDevs (k : Fin 4) (s : St Ideal) : IsDevs k (devs k s) s :=
  ⟨fun _ _ hp hl => win_rR k 0 s.rcol hp hl, fun _ _ hp hl => win_rR k 1 s.rcol hp hl, fun _ _ hp hl => win_rR k 2 s.rcol hp hl,
    fun _ _ hp hl => win_rR k 3 s.rcol hp hl⟩

theorem slabs4_gv (k : Fin 4) (j : Fin 32) (r : Four (FVec Ideal B8x128 .f32)) (s : St Ideal) {p c : ℕ} (hp : p < 32) (hc : c < 8192) :
    nd (slabs4 k j r s).g p c = if 256 * j.val ≤ c ∧ c < 256 * j.val + 256 then gV (nd s.dy) (nd s.gcol) (32 * k.val + p) c else nd s.g p c := by
  unfold slabs4; rw [slab_g _ _ _ _ _ hp hc, slabs3_dy, slabs3_gcol]
  unfold slabs3; rw [slab_g _ _ _ _ _ hp hc, slabs2_dy, slabs2_gcol]
  unfold slabs2; rw [slab_g _ _ _ _ _ hp hc, slabs1_dy, slabs1_gcol]
  unfold slabs1; rw [slab_g _ _ _ _ _ hp hc]
  have h0 : (0 : Fin 4).val = 0 := rfl
  have h1 : (1 : Fin 4).val = 1 := rfl
  have h2 : (2 : Fin 4).val = 2 := rfl
  have h3 : (3 : Fin 4).val = 3 := rfl
  split_ifs <;> first | rfl | (exfalso; omega)

theorem slabs4_wv (k : Fin 4) (j : Fin 32) (r : Four (FVec Ideal B8x128 .f32)) (s : St Ideal) (hr : IsDevs k r s) {p c : ℕ} (hp : p < 32) (hc : c < 8192) :
    nd (slabs4 k j r s).w p c = if 256 * j.val ≤ c ∧ c < 256 * j.val + 256 then wV (nd s.x) (nd s.rcol) (32 * k.val + p) c else nd s.w p c := by
  unfold slabs4; rw [slab_w _ _ _ _ _ (hr.d3.of_eq (slabs3_rcol ..)) hp hc, slabs3_x, slabs3_rcol]
  unfold slabs3; rw [slab_w _ _ _ _ _ (hr.d2.of_eq (slabs2_rcol ..)) hp hc, slabs2_x, slabs2_rcol]
  unfold slabs2; rw [slab_w _ _ _ _ _ (hr.d1.of_eq (slabs1_rcol ..)) hp hc, slabs1_x, slabs1_rcol]
  unfold slabs1; rw [slab_w _ _ _ _ _ hr.d0 hp hc]
  have h0 : (0 : Fin 4).val = 0 := rfl
  have h1 : (1 : Fin 4).val = 1 := rfl
  have h2 : (2 : Fin 4).val = 2 := rfl
  have h3 : (3 : Fin 4).val = 3 := rfl
  split_ifs <;> first | rfl | (exfalso; omega)

theorem groupD_accv (k : Fin 4) (j : Fin 32) (h : Fin 2) (r : Four (FVec Ideal B8x128 .f32)) (s u : St Ideal) (hr : IsDevs k r s)
    {p c : ℕ} (hp : p < 8) (hc : c < 8192) :
    nd (groupD k j h r s u).acc p c = if 256 * j.val + 128 * h.val ≤ c ∧ c < 256 * j.val + 128 * h.val + 128
      then nd u.acc p c + share (nd s.dy) (nd s.x) (nd s.rcol) k.val p c else nd u.acc p c := by
  unfold groupD
  rw [addCols_acc _ _ _ _ _ _ _ hp hc]
  refine ite_congr rfl (fun hi => ?_) fun _ => rfl
  rw [half_d _ _ _ _ _ _ hr.d0 hp (by omega), half_d _ _ _ _ _ _ (hr.d1.of_eq (slabs1_rcol ..)) hp (by omega),
    half_d _ _ _ _ _ _ (hr.d2.of_eq (slabs2_rcol ..)) hp (by omega), half_d _ _ _ _ _ _ (hr.d3.of_eq (slabs3_rcol ..)) hp (by omega)]
  simp only [slabs1_dy, slabs1_x, slabs1_rcol, slabs2_dy, slabs2_x, slabs2_rcol, slabs3_dy, slabs3_x, slabs3_rcol]
  have e : 256 * j.val + 128 * h.val + (c - (256 * j.val + 128 * h.val)) = c := by omega
  rw [e]
  rfl

theorem step1_g (k : Fin 4) (j : Fin 32) (r : Four (FVec Ideal B8x128 .f32)) (s : St Ideal) :
    (pass1StepS k j r s).g = (slabs4 k j r s).g := by
  unfold pass1StepS groupD; rw [addColsS_g, addColsS_g]

theorem step1_w (k : Fin 4) (j : Fin 32) (r : Four (FVec Ideal B8x128 .f32)) (s : St Ideal) :
    (pass1StepS k j r s).w = (slabs4 k j r s).w := by
  unfold pass1StepS groupD; rw [addColsS_w, addColsS_w]

theorem step1_acc (k : Fin 4) (j : Fin 32) (r : Four (FVec Ideal B8x128 .f32)) (s : St Ideal) (hr : IsDevs k r s) {p c : ℕ} (hp : p < 8) (hc : c < 8192) :
    nd (pass1StepS k j r s).acc p c = if 256 * j.val ≤ c ∧ c < 256 * j.val + 256
      then nd s.acc p c + share (nd s.dy) (nd s.x) (nd s.rcol) k.val p c else nd s.acc p c := by
  unfold pass1StepS
  rw [groupD_accv _ _ _ _ _ _ hr hp hc, groupD_accv _ _ _ _ _ _ hr hp hc, slabs4_acc]
  have h0 : (0 : Fin 2).val = 0 := rfl
  have h1 : (1 : Fin 2).val = 1 := rfl
  split_ifs <;> first | rfl | (exfalso; omega)

/-! ## The whole pass -/

theorem pass1_g (k : Fin 4) (r : Four (FVec Ideal B8x128 .f32)) : ∀ (n j : ℕ) (h : j + n = 32) (s : St Ideal) (p c : ℕ), p < 32 → c < 8192 →
    nd (pass1S k r n j h s).g p c = if 256 * j ≤ c then gV (nd s.dy) (nd s.gcol) (32 * k.val + p) c else nd s.g p c
  | 0, j, h, s, p, c, hp, hc => by rw [pass1S, if_neg (by omega)]
  | n + 1, j, h, s, p, c, hp, hc => by
      rw [pass1S, pass1_g k r n _ _ _ p c hp hc, pass1StepS_dy, pass1StepS_gcol, step1_g, slabs4_gv _ _ _ _ hp hc]
      split_ifs <;> first | rfl | (exfalso; omega) | (exfalso; simp only at *; omega)

theorem pass1_w (k : Fin 4) (r : Four (FVec Ideal B8x128 .f32)) : ∀ (n j : ℕ) (h : j + n = 32) (s : St Ideal) (hr : IsDevs k r s) (p c : ℕ), p < 32 → c < 8192 →
    nd (pass1S k r n j h s).w p c = if 256 * j ≤ c then wV (nd s.x) (nd s.rcol) (32 * k.val + p) c else nd s.w p c
  | 0, j, h, s, hr, p, c, hp, hc => by rw [pass1S, if_neg (by omega)]
  | n + 1, j, h, s, hr, p, c, hp, hc => by
      rw [pass1S, pass1_w k r n _ _ _ (hr.of_eq (pass1StepS_rcol ..)) p c hp hc, pass1StepS_x, pass1StepS_rcol, step1_w, slabs4_wv _ _ _ _ hr hp hc]
      split_ifs <;> first | rfl | (exfalso; omega) | (exfalso; simp only at *; omega)

theorem pass1_acc (k : Fin 4) (r : Four (FVec Ideal B8x128 .f32)) : ∀ (n j : ℕ) (h : j + n = 32) (s : St Ideal) (hr : IsDevs k r s) (p c : ℕ), p < 8 → c < 8192 →
    nd (pass1S k r n j h s).acc p c = if 256 * j ≤ c then nd s.acc p c + share (nd s.dy) (nd s.x) (nd s.rcol) k.val p c else nd s.acc p c
  | 0, j, h, s, hr, p, c, hp, hc => by rw [pass1S, if_neg (by omega)]
  | n + 1, j, h, s, hr, p, c, hp, hc => by
      rw [pass1S, pass1_acc k r n _ _ _ (hr.of_eq (pass1StepS_rcol ..)) p c hp hc, pass1StepS_dy, pass1StepS_x, pass1StepS_rcol, step1_acc _ _ _ _ hr hp hc]
      split_ifs <;> first | rfl | (exfalso; omega) | (exfalso; simp only at *; omega)

/-- A slab's partial sums after `n` chunks of columns from chunk `j` on. -/
def part (q l j n : ℕ) : EReal := ∑ m ∈ Finset.range n, gwV dy x gc rc q (128 * (j + m) + l)

theorem part_two (q l j n : ℕ) (a : EReal) : a + gwV dy x gc rc q (128 * j + l) + gwV dy x gc rc q (128 * (j + 1) + l) + part dy x gc rc q l (j + 2) n
    = a + part dy x gc rc q l j (n + 2) := by
  unfold part
  rw [Finset.sum_range_succ' _ (n + 1), Finset.sum_range_succ' _ n]
  simp only [Nat.add_zero, Nat.zero_add]
  have : ∑ m ∈ Finset.range n, gwV dy x gc rc q (128 * (j + (m + 1 + 1)) + l) = ∑ m ∈ Finset.range n, gwV dy x gc rc q (128 * (j + 2 + m) + l) :=
    Finset.sum_congr rfl fun m _ => by congr 3; omega
  rw [this]
  ac_rfl

theorem pass1_c (k : Fin 4) (r : Four (FVec Ideal B8x128 .f32)) : ∀ (n j : ℕ) (h : j + n = 32) (s : St Ideal) (hr : IsDevs k r s)
    (c : Four (FVec Ideal B8x128 .f32)) (p l : ℕ), p < 8 → l < 128 →
    nd (pass1C k r n j h s c).a0 p l = nd c.a0 p l + part (nd s.dy) (nd s.x) (nd s.gcol) (nd s.rcol) (32 * k.val + p) l (2 * j) (2 * n) ∧
    nd (pass1C k r n j h s c).a1 p l = nd c.a1 p l + part (nd s.dy) (nd s.x) (nd s.gcol) (nd s.rcol) (32 * k.val + 8 + p) l (2 * j) (2 * n) ∧
    nd (pass1C k r n j h s c).a2 p l = nd c.a2 p l + part (nd s.dy) (nd s.x) (nd s.gcol) (nd s.rcol) (32 * k.val + 16 + p) l (2 * j) (2 * n) ∧
    nd (pass1C k r n j h s c).a3 p l = nd c.a3 p l + part (nd s.dy) (nd s.x) (nd s.gcol) (nd s.rcol) (32 * k.val + 24 + p) l (2 * j) (2 * n)
  | 0, j, h, s, hr, c, p, l, hp, hl => by
      rw [pass1C]; unfold part; simp
  | n + 1, j, h, s, hr, c, p, l, hp, hl => by
      obtain ⟨i0, i1, i2, i3⟩ := pass1_c k r n (j + 1) (by omega) (pass1StepS k ⟨j, by omega⟩ r s) (hr.of_eq (pass1StepS_rcol ..))
        (pass1StepC k ⟨j, by omega⟩ r c s) p l hp hl
      rw [pass1C, i0, i1, i2, i3, pass1StepS_dy, pass1StepS_x, pass1StepS_gcol, pass1StepS_rcol]
      have e1 : 2 * (j + 1) = 2 * j + 2 := by omega
      have e2 : 2 * (n + 1) = 2 * n + 2 := by omega
      rw [e1, e2]
      simp only [← part_two]
      unfold pass1StepC
      refine ⟨?_, ?_, ?_, ?_⟩
      · simp only; rw [slab_c _ _ _ _ _ _ hr.d0 hp hl]; rfl
      · simp only; rw [slab_c _ _ _ _ _ _ (hr.d1.of_eq (slabs1_rcol ..)) hp hl, slabs1_dy, slabs1_x, slabs1_rcol, slabs1_gcol]; rfl
      · simp only; rw [slab_c _ _ _ _ _ _ (hr.d2.of_eq (slabs2_rcol ..)) hp hl, slabs2_dy, slabs2_x, slabs2_rcol, slabs2_gcol]; rfl
      · simp only; rw [slab_c _ _ _ _ _ _ (hr.d3.of_eq (slabs3_rcol ..)) hp hl, slabs3_dy, slabs3_x, slabs3_rcol, slabs3_gcol]; rfl

end Cert.Trip
-- ==== Proof.Pass2.lean ====
/-
  The second and third pass of a trip, and the whole trip: the codes, the scales and the column sums it leaves.
-/
module

public import proofs.«01_k».proof.Proof.Pass1

@[expose] public section

noncomputable section

namespace Cert.Trip

open Idealize.ShloMosaic

/-- The absolute value. -/
def ab (x : EReal) : EReal := max x (-x)

/-! ## The second pass -/

/-- A slab's vector holds a row's mean in every lane. -/
def IsMean (t : Fin 4) (c : FVec Ideal B8x128 .f32) (M : ℕ → EReal) : Prop := ∀ p l, p < 8 → l < 128 → nd c p l = M (8 * t.val + p)

structure IsMeans (c : Four (FVec Ideal B8x128 .f32)) (M : ℕ → EReal) : Prop where
  c0 : IsMean 0 c.a0 M
  c1 : IsMean 1 c.a1 M
  c2 : IsMean 2 c.a2 M
  c3 : IsMean 3 c.a3 M

theorem nd_diffAt (t : Fin 4) (j : Fin 64) (c : FVec Ideal B8x128 .f32) (M : ℕ → EReal) (hc : IsMean t c M) (s : St Ideal) {p l : ℕ} (hp : p < 8) (hl : l < 128) :
    nd (diffAt t j c s) p l = nd s.g (8 * t.val + p) (128 * j.val + l) - nd s.w (8 * t.val + p) (128 * j.val + l) * M (8 * t.val + p) := by
  unfold diffAt
  refine (nd_subf _ _ p l).trans ?_
  congr 1
  · exact win_rS2 t j s.g hp hl
  · refine (nd_mulf _ _ p l).trans ?_
    congr 1
    · exact win_rS2 t j s.w hp hl
    · exact hc p l hp hl

theorem sub2_g (t : Fin 4) (j : Fin 64) (c : FVec Ideal B8x128 .f32) (M : ℕ → EReal) (hc : IsMean t c M) (s : St Ideal) {p q : ℕ} (hp : p < 32) (hq : q < 8192) :
    nd (sub2S t j c s).g p q = if 8 * t.val ≤ p ∧ p < 8 * t.val + 8 ∧ 128 * j.val ≤ q ∧ q < 128 * j.val + 128
      then nd s.g p q - nd s.w p q * M p else nd s.g p q := by
  unfold sub2S
  rw [upd_rS2 t j _ _ hp hq]
  refine ite_congr rfl (fun hi => ?_) fun _ => rfl
  have e1 : 8 * t.val + (p - 8 * t.val) = p := by omega
  have e2 : 128 * j.val + (q - 128 * j.val) = q := by omega
  rw [asStored_eq, nd_diffAt _ _ _ M hc _ (by omega) (by omega), e1, e2]

theorem ite_four {A0 A1 A2 A3 J : Prop} [Decidable A0] [Decidable A1] [Decidable A2] [Decidable A3] [Decidable J] (f : EReal → EReal) (g : EReal)
    (h01 : ¬ (A0 ∧ A1)) (h02 : ¬ (A0 ∧ A2)) (h03 : ¬ (A0 ∧ A3)) (h12 : ¬ (A1 ∧ A2)) (h13 : ¬ (A1 ∧ A3)) (h23 : ¬ (A2 ∧ A3))
    (hJ : J ↔ A0 ∨ A1 ∨ A2 ∨ A3) (g0 g1 g2 : EReal) (e0 : g0 = if A0 then f g else g) (e1 : g1 = if A1 then f g0 else g0) (e2 : g2 = if A2 then f g1 else g1) :
    (if A3 then f g2 else g2) = if J then f g else g := by
  subst e2 e1 e0
  by_cases a0 : A0 <;> by_cases a1 : A1 <;> by_cases a2 : A2 <;> by_cases a3 : A3 <;> simp_all

theorem step2_g (j : Fin 64) (c : Four (FVec Ideal B8x128 .f32)) (M : ℕ → EReal) (hc : IsMeans c M) (s : St Ideal) {p q : ℕ} (hp : p < 32) (hq : q < 8192) :
    nd (pass2StepS j c s).g p q = if 128 * j.val ≤ q ∧ q < 128 * j.val + 128 then nd s.g p q - nd s.w p q * M p else nd s.g p q := by
  unfold pass2StepS
  rw [sub2_g _ _ _ M hc.c3 _ hp hq, sub2S_w, sub2S_w, sub2S_w]
  have h0 : (0 : Fin 4).val = 0 := rfl
  have h1 : (1 : Fin 4).val = 1 := rfl
  have h2 : (2 : Fin 4).val = 2 := rfl
  have h3 : (3 : Fin 4).val = 3 := rfl
  refine ite_four (fun v => v - nd s.w p q * M p) (nd s.g p q) (g1 := nd (sub2S 1 j c.a1 (sub2S 0 j c.a0 s)).g p q) (A0 := 8 * (0 : Fin 4).val ≤ p ∧ p < 8 * (0 : Fin 4).val + 8 ∧ 128 * j.val ≤ q ∧ q < 128 * j.val + 128)
    (A1 := 8 * (1 : Fin 4).val ≤ p ∧ p < 8 * (1 : Fin 4).val + 8 ∧ 128 * j.val ≤ q ∧ q < 128 * j.val + 128)
    (A2 := 8 * (2 : Fin 4).val ≤ p ∧ p < 8 * (2 : Fin 4).val + 8 ∧ 128 * j.val ≤ q ∧ q < 128 * j.val + 128)
    (by omega) (by omega) (by omega) (by omega) (by omega) (by omega) (by omega) _ (e0 := sub2_g 0 j _ M hc.c0 _ hp hq) (e1 := ?_) (e2 := ?_)
  · rw [sub2_g 1 j _ M hc.c1 _ hp hq, sub2S_w]
  · rw [sub2_g 2 j _ M hc.c2 _ hp hq, sub2S_w, sub2S_w]

theorem pass2_g (c : Four (FVec Ideal B8x128 .f32)) (M : ℕ → EReal) (hc : IsMeans c M) : ∀ (n j : ℕ) (h : j + n = 64) (s : St Ideal) (p q : ℕ), p < 32 → q < 8192 →
    nd (pass2S c n j h s).g p q = if 128 * j ≤ q then nd s.g p q - nd s.w p q * M p else nd s.g p q
  | 0, j, h, s, p, q, hp, hq => by rw [pass2S, if_neg (by omega)]
  | n + 1, j, h, s, p, q, hp, hq => by
      rw [pass2S, pass2_g c M hc n _ _ _ p q hp hq, step2_g _ _ M hc _ hp hq, pass2StepS_w]
      split_ifs <;> first | rfl | (exfalso; omega) | (exfalso; simp only at *; omega)

theorem sub2_a (t : Fin 4) (j : Fin 64) (c a : FVec Ideal B8x128 .f32) (M : ℕ → EReal) (hc : IsMean t c M) (s : St Ideal) {p l : ℕ} (hp : p < 8) (hl : l < 128) :
    nd (sub2A t j c a s) p l = max (nd a p l)
      (ab (nd s.g (8 * t.val + p) (128 * j.val + l) - nd s.w (8 * t.val + p) (128 * j.val + l) * M (8 * t.val + p))) := by
  unfold sub2A
  rw [nd_maximumf, nd_absf, nd_diffAt _ _ _ M hc _ hp hl]
  rfl

/-- The largest magnitude of `n` of a row's entries, every 128th from chunk `j` on. -/
def top (D : ℕ → EReal) (l j n : ℕ) : EReal := (Finset.range n).sup fun m => ab (D (128 * (j + m) + l))

theorem top_succ (D : ℕ → EReal) (l j n : ℕ) : max (ab (D (128 * j + l))) (top D l (j + 1) n) = top D l j (n + 1) := by
  unfold top
  apply le_antisymm
  · refine max_le ?_ (Finset.sup_le fun m hm => ?_)
    · exact Finset.le_sup (f := fun m => ab (D (128 * (j + m) + l))) (Finset.mem_range.mpr (Nat.succ_pos n))
    · have e : j + 1 + m = j + (m + 1) := by omega
      rw [e]
      exact Finset.le_sup (f := fun m => ab (D (128 * (j + m) + l))) (Finset.mem_range.mpr (Nat.succ_lt_succ (Finset.mem_range.mp hm)))
  · refine Finset.sup_le fun m hm => ?_
    rcases m with _ | m
    · exact le_max_left _ _
    · have e : j + (m + 1) = j + 1 + m := by omega
      rw [e]
      exact le_max_of_le_right (Finset.le_sup (f := fun m => ab (D (128 * (j + 1 + m) + l))) (Finset.mem_range.mpr (Nat.lt_of_succ_lt_succ (Finset.mem_range.mp hm))))

theorem top_congr (D E : ℕ → EReal) (l j n : ℕ) (hl : l < 128) (h : ∀ c, 128 * j ≤ c → c < 128 * (j + n) → D c = E c) : top D l j n = top E l j n := by
  unfold top
  refine Finset.sup_congr rfl fun m hm => ?_
  rw [h _ (by omega) (by have := Finset.mem_range.mp hm; omega)]

def dOf (M : ℕ → EReal) (s : St Ideal) (p c : ℕ) : EReal := nd s.g p c - nd s.w p c * M p

theorem pass2_a (c : Four (FVec Ideal B8x128 .f32)) (M : ℕ → EReal) (hc : IsMeans c M) : ∀ (n j : ℕ) (h : j + n = 64) (s : St Ideal)
    (a : Four (FVec Ideal B8x128 .f32)) (p l : ℕ), p < 8 → l < 128 →
    nd (pass2A c n j h s a).a0 p l = max (nd a.a0 p l) (top (dOf M s p) l j n) ∧
    nd (pass2A c n j h s a).a1 p l = max (nd a.a1 p l) (top (dOf M s (8 + p)) l j n) ∧
    nd (pass2A c n j h s a).a2 p l = max (nd a.a2 p l) (top (dOf M s (16 + p)) l j n) ∧
    nd (pass2A c n j h s a).a3 p l = max (nd a.a3 p l) (top (dOf M s (24 + p)) l j n)
  | 0, j, h, s, a, p, l, hp, hl => by
      rw [pass2A]; unfold top; simp
  | n + 1, j, h, s, a, p, l, hp, hl => by
      obtain ⟨i0, i1, i2, i3⟩ := pass2_a c M hc n (j + 1) (by omega) (pass2StepS ⟨j, by omega⟩ c s) (pass2StepA ⟨j, by omega⟩ c a s) p l hp hl
      have e : ∀ q, q < 32 → top (dOf M (pass2StepS ⟨j, by omega⟩ c s) q) l (j + 1) n = top (dOf M s q) l (j + 1) n := fun q hq =>
        top_congr _ _ _ _ _ hl fun c' h1 h2 => by
          unfold dOf
          rw [step2_g _ _ M hc _ hq (by omega), if_neg (by simp only; omega), pass2StepS_w]
      rw [pass2A, i0, i1, i2, i3, e _ (by omega), e _ (by omega), e _ (by omega), e _ (by omega), ← top_succ, ← top_succ, ← top_succ, ← top_succ,
        ← max_assoc, ← max_assoc, ← max_assoc, ← max_assoc]
      unfold pass2StepA
      have hw : ∀ (t : Fin 4) (c' : FVec Ideal B8x128 .f32) (u : St Ideal), IsMean t c' M → ∀ p' q', p' < 32 → q' < 8192 → ¬ (8 * t.val ≤ p' ∧ p' < 8 * t.val + 8) →
          nd (sub2S t ⟨j, by omega⟩ c' u).g p' q' = nd u.g p' q' := fun t c' u hu p' q' hp' hq' hn => by
        rw [sub2_g _ _ _ M hu _ hp' hq', if_neg (by omega)]
      have h0 : (0 : Fin 4).val = 0 := rfl
      have h1 : (1 : Fin 4).val = 1 := rfl
      have h2 : (2 : Fin 4).val = 2 := rfl
      have h3 : (3 : Fin 4).val = 3 := rfl
      refine ⟨?_, ?_, ?_, ?_⟩
      · simp only
        rw [sub2_a _ _ _ _ M hc.c0 _ hp hl, h0, Nat.mul_zero, Nat.zero_add]; rfl
      · simp only
        rw [sub2_a _ _ _ _ M hc.c1 _ hp hl, h1, Nat.mul_one, hw 0 _ _ hc.c0 _ _ (by omega) (by simp only; omega) (by omega), sub2S_w]; rfl
      · simp only
        rw [sub2_a _ _ _ _ M hc.c2 _ hp hl, h2, hw 1 _ _ hc.c1 _ _ (by omega) (by simp only; omega) (by omega),
          hw 0 _ _ hc.c0 _ _ (by omega) (by simp only; omega) (by omega), sub2S_w, sub2S_w]; rfl
      · simp only
        rw [sub2_a _ _ _ _ M hc.c3 _ hp hl, h3, hw 2 _ _ hc.c2 _ _ (by omega) (by simp only; omega) (by omega), hw 1 _ _ hc.c1 _ _ (by omega) (by simp only; omega) (by omega),
          hw 0 _ _ hc.c0 _ _ (by omega) (by simp only; omega) (by omega), sub2S_w, sub2S_w, sub2S_w]; rfl

/-! ## The quantiser's row values -/

/-- A step of the search for the exponent field of `q`. -/
def sStep (q : EReal) (s d n : BitVec 32) : BitVec 32 := if Ideal.ofBits .f32 ((n + d + 127#32) <<< 23) ≤ q then n + s else n

/-- The search. -/
def sSearch (q : EReal) : BitVec 32 :=
  sStep q 1#32 4294967170#32 (sStep q 2#32 4294967171#32 (sStep q 4#32 4294967173#32 (sStep q 8#32 4294967177#32
    (sStep q 16#32 4294967185#32 (sStep q 32#32 4294967201#32 (sStep q 64#32 4294967233#32 (sStep q 128#32 1#32 0#32)))))))

/-- The exponent field, at most 239. -/
def sField (q : EReal) : BitVec 32 := IntOp.minsi (sSearch q) 239#32

/-- The exponent chosen for a quotient. -/
def sExpo (q : EReal) : BitVec 32 := if sField q = 0#32 then 0#32 else sField q - 126#32

/-- The float with a given exponent. -/
def sPow2 (e : BitVec 32) : EReal := Ideal.ofBits .f32 ((e + 127#32) <<< 23)

theorem field_at (q : FVec Ideal B8x128 .f32) (i : B8x128.Idx) : field q i = sField (q i) := by
  have h : ∀ (a b : IVec B8x128 32), minsi a b i = IntOp.minsi (a i) (b i) := fun _ _ => rfl
  unfold field
  rw [h]
  simp only [searchStep_at]
  rfl

theorem expo_at (q : FVec Ideal B8x128 .f32) (i : B8x128.Idx) : expo q i = sExpo (q i) := by
  have h : ∀ (c : IVec B8x128 1) (a b : IVec B8x128 32), select c a b i = if c i = 1#1 then a i else b i := fun _ _ _ => rfl
  have h' : ∀ (a b : IVec B8x128 32), cmpi .eq a b i = BitVec.ofBool (a i == b i) := fun _ _ => rfl
  have h'' : ∀ (a b : IVec B8x128 32), subi a b i = a i - b i := fun _ _ => rfl
  have h3 : ∀ b : BitVec 32, broadcast B8x128 b i = b := fun _ => rfl
  unfold expo sExpo
  rw [h, h', h'', h3, h3, field_at]
  by_cases e : sField (q i) = 0#32
  · simp [e]
  · have e' : (sField (q i) == 0#32) = false := by simpa using e
    rw [e']; simp [e]

theorem nd_scale (q : FVec Ideal B8x128 .f32) {p l : ℕ} (hp : p < 8) (hl : l < 128) :
    nd (pow2 (expo q) : FVec Ideal B8x128 .f32) p l = sPow2 (sExpo (nd q p l)) := by
  rw [nd_lt _ hp hl, pow2_at, expo_at, nd_lt _ hp hl]; rfl

theorem nd_negScale (q : FVec Ideal B8x128 .f32) {p l : ℕ} (hp : p < 8) (hl : l < 128) :
    nd (pow2 (negExpo (expo q)) : FVec Ideal B8x128 .f32) p l = sPow2 (0#32 - sExpo (nd q p l)) := by
  have e : negExpo (expo q) (ix2 ⟨p, hp⟩ ⟨l, hl⟩) = 0#32 - expo q (ix2 ⟨p, hp⟩ ⟨l, hl⟩) := rfl
  rw [nd_lt _ hp hl, pow2_at, e, expo_at, nd_lt _ hp hl]; rfl

theorem nd_ratio (a r : FVec Ideal B8x128 .f32) {p l : ℕ} (hp : p < 8) (hl : l < 128) :
    nd (ratio a r) p l = ((Finset.range 128).sup fun k => nd a p k) * ab (nd r p l) * Ideal.ofBits .f32 0x37924925#32 := by
  rw [nd_lt _ hp hl, ratio_at, nd_fin (rowMax a), nd_fin r, nd_rowMax _ hp hl]; rfl

variable (dy x gc rc : ℕ → ℕ → EReal)

/-- The row's largest entry. -/
def xV (p : ℕ) : EReal := (Finset.range 128).sup fun l => max 0 (top (dV dy x gc rc p) l 0 64)
def qV (p l : ℕ) : EReal := xV dy x gc rc p * ab (rc p l) * Ideal.ofBits .f32 0x37924925#32
def sV (p l : ℕ) : EReal := sPow2 (sExpo (qV dy x gc rc p l))
def fV (p l : ℕ) : EReal := rc p l * sPow2 (0#32 - sExpo (qV dy x gc rc p l))
def cV (p c : ℕ) : EReal :=
  min (Ideal.ofBits .f32 0x47600000#32) (max (Ideal.ofBits .f32 0xC7600000#32) (dV dy x gc rc p c * fV dy x gc rc p (c % 128)))

theorem quant_scol (k t : Fin 4) (r a : FVec Ideal B8x128 .f32) (s : St Ideal) {p l : ℕ} (hp : p < 128) (hl : l < 128) :
    nd (quantS k t r a s).scol p l = if 32 * k.val + 8 * t.val ≤ p ∧ p < 32 * k.val + 8 * t.val + 8
      then sPow2 (sExpo (nd (ratio a r) (p - (32 * k.val + 8 * t.val)) l)) else nd s.scol p l := by
  unfold quantS
  rw [upd_rR k t _ _ hp hl]
  refine ite_congr rfl (fun hi => ?_) fun _ => rfl
  rw [asStored_eq, nd_scale _ (by omega) hl]

theorem nd_factor (r a : FVec Ideal B8x128 .f32) {p l : ℕ} (hp : p < 8) (hl : l < 128) :
    nd (factor r a) p l = nd r p l * sPow2 (0#32 - sExpo (nd (ratio a r) p l)) := by
  unfold factor
  rw [nd_mulf, nd_negScale _ hp hl]

theorem nd_stack (k0 k1 k2 k3 : FVec Ideal B8x128 .f32) {p l : ℕ} (hp : p < 32) (hl : l < 128) :
    nd (stack k0 k1 k2 k3) p l = if p < 8 then nd k0 p l else if p < 16 then nd k1 (p - 8) l else if p < 24 then nd k2 (p - 16) l else nd k3 (p - 24) l := by
  rw [nd_lt _ hp hl, stack_at]
  simp only
  split_ifs <;> first | (exfalso; omega) | exact (nd_lt _ (by omega) hl).symm | exact (nd_lt _ (by omega) hl).symm.trans (congrArg (fun z => nd _ z l) (by omega))

theorem step3_codes (k : Fin 4) (j : Fin 64) (f : FVec Ideal B32x128 .f32) (s : St Ideal) {p c : ℕ} (hp : p < 128) (hc : c < 8192) :
    nd (pass3StepS k j f s).codes p c = if 32 * k.val ≤ p ∧ p < 32 * k.val + 32 ∧ 128 * j.val ≤ c ∧ c < 128 * j.val + 128
      then min (Ideal.ofBits .f32 0x47600000#32) (max (Ideal.ofBits .f32 0xC7600000#32) (nd s.g (p - 32 * k.val) c * nd f (p - 32 * k.val) (c % 128)))
      else nd s.codes p c := by
  unfold pass3StepS
  refine (upd_rC k j _ _ hp hc).trans ?_
  refine ite_congr rfl (fun hi => ?_) fun _ => rfl
  have h1 : p - 32 * k.val < 32 := by omega
  have h2 : c - 128 * j.val < 128 := by omega
  have e1 : 128 * j.val + (c - 128 * j.val) = c := by omega
  have e2 : c - 128 * j.val = c % 128 := by omega
  have hw := win_rS3 j s.g h1 h2
  rw [e1] at hw
  rw [nd_lt _ h1 h2]
  refine (code_at f _ _).trans ?_
  have hf : nd f (p - 32 * k.val) (c % 128) = f (ix2 ⟨p - 32 * k.val, h1⟩ ⟨c - 128 * j.val, h2⟩) := by rw [← e2, nd_lt _ h1 h2]
  have hw' := (nd_lt (n := 32) (m := 128) (win (rS3 j) s.g) h1 h2).symm.trans hw
  rw [hf]
  exact congrArg (fun z => min (Ideal.ofBits .f32 0x47600000#32) (max (Ideal.ofBits .f32 0xC7600000#32)
    (z * f (ix2 ⟨p - 32 * k.val, h1⟩ ⟨c - 128 * j.val, h2⟩)))) hw'

theorem pass3_codes (k : Fin 4) (f : FVec Ideal B32x128 .f32) : ∀ (n j : ℕ) (h : j + n = 64) (s : St Ideal) (p c : ℕ), p < 128 → c < 8192 →
    nd (pass3S k f n j h s).codes p c = if 32 * k.val ≤ p ∧ p < 32 * k.val + 32 ∧ 128 * j ≤ c
      then min (Ideal.ofBits .f32 0x47600000#32) (max (Ideal.ofBits .f32 0xC7600000#32) (nd s.g (p - 32 * k.val) c * nd f (p - 32 * k.val) (c % 128)))
      else nd s.codes p c
  | 0, j, h, s, p, c, hp, hc => by rw [pass3S, if_neg (by omega)]
  | n + 1, j, h, s, p, c, hp, hc => by
      rw [pass3S, pass3_codes k f n _ _ _ p c hp hc, step3_codes _ _ _ _ hp hc, pass3StepS_g]
      split_ifs <;> first | rfl | (exfalso; omega) | (exfalso; simp only at *; omega)

end Cert.Trip
-- ==== Proof.TripVal.lean ====
/-
  What a trip, all four trips and the whole body leave in the codes, the scales and the column sums.
-/
module

public import proofs.«01_k».proof.Proof.Pass2

@[expose] public section

noncomputable section

namespace Cert.Trip

open Idealize.ShloMosaic

/-- What a value of the row functions reads. -/
abbrev atState {α : Sort*} (f : (ℕ → ℕ → EReal) → (ℕ → ℕ → EReal) → (ℕ → ℕ → EReal) → (ℕ → ℕ → EReal) → α) (s : St Ideal) : α :=
  f (nd s.dy) (nd s.x) (nd s.gcol) (nd s.rcol)

theorem mean_of_part (k : Fin 4) (t : Fin 4) (s : St Ideal) (c : FVec Ideal B8x128 .f32)
    (h : ∀ p l, p < 8 → l < 128 → nd c p l = nd (zero : FVec Ideal B8x128 .f32) p l + atState part s (32 * k.val + 8 * t.val + p) l 0 64) :
    IsMean t (mean c) (fun p => atState mV s (32 * k.val + p)) := by
  intro p l hp hl
  rw [nd_mean _ hp hl]
  simp only [atState, mV]
  congr 1
  refine Finset.sum_congr rfl fun l' hl' => ?_
  rw [h p l' hp (Finset.mem_range.mp hl'), nd_zero, zero_add]
  unfold part
  refine Finset.sum_congr rfl fun m _ => ?_
  rw [Nat.zero_add, ← Nat.add_assoc]
  rfl

theorem means_are (k : Fin 4) (s : St Ideal) : IsMeans (means k s) (fun p => atState mV s (32 * k.val + p)) := by
  have h := fun p l hp hl => pass1_c k (devs k s) 32 0 rfl s (isDevs k s) zeros p l hp hl
  refine ⟨?_, ?_, ?_, ?_⟩
  · exact mean_of_part k 0 s _ fun p l hp hl => (h p l hp hl).1
  · exact mean_of_part k 1 s _ fun p l hp hl => (h p l hp hl).2.1
  · exact mean_of_part k 2 s _ fun p l hp hl => (h p l hp hl).2.2.1
  · exact mean_of_part k 3 s _ fun p l hp hl => (h p l hp hl).2.2.2

theorem after1_g (k : Fin 4) (s : St Ideal) {p c : ℕ} (hp : p < 32) (hc : c < 8192) : nd (after1 k s).g p c = gV (nd s.dy) (nd s.gcol) (32 * k.val + p) c := by
  unfold after1; rw [pass1_g k _ 32 0 rfl s p c hp hc, if_pos (by omega)]

theorem after1_w (k : Fin 4) (s : St Ideal) {p c : ℕ} (hp : p < 32) (hc : c < 8192) : nd (after1 k s).w p c = wV (nd s.x) (nd s.rcol) (32 * k.val + p) c := by
  unfold after1; rw [pass1_w k _ 32 0 rfl s (isDevs k s) p c hp hc, if_pos (by omega)]

theorem dOf_after1 (k : Fin 4) (s : St Ideal) {p c : ℕ} (hp : p < 32) (hc : c < 8192) :
    dOf (fun p => atState mV s (32 * k.val + p)) (after1 k s) p c = atState dV s (32 * k.val + p) c := by
  unfold dOf; rw [after1_g k s hp hc, after1_w k s hp hc]; rfl

theorem after2_g (k : Fin 4) (s : St Ideal) {p c : ℕ} (hp : p < 32) (hc : c < 8192) : nd (after2 k s).g p c = atState dV s (32 * k.val + p) c := by
  unfold after2; rw [pass2_g _ _ (means_are k s) 64 0 rfl _ p c hp hc, if_pos (by omega)]
  exact dOf_after1 k s hp hc

theorem maxima_are (k : Fin 4) (s : St Ideal) {p l : ℕ} (hp : p < 8) (hl : l < 128) :
    nd (maxima k s).a0 p l = max 0 (top (atState dV s (32 * k.val + p)) l 0 64) ∧
    nd (maxima k s).a1 p l = max 0 (top (atState dV s (32 * k.val + 8 + p)) l 0 64) ∧
    nd (maxima k s).a2 p l = max 0 (top (atState dV s (32 * k.val + 16 + p)) l 0 64) ∧
    nd (maxima k s).a3 p l = max 0 (top (atState dV s (32 * k.val + 24 + p)) l 0 64) := by
  obtain ⟨i0, i1, i2, i3⟩ := pass2_a _ _ (means_are k s) 64 0 rfl (after1 k s) zeros p l hp hl
  have e : ∀ q, q < 32 → top (dOf (fun p => atState mV s (32 * k.val + p)) (after1 k s) q) l 0 64 = top (atState dV s (32 * k.val + q)) l 0 64 :=
    fun q hq => top_congr _ _ _ _ _ hl fun c _ hc => dOf_after1 k s hq (by omega)
  unfold maxima
  rw [i0, i1, i2, i3, e _ (by omega), e _ (by omega), e _ (by omega), e _ (by omega), Nat.add_assoc, Nat.add_assoc, Nat.add_assoc]
  simp only [zeros, nd_zero, and_self]

theorem ratio_is (k t : Fin 4) (s : St Ideal) (a r : FVec Ideal B8x128 .f32) (hr : IsDev k t r s)
    (ha : ∀ p l, p < 8 → l < 128 → nd a p l = max 0 (top (atState dV s (32 * k.val + 8 * t.val + p)) l 0 64)) {p l : ℕ} (hp : p < 8) (hl : l < 128) :
    nd (ratio a r) p l = atState qV s (32 * k.val + 8 * t.val + p) l := by
  rw [nd_ratio _ _ hp hl, hr p l hp hl]
  simp only [atState, qV, xV]
  congr 2
  exact Finset.sup_congr rfl fun l' hl' => ha p l' hp (Finset.mem_range.mp hl')

theorem ratios_are (k : Fin 4) (s : St Ideal) {p l : ℕ} (hp : p < 8) (hl : l < 128) :
    nd (ratio (maxima k s).a0 (devs k s).a0) p l = atState qV s (32 * k.val + p) l ∧
    nd (ratio (maxima k s).a1 (devs k s).a1) p l = atState qV s (32 * k.val + 8 + p) l ∧
    nd (ratio (maxima k s).a2 (devs k s).a2) p l = atState qV s (32 * k.val + 16 + p) l ∧
    nd (ratio (maxima k s).a3 (devs k s).a3) p l = atState qV s (32 * k.val + 24 + p) l :=
  ⟨ratio_is k 0 s _ _ (isDevs k s).d0 (fun p l hp hl => (maxima_are k s hp hl).1) hp hl,
    ratio_is k 1 s _ _ (isDevs k s).d1 (fun p l hp hl => (maxima_are k s hp hl).2.1) hp hl,
    ratio_is k 2 s _ _ (isDevs k s).d2 (fun p l hp hl => (maxima_are k s hp hl).2.2.1) hp hl,
    ratio_is k 3 s _ _ (isDevs k s).d3 (fun p l hp hl => (maxima_are k s hp hl).2.2.2) hp hl⟩

theorem factors_are (k : Fin 4) (s : St Ideal) {p l : ℕ} (hp : p < 32) (hl : l < 128) :
    nd (factors (devs k s) (maxima k s)) p l = atState fV s (32 * k.val + p) l := by
  unfold factors
  rw [nd_stack _ _ _ _ hp hl]
  have hr := isDevs k s
  split_ifs with h1 h2 h3
  · rw [nd_factor _ _ h1 hl, (ratios_are k s h1 hl).1, hr.d0 _ _ h1 hl]; rfl
  · have e : 32 * k.val + 8 + (p - 8) = 32 * k.val + p := by omega
    rw [nd_factor _ _ (by omega) hl, (ratios_are k s (by omega) hl).2.1, hr.d1 _ _ (by omega) hl]
    show nd s.rcol (32 * k.val + 8 + (p - 8)) l * _ = _
    rw [e]; rfl
  · have e : 32 * k.val + 16 + (p - 16) = 32 * k.val + p := by omega
    rw [nd_factor _ _ (by omega) hl, (ratios_are k s (by omega) hl).2.2.1, hr.d2 _ _ (by omega) hl]
    show nd s.rcol (32 * k.val + 16 + (p - 16)) l * _ = _
    rw [e]; rfl
  · have e : 32 * k.val + 24 + (p - 24) = 32 * k.val + p := by omega
    rw [nd_factor _ _ (by omega) hl, (ratios_are k s (by omega) hl).2.2.2, hr.d3 _ _ (by omega) hl]
    show nd s.rcol (32 * k.val + 24 + (p - 24)) l * _ = _
    rw [e]; rfl

/-! ## A trip -/

theorem trip_codes (k : Fin 4) (s : St Ideal) {p c : ℕ} (hp : p < 128) (hc : c < 8192) :
    nd (tripS k s).codes p c = if 32 * k.val ≤ p ∧ p < 32 * k.val + 32 then atState cV s p c else nd s.codes p c := by
  unfold tripS
  rw [pass3_codes k _ 64 0 rfl _ p c hp hc, quantAllS_g, quantAllS_codes]
  have hk : (after2 k s).codes = s.codes := by unfold after2 after1; rw [pass2S_codes, pass1S_codes]
  rw [hk]
  by_cases h : 32 * k.val ≤ p ∧ p < 32 * k.val + 32
  · have e : 32 * k.val + (p - 32 * k.val) = p := by omega
    rw [if_pos (by omega), if_pos h, after2_g k s (by omega) hc, factors_are k s (by omega) (by omega), e]
    rfl
  · rw [if_neg (by omega), if_neg h]

theorem trip_scol (k : Fin 4) (s : St Ideal) {p l : ℕ} (hp : p < 128) (hl : l < 128) :
    nd (tripS k s).scol p l = if 32 * k.val ≤ p ∧ p < 32 * k.val + 32 then atState sV s p l else nd s.scol p l := by
  unfold tripS
  rw [pass3S_scol]
  unfold quantAllS
  rw [quant_scol _ _ _ _ _ hp hl, quant_scol _ _ _ _ _ hp hl, quant_scol _ _ _ _ _ hp hl, quant_scol _ _ _ _ _ hp hl]
  have hk : (after2 k s).scol = s.scol := by unfold after2 after1; rw [pass2S_scol, pass1S_scol]
  rw [hk]
  have h0 : (0 : Fin 4).val = 0 := rfl
  have h1 : (1 : Fin 4).val = 1 := rfl
  have h2 : (2 : Fin 4).val = 2 := rfl
  have h3 : (3 : Fin 4).val = 3 := rfl
  unfold sV
  split_ifs
  · rw [(ratios_are k s (by omega) hl).2.2.2, show 32 * k.val + 24 + (p - (32 * k.val + 8 * (3 : Fin 4).val)) = p by omega]
  · omega
  · rw [(ratios_are k s (by omega) hl).2.2.1, show 32 * k.val + 16 + (p - (32 * k.val + 8 * (2 : Fin 4).val)) = p by omega]
  · omega
  · rw [(ratios_are k s (by omega) hl).2.1, show 32 * k.val + 8 + (p - (32 * k.val + 8 * (1 : Fin 4).val)) = p by omega]
  · omega
  · rw [(ratios_are k s (by omega) hl).1, show 32 * k.val + (p - (32 * k.val + 8 * (0 : Fin 4).val)) = p by omega]
  · omega
  · omega
  · rfl

theorem trip_acc (k : Fin 4) (s : St Ideal) {p c : ℕ} (hp : p < 8) (hc : c < 8192) :
    nd (tripS k s).acc p c = nd s.acc p c + share (nd s.dy) (nd s.x) (nd s.rcol) k.val p c := by
  unfold tripS
  rw [pass3S_acc, quantAllS_acc]
  unfold after2
  rw [pass2S_acc]
  unfold after1
  rw [pass1_acc k _ 32 0 rfl s (isDevs k s) p c hp hc, if_pos (by omega)]

/-- What the trips leave alone. -/
structure Same (s u : St Ideal) : Prop where
  x : s.x = u.x
  dy : s.dy = u.dy
  gamma : s.gamma = u.gamma
  rstd : s.rstd = u.rstd
  dgamma : s.dgamma = u.dgamma
  scale : s.scale = u.scale
  gcol : s.gcol = u.gcol
  rcol : s.rcol = u.rcol

theorem trip_same (k : Fin 4) (s : St Ideal) : Same (tripS k s) s := by
  unfold tripS after2 after1
  exact ⟨by rw [pass3S_x, quantAllS_x, pass2S_x, pass1S_x], by rw [pass3S_dy, quantAllS_dy, pass2S_dy, pass1S_dy],
    by rw [pass3S_gamma, quantAllS_gamma, pass2S_gamma, pass1S_gamma], by rw [pass3S_rstd, quantAllS_rstd, pass2S_rstd, pass1S_rstd],
    by rw [pass3S_dgamma, quantAllS_dgamma, pass2S_dgamma, pass1S_dgamma], by rw [pass3S_scale, quantAllS_scale, pass2S_scale, pass1S_scale],
    by rw [pass3S_gcol, quantAllS_gcol, pass2S_gcol, pass1S_gcol], by rw [pass3S_rcol, quantAllS_rcol, pass2S_rcol, pass1S_rcol]⟩

theorem Same.trans {s u v : St Ideal} (h : Same s u) (k : Same u v) : Same s v :=
  ⟨h.x.trans k.x, h.dy.trans k.dy, h.gamma.trans k.gamma, h.rstd.trans k.rstd, h.dgamma.trans k.dgamma, h.scale.trans k.scale,
    h.gcol.trans k.gcol, h.rcol.trans k.rcol⟩

theorem Same.at {α : Sort*} {s u : St Ideal} (h : Same s u) (f : (ℕ → ℕ → EReal) → (ℕ → ℕ → EReal) → (ℕ → ℕ → EReal) → (ℕ → ℕ → EReal) → α) :
    atState f s = atState f u := by
  unfold atState; rw [h.x, h.dy, h.gcol, h.rcol]

/-! ## The loop -/

theorem trips_spec (s : St Ideal) : ∀ n, n ≤ 4 → Same (tripsS n s) s ∧
    (∀ p c, p < 128 → c < 8192 → nd (tripsS n s).codes p c = if p < 32 * n then atState cV s p c else nd s.codes p c) ∧
    (∀ p l, p < 128 → l < 128 → nd (tripsS n s).scol p l = if p < 32 * n then atState sV s p l else nd s.scol p l) ∧
    (∀ p c, p < 8 → c < 8192 → nd (tripsS n s).acc p c = nd s.acc p c + ∑ k ∈ Finset.range n, share (nd s.dy) (nd s.x) (nd s.rcol) k p c)
  | 0, _ => ⟨⟨rfl, rfl, rfl, rfl, rfl, rfl, rfl, rfl⟩, fun p c _ _ => by rw [if_neg (by omega)]; rfl, fun p c _ _ => by rw [if_neg (by omega)]; rfl,
      fun p c _ _ => by rw [Finset.sum_range_zero, add_zero]; rfl⟩
  | n + 1, hn => by
      obtain ⟨hs, hc, hl, ha⟩ := trips_spec s n (by omega)
      have e : tripsS (n + 1) s = tripS ⟨n, by omega⟩ (tripsS n s) := by rw [tripsS, dif_pos (by omega)]
      rw [e]
      refine ⟨(trip_same _ _).trans hs, fun p c h1 h2 => ?_, fun p c h1 h2 => ?_, fun p c h1 h2 => ?_⟩
      · rw [trip_codes _ _ h1 h2, hc p c h1 h2, hs.at]
        split_ifs <;> first | rfl | (exfalso; simp only at *; omega)
      · rw [trip_scol _ _ h1 h2, hl p c h1 h2, hs.at]
        split_ifs <;> first | rfl | (exfalso; simp only at *; omega)
      · rw [trip_acc _ _ h1 h2, ha p c h1 h2, hs.x, hs.dy, hs.rcol, Finset.sum_range_succ, add_assoc]

end Cert.Trip
-- ==== Proof.BodyVal.lean ====
/-
  What the body leaves at a grid point, in the buffers that anything is later read from.
-/
module

public import proofs.«01_k».proof.Proof.TripVal

@[expose] public section

set_option maxRecDepth 16384

noncomputable section

namespace Cert.Trip

open Idealize.ShloMosaic

/-- Gamma over eight rows, and a column of reciprocal deviations over 128 lanes. -/
def GC (Γ : ℕ → EReal) (p c : ℕ) : EReal := if p < 8 ∧ c < 8192 then Γ c else 0
def RC (r : ℕ → EReal) (p l : ℕ) : EReal := if p < 128 ∧ l < 128 then r p else 0

theorem zeroBits : Ideal.ofBits .f32 0x00000000#32 = 0 := by
  simp [Ideal.ofBits, Ideal.ieee]

theorem isRow_iff (a : ℕ) (ha : a < 5) (k : Fin 5) (l : Fin 128) : isRow a (ix2 k l) = 1#1 ↔ k.val = a := by
  rw [isRow_at]
  have h : ∀ (k a : Fin 5), BitVec.ofBool (BitVec.ofNat 32 k.val == BitVec.ofNat 32 a.val) = 1#1 ↔ k.val = a.val := by decide +kernel
  exact h k ⟨a, ha⟩

theorem nd_spread (v : Vec Ideal B1x8192 .f32) : nd (spread v) = GC (nd v 0) := by
  funext p c
  unfold GC
  split
  · rename_i h
    rw [nd_lt _ h.1 h.2, spread_at, nd_lt _ (by omega) h.2]; rfl
  · rename_i h
    unfold nd; rw [dif_neg h]

theorem nd_toCol (a : ℕ) (ha : a < 5) (v : Vec Ideal B5x128 .f32) : nd (toCol a v) = RC (nd v a) := by
  funext p l
  unfold RC
  split
  · rename_i h
    rw [nd_lt _ h.1 h.2, toCol_at, Finset.sum_eq_single_of_mem (⟨a, ha⟩ : Fin 5) (Finset.mem_univ _), if_pos ((isRow_iff a ha _ _).mpr rfl),
      nd_lt _ ha h.1]
    intro k _ hk
    rw [if_neg (fun e => hk (Fin.ext ((isRow_iff a ha _ _).mp e))), zeroBits]
  · rename_i h
    unfold nd; rw [dif_neg h]

theorem nd_fromCol (a : ℕ) (ha : a < 5) (v : Vec Ideal B128x128 .f32) (old : Vec Ideal B5x128 .f32) {k l : ℕ} (hk : k < 5) (hl : l < 128) :
    nd (fromCol a v old) k l = if k = a then nd v l 0 else nd old k l := by
  rw [nd_lt _ hk hl, fromCol_at, nd_lt v hl (by omega), nd_lt old hk hl]
  exact if_congr (isRow_iff a ha _ _) rfl rfl

theorem nd_total (v : Vec Ideal B8x8192 .f32) {z c : ℕ} (hz : z < 1) (hc : c < 8192) : nd (total v) z c = ∑ p ∈ Finset.range 8, nd v p c := by
  rw [nd_lt _ hz hc, total_at, ← sum_fin]
  exact Finset.sum_congr rfl fun k _ => nd_fin v k _

theorem nd_zeroAcc {p c : ℕ} : nd (zeroAcc : FVec Ideal B8x8192 .f32) p c = 0 := by
  unfold nd; split
  · rw [zeroAcc_at, zeroBits]
  · rfl

theorem nd_zeroScale {p c : ℕ} : nd (zeroScale : FVec Ideal B5x2048 .f32) p c = 0 := by
  unfold nd; split
  · exact zeroBits
  · rfl

/-! The body's stages. -/

theorem trips_of (s : St Ideal) : Same (tripsS 4 s) s := (trips_spec s 4 (by omega)).1

variable (a : ℕ) (b : Fin 16) (s : St Ideal)

/-- The state the loop starts from. -/
def s0 : St Ideal := if atPoint a b.val 0#32 0#32 = 1#1 then startS s else s
def s1 : St Ideal := readDevS a b (s0 a b s)
def s2 : St Ideal := tripsS 4 (s1 a b s)
def s3 : St Ideal := writeScaleS a b (s2 a b s)

theorem bodyS_eq : bodyS a b s = if atPoint a b.val 4#32 15#32 = 1#1 then finishS (s3 a b s) else s3 a b s := rfl

theorem s0_in : (s0 a b s).x = s.x ∧ (s0 a b s).dy = s.dy ∧ (s0 a b s).gamma = s.gamma ∧ (s0 a b s).rstd = s.rstd := by
  unfold s0; split
  · exact startS_in s
  · exact SameIn.rfl

/-- What the point starts from: cleared sums and scales and gamma spread, or what the points before left. -/
structure Starts (u : St Ideal) : Prop where
  gcol : nd u.gcol = GC (nd u.gamma 0)

theorem start_gcol : nd (startS s).gcol = GC (nd s.gamma 0) := by
  have e : (startS s).gcol = spread s.gamma := by
    show upd (rW 8 8192) (spread (win (rW 1 8192) s.gamma)) s.gcol = _
    rw [upd_rW]
    exact congrArg spread (win_rW 1 8192 s.gamma)
  rw [e, nd_spread]

theorem start_acc (p c : ℕ) : nd (startS s).acc p c = 0 := by
  have e : (startS s).acc = zeroAcc (F := Ideal) := by unfold startS; exact upd_rW 8 8192 _ _
  rw [e, nd_zeroAcc]

theorem start_scale (p c : ℕ) : nd (startS s).scale p c = 0 := by
  have e : (startS s).scale = zeroScale (F := Ideal) := by unfold startS; exact upd_rW 5 2048 _ _
  rw [e, nd_zeroScale]

theorem write_codes (u : St Ideal) : (writeScaleS a b u).codes = u.codes := rfl
theorem write_acc (u : St Ideal) : (writeScaleS a b u).acc = u.acc := rfl
theorem write_gcol (u : St Ideal) : (writeScaleS a b u).gcol = u.gcol := rfl
theorem write_dgamma (u : St Ideal) : (writeScaleS a b u).dgamma = u.dgamma := rfl
theorem write_scale (u : St Ideal) :
    (writeScaleS a b u).scale = upd (rB b) (fromCol a u.scol (win (rB b) u.scale)) u.scale := by
  unfold writeScaleS
  exact congrArg (fun z => upd (rB b) (fromCol a z (win (rB b) u.scale)) u.scale) (win_rW 128 128 u.scol)
theorem read_all (u : St Ideal) : (readDevS a b u).x = u.x ∧ (readDevS a b u).dy = u.dy ∧ (readDevS a b u).gcol = u.gcol ∧
    (readDevS a b u).scale = u.scale ∧ (readDevS a b u).acc = u.acc ∧ (readDevS a b u).dgamma = u.dgamma :=
  ⟨rfl, rfl, rfl, rfl, rfl, rfl⟩
theorem read_rcol (u : St Ideal) : (readDevS a b u).rcol = toCol a (win (rB b) u.rstd) := upd_rW 128 128 _ _
theorem finish_all (u : St Ideal) : (finishS u).gcol = u.gcol ∧ (finishS u).codes = u.codes ∧ (finishS u).scale = u.scale ∧
    (finishS u).acc = u.acc :=
  ⟨rfl, rfl, rfl, rfl⟩
theorem finish_dgamma (u : St Ideal) : (finishS u).dgamma = total u.acc := by
  unfold finishS
  refine (upd_rW 1 8192 _ _).trans ?_
  exact congrArg total (win_rW 8 8192 u.acc)

theorem s1_rcol (ha : a < 5) : nd (s1 a b s).rcol = RC fun p => nd s.rstd a (128 * b.val + p) := by
  have e : (s1 a b s).rcol = toCol a (win (rB b) (s0 a b s).rstd) := read_rcol a b (s0 a b s)
  rw [e, (s0_in a b s).2.2.2]
  refine (nd_toCol a ha (win (rB b) s.rstd)).trans ?_
  funext p l
  unfold RC
  refine ite_congr rfl (fun h => ?_) fun _ => rfl
  exact win_rB b s.rstd ha h.1

/-- The row functions at the point. -/
abbrev atPt {α : Sort*} (f : (ℕ → ℕ → EReal) → (ℕ → ℕ → EReal) → (ℕ → ℕ → EReal) → (ℕ → ℕ → EReal) → α) : α :=
  f (nd s.dy) (nd s.x) (GC (nd s.gamma 0)) (RC fun p => nd s.rstd a (128 * b.val + p))

theorem s1_at (ha : a < 5) (h : nd (s0 a b s).gcol = GC (nd s.gamma 0)) {α : Sort*}
    (f : (ℕ → ℕ → EReal) → (ℕ → ℕ → EReal) → (ℕ → ℕ → EReal) → (ℕ → ℕ → EReal) → α) : atState f (s1 a b s) = atPt a b s f := by
  have e : (s1 a b s).gcol = (s0 a b s).gcol := (read_all a b (s0 a b s)).2.2.1
  have e1 : (s1 a b s).x = s.x := (read_all a b (s0 a b s)).1.trans (s0_in a b s).1
  have e2 : (s1 a b s).dy = s.dy := (read_all a b (s0 a b s)).2.1.trans (s0_in a b s).2.1
  unfold atState atPt
  rw [s1_rcol a b s ha, e, h, e1, e2]

theorem body_of {α : Type} (f : St Ideal → α) (h : ∀ u, f (finishS u) = f u) : f (bodyS a b s) = f (s3 a b s) := by
  rw [bodyS_eq]; split
  · exact h _
  · rfl

theorem s2_scale : (s2 a b s).scale = (s0 a b s).scale := (trips_of (s1 a b s)).scale.trans (read_all a b (s0 a b s)).2.2.2.1

theorem body_gcol : (bodyS a b s).gcol = (s0 a b s).gcol :=
  (body_of a b s (fun u => u.gcol) fun u => (finish_all u).1).trans <|
    (write_gcol a b (s2 a b s)).trans <| (trips_of (s1 a b s)).gcol.trans (read_all a b (s0 a b s)).2.2.1

theorem body_codes (ha : a < 5) (h : nd (s0 a b s).gcol = GC (nd s.gamma 0)) {p c : ℕ} (hp : p < 128) (hc : c < 8192) :
    nd (bodyS a b s).codes p c = atPt a b s cV p c := by
  have e : (bodyS a b s).codes = (s2 a b s).codes :=
    (body_of a b s (fun u => u.codes) fun u => (finish_all u).2.1).trans (write_codes a b (s2 a b s))
  rw [e]
  refine ((trips_spec (s1 a b s) 4 (by omega)).2.1 p c hp hc).trans ?_
  rw [if_pos (by omega), s1_at a b s ha h]

theorem body_scale (ha : a < 5) (h : nd (s0 a b s).gcol = GC (nd s.gamma 0)) {k q : ℕ} (hk : k < 5) (hq : q < 2048) :
    nd (bodyS a b s).scale k q = if k = a ∧ 128 * b.val ≤ q ∧ q < 128 * b.val + 128 then atPt a b s sV (q - 128 * b.val) 0 else nd (s0 a b s).scale k q := by
  have e3 : (bodyS a b s).scale = upd (rB b) (fromCol a (s2 a b s).scol (win (rB b) (s0 a b s).scale)) (s0 a b s).scale :=
    (body_of a b s (fun u => u.scale) fun u => (finish_all u).2.2.1).trans <|
      (write_scale a b (s2 a b s)).trans (congrArg (fun z => upd (rB b) (fromCol a (s2 a b s).scol (win (rB b) z)) z) (s2_scale a b s))
  rw [e3]
  refine (upd_rB b _ _ hk hq).trans ?_
  by_cases hb : 128 * b.val ≤ q ∧ q < 128 * b.val + 128
  · rw [if_pos hb]
    refine (nd_fromCol a ha _ _ hk (by omega)).trans ?_
    by_cases hka : k = a
    · rw [if_pos hka, if_pos ⟨hka, hb⟩]
      refine ((trips_spec (s1 a b s) 4 (by omega)).2.2.1 (q - 128 * b.val) 0 (by omega) (by omega)).trans ?_
      rw [if_pos (by omega), s1_at a b s ha h]
    · rw [if_neg hka, if_neg (fun z => hka z.1)]
      refine (win_rB b (s0 a b s).scale hk (by omega)).trans ?_
      congr 1; omega
  · rw [if_neg hb, if_neg (fun z => hb z.2)]

theorem s3_acc : (s3 a b s).acc = (s2 a b s).acc := write_acc a b (s2 a b s)

theorem body_acc (ha : a < 5) (h : nd (s0 a b s).gcol = GC (nd s.gamma 0)) {p c : ℕ} (hp : p < 8) (hc : c < 8192) :
    nd (bodyS a b s).acc p c = nd (s0 a b s).acc p c + ∑ k ∈ Finset.range 4, atPt a b s (fun dy x _ rc => share dy x rc) k p c := by
  have e : (bodyS a b s).acc = (s2 a b s).acc :=
    (body_of a b s (fun u => u.acc) fun u => (finish_all u).2.2.2).trans (s3_acc a b s)
  have e0 : (s1 a b s).acc = (s0 a b s).acc := (read_all a b (s0 a b s)).2.2.2.2.1
  rw [e, ← e0]
  refine ((trips_spec (s1 a b s) 4 (by omega)).2.2.2 p c hp hc).trans ?_
  congr 1
  exact Finset.sum_congr rfl fun k _ => congrFun (congrFun (congrFun (s1_at a b s ha h (fun dy x _ rc => share dy x rc)) k) p) c

theorem body_dgamma (hl : atPoint a b.val 4#32 15#32 = 1#1) {z c : ℕ} (hz : z < 1) (hc : c < 8192) :
    nd (bodyS a b s).dgamma z c = ∑ p ∈ Finset.range 8, nd (bodyS a b s).acc p c := by
  have e : (bodyS a b s).dgamma = total (bodyS a b s).acc := by
    rw [body_of a b s (fun u => u.acc) fun u => (finish_all u).2.2.2, bodyS_eq, if_pos hl]
    exact finish_dgamma (s3 a b s)
  rw [e, nd_total _ hz hc]

end Cert.Trip
-- ==== Proof.ExactKernelIdeal.lean ====
/-
  What the kernel leaves in its three results, in terms of the blocks its grid points read.
-/
module

public import proofs.«01_k».proof.Proof.FrameKernelIdeal
public import proofs.«01_k».proof.Proof.BodyVal
public import Idealize.ShloMosaic.Lib.Pipeline.ValueKit

@[expose] public section

set_option maxRecDepth 16384

noncomputable section

namespace Cert.KernelIdeal.Exact

open Cert.KernelIdeal Cert.KernelIdeal.Gen Cert.Trip Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem points : cfg0.N = 80 := (by decide +kernel : grid0.N = 80)

/-- The grid point of a number. -/
def pt (n : ℕ) : Fin cfg0.N := ⟨n % 80, by rw [points]; exact Nat.mod_lt _ (by decide)⟩

theorem pt_val (t : Fin cfg0.N) : pt t.val = t :=
  Fin.ext (Nat.mod_eq_of_lt (lt_of_lt_of_eq t.isLt points))

theorem coord0 (t : Fin cfg0.N) : ((grid0.coords t) 0).val = t.val / 16 :=
  (by decide +kernel : ∀ t : Fin grid0.N, ((grid0.coords t) 0).val = t.val / 16) t
theorem coord1 (t : Fin cfg0.N) : ((grid0.coords t) 1).val = t.val % 16 :=
  (by decide +kernel : ∀ t : Fin grid0.N, ((grid0.coords t) 1).val = t.val % 16) t
theorem first_iff (t : Fin cfg0.N) : atPoint ((grid0.coords t) 0).val ((grid0.coords t) 1).val 0#32 0#32 = 1#1 ↔ t.val = 0 :=
  (by decide +kernel : ∀ t : Fin grid0.N, atPoint ((grid0.coords t) 0).val ((grid0.coords t) 1).val 0#32 0#32 = 1#1 ↔ t.val = 0) t
theorem last_iff (t : Fin cfg0.N) : atPoint ((grid0.coords t) 0).val ((grid0.coords t) 1).val 4#32 15#32 = 1#1 ↔ t.val = 79 :=
  (by decide +kernel : ∀ t : Fin grid0.N, atPoint ((grid0.coords t) 0).val ((grid0.coords t) 1).val 4#32 15#32 = 1#1 ↔ t.val = 79) t
theorem idle4 (t : Fin cfg0.N) : cfg0.idle 4 (cfg0.grid.coords t) = !decide (t.val = 79) :=
  (by decide +kernel : ∀ t : Fin grid0.N, idle0 4 (grid0.coords t) = !decide (t.val = 79)) t
theorem flush4 (t : Fin cfg0.N) : (cfg0.win 4).flush t = decide (t.val = 79) := by
  rw [Bool.eq_iff_iff, flush0_4, decide_eq_true_eq]
  have := lt_of_lt_of_eq t.isLt points
  omega

/-- The rows a point reads, and a function of them there. -/
def atT {α : Type} (c : Dev nD) (t : Fin cfg0.N) (f : (ℕ → ℕ → EReal) → (ℕ → ℕ → EReal) → (ℕ → ℕ → EReal) → (ℕ → ℕ → EReal) → α) : α :=
  f (nd (n := 128) (m := 8192) (iblk m c 1 t)) (nd (n := 128) (m := 8192) (iblk m c 0 t)) (GC (nd (n := 1) (m := 8192) (iblk m c 2 t) 0))
    (RC fun p => nd (n := 5) (m := 2048) (iblk m c 3 t) ((grid0.coords t) 0).val (128 * ((grid0.coords t) 1).val + p))

def codesAt (c : Dev nD) (t : Fin cfg0.N) : B128x8192.Idx → EReal := fun i => atT m c t cV (i 0).val (i 1).val

def scaleAt (c : Dev nD) (n : ℕ) : B5x2048.Idx → EReal := fun i =>
  if 16 * (i 0).val + (i 1).val / 128 < n then atT m c (pt (16 * (i 0).val + (i 1).val / 128)) sV ((i 1).val % 128) 0 else 0

def accAt (c : Dev nD) (n p l : ℕ) : EReal :=
  ∑ j ∈ Finset.range n, ∑ k ∈ Finset.range 4, atT m c (pt j) (fun dy x _ rc => share dy x rc) k p l

def dgammaAt (c : Dev nD) : B1x8192.Idx → EReal := fun i => ∑ p ∈ Finset.range 8, accAt m c 80 p (i 1).val

/-- Gamma at every point is gamma. -/
def Γ (c : Dev nD) : ℕ → EReal := nd (n := 1) (m := 8192) (iblk m c 2 (pt 0)) 0

theorem idx2 (t : Fin cfg0.N) : win0_2.index t = ![0, 0] := (by decide +kernel : ∀ t : Fin grid0.N, win0_2.index t = ![0, 0]) t

theorem gamma_at (c : Dev nD) (t : Fin cfg0.N) : nd (n := 1) (m := 8192) (iblk m c 2 t) 0 = Γ m c := by
  have h : ∀ t', nd (n := 1) (m := 8192) (iblk m c 2 t) = nd (n := 1) (m := 8192) (iblk m c 2 t') := by
    intro t'
    funext p l
    unfold nd
    split
    · blk_simp [iblk]
      congr 1
    · rfl
  rw [h (pt 0)]; rfl

/-- What is known of the scratch before point `n`. -/
def Known (c : Dev nD) (n : ℕ) (gc ac : B8x8192.Idx → EReal) : Prop :=
  n ≠ 0 → nd gc = GC (Γ m c) ∧ ∀ p l, p < 8 → l < 8192 → nd ac p l = accAt m c n p l

theorem step_vals (c : Dev nD) (t : Fin cfg0.N) (s : St Ideal) (hx : s.x = iblk m c 0 t) (hdy : s.dy = iblk m c 1 t)
    (hg : s.gamma = iblk m c 2 t) (hr : s.rstd = iblk m c 3 t) (hk : Known m c t.val s.gcol s.acc)
    (hs : t.val ≠ 0 → s.scale = scaleAt m c t.val) :
    (stepS t s).codes = codesAt m c t ∧ (stepS t s).scale = scaleAt m c (t.val + 1) ∧
      Known m c (t.val + 1) (stepS t s).gcol (stepS t s).acc ∧ (t.val = 79 → (stepS t s).dgamma = dgammaAt m c) ∧
      True := by
  have hN := lt_of_lt_of_eq t.isLt points
  have c0 := coord0 t
  have c1 := coord1 t
  have ha : ((grid0.coords t) 0).val < 5 := by omega
  have hgam : nd s.gamma 0 = Γ m c := by rw [hg]; exact gamma_at m c t
  have h0 : nd (s0 ((grid0.coords t) 0).val ((grid0.coords t) 1) s).gcol = GC (nd s.gamma 0) := by
    unfold s0
    split
    · exact start_gcol s
    · rename_i h
      rw [(hk (fun e => h ((first_iff t).mpr e))).1, hgam]
  have hat : ∀ {α : Type} (f : (ℕ → ℕ → EReal) → (ℕ → ℕ → EReal) → (ℕ → ℕ → EReal) → (ℕ → ℕ → EReal) → α),
      atPt ((grid0.coords t) 0).val ((grid0.coords t) 1) s f = atT m c t f := by
    intro α f
    unfold atPt atT
    rw [hx, hdy, hg, hr]
  have hacc0 : ∀ p l, p < 8 → l < 8192 → nd (s0 ((grid0.coords t) 0).val ((grid0.coords t) 1) s).acc p l = accAt m c t.val p l := by
    intro p l hp hl
    unfold s0
    split
    · rename_i h
      rw [start_acc, (first_iff t).mp h]; rfl
    · rename_i h
      exact (hk (fun e => h ((first_iff t).mpr e))).2 p l hp hl
  have hacc : ∀ p l, p < 8 → l < 8192 → nd (stepS t s).acc p l = accAt m c (t.val + 1) p l := by
    intro p l hp hl
    refine (body_acc _ _ s ha h0 hp hl).trans ?_
    rw [hacc0 p l hp hl, hat]
    unfold accAt
    rw [Finset.sum_range_succ (n := t.val), pt_val]
  refine ⟨?_, ?_, fun _ => ⟨?_, hacc⟩, ?_, trivial⟩
  · refine eq_of_nd (n := 128) (m := 8192) fun p l hp hl => ?_
    refine (body_codes _ _ s ha h0 hp hl).trans ?_
    rw [hat, nd_lt _ hp hl]
    rfl
  · refine eq_of_nd (n := 5) (m := 2048) fun k q hk' hq => ?_
    refine (body_scale _ _ s ha h0 hk' hq).trans ?_
    rw [hat, nd_lt (scaleAt m c (t.val + 1)) hk' hq]
    show _ = if 16 * k + q / 128 < t.val + 1 then atT m c (pt (16 * k + q / 128)) sV (q % 128) 0 else 0
    by_cases h : k = ((grid0.coords t) 0).val ∧ 128 * ((grid0.coords t) 1).val ≤ q ∧ q < 128 * ((grid0.coords t) 1).val + 128
    · have e1 : 16 * k + q / 128 = t.val := by omega
      have e2 : q - 128 * ((grid0.coords t) 1).val = q % 128 := by omega
      rw [if_pos h, e1, if_pos (by omega), pt_val, e2]
    · have e1 : 16 * k + q / 128 ≠ t.val := by omega
      rw [if_neg h]
      unfold s0
      split
      · rename_i h'
        have := (first_iff t).mp h'
        rw [start_scale, if_neg (by omega)]
      · rename_i h'
        rw [hs (fun e => h' ((first_iff t).mpr e)), nd_lt (scaleAt m c t.val) hk' hq]
        show (if 16 * k + q / 128 < t.val then _ else _) = _
        exact if_congr (by omega) rfl rfl
  · have e : (stepS t s).gcol = (s0 ((grid0.coords t) 0).val ((grid0.coords t) 1) s).gcol := body_gcol _ _ s
    rw [e, h0, hgam]
  · intro h
    refine eq_of_nd (n := 1) (m := 8192) fun z l hz hl => ?_
    refine (body_dgamma _ _ s ((last_iff t).mpr h) hz hl).trans ?_
    rw [nd_lt _ hz hl]
    refine Finset.sum_congr rfl fun p hp => ?_
    refine (hacc p l (Finset.mem_range.mp hp) hl).trans ?_
    rw [h]
    rfl

/-- The proof data: each input's block left in place, each result's block at its value. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => dgammaAt m c
    | 5 => codesAt m c t
    | 6 => scaleAt m c (t.val + 1)
  Φ t := iprop(∃ g w gc rc sc ac, ⌜Known m c t.val gc ac⌝
    ∗ (owns (c : Thread nD τ) (Memref.whole cc0_scratch0) fullShare g ∗ owns (c : Thread nD τ) (Memref.whole cc0_scratch1) fullShare w
      ∗ owns (c : Thread nD τ) (Memref.whole cc0_scratch2) fullShare gc ∗ owns (c : Thread nD τ) (Memref.whole cc0_scratch3) fullShare rc
      ∗ owns (c : Thread nD τ) (Memref.whole cc0_scratch4) fullShare sc ∗ owns (c : Thread nD τ) (Memref.whole cc0_scratch5) fullShare ac)
    ∗ ∃ r, prngReg c r)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dgammaAt m c := by dsimp only [dats]
theorem after0_5 (c : Dev nD) (t : Fin cfg0.N) : (dats m 0 c).after 5 t = codesAt m c t := by dsimp only [dats]
theorem after0_6 (c : Dev nD) (t : Fin cfg0.N) : (dats m 0 c).after 6 t = scaleAt m c (t.val + 1) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The first result's buffer is written at the last point only. -/
theorem before0_4 (c : Dev nD) (n : ℕ) : ∀ (t : Fin cfg0.N), t.val = n → ∀ d, (dats m 0 c).before 4 t d = d := by
  induction n with
  | zero => exact fun t ht d => (dats m 0 c).before_out_reset 4 rfl t (Or.inl ht) d
  | succ n ih =>
    intro t ht d
    have hN := lt_of_lt_of_eq t.isLt points
    have ht0 : t.val ≠ 0 := by omega
    rw [(dats m 0 c).before_of_pos 4 t ht0 ((cfg0.win 4).fetch_out rfl t), flush4]
    rw [if_neg (by simp only [decide_eq_true_eq]; omega)]
    unfold Dat.left
    rw [idle4]
    have e : (!decide (t.val - 1 = 79)) = true := by simp only [Bool.not_eq_true', decide_eq_false_iff_not]; omega
    simp only [e]
    exact ih ⟨t.val - 1, by omega⟩ (by simp only; omega) d

theorem before0_6 (c : Dev nD) (t : Fin cfg0.N) (ht : t.val ≠ 0) (d) : (dats m 0 c).before 6 t d = scaleAt m c t.val := by
  have hN := lt_of_lt_of_eq t.isLt points
  rw [(dats m 0 c).before_out_kept 6 rfl t ht
    (by rw [Bool.eq_false_iff]; intro h; have := (flush0_6 _).mp h; simp only at this; omega) (fun _ => rfl) (fun _ _ => rfl) d, after0_6]
  congr 1
  show t.val - 1 + 1 = t.val
  omega

def post4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

theorem post4_of (c : Dev nD) (t : Fin cfg0.N) (d : B1x8192.Idx → EReal) (h : t.val = 79 → d = dgammaAt m c) :
    owns (c : Thread nD τ) (st0_4 t) fullShare d ⊢ post4 m c t := by
  unfold post4
  rw [idle4, flush4]
  by_cases ht : t.val = 79
  · simp only [ht, decide_true, Bool.not_true]
    rw [after0_4, h ht]
  · simp only [ht, decide_false, Bool.not_false]
    iintro H
    iexists d
    rw [before0_4 m c t.val t rfl d]
    iexact H

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ post4 m c t
    ∗ owns (c : Thread nD τ) (st0_5 t) fullShare ((dats m 0 c).after 5 t)
    ∗ owns (c : Thread nD τ) (st0_6 t) fullShare ((dats m 0 c).after 6 t))

theorem Phi_eq (c : Dev nD) (t : Fin (cfg0.N + 1)) : (dats m 0 c).Φ t =
    iprop(∃ g w gc rc sc ac, ⌜Known m c t.val gc ac⌝
    ∗ (owns (c : Thread nD τ) (Memref.whole cc0_scratch0) fullShare g ∗ owns (c : Thread nD τ) (Memref.whole cc0_scratch1) fullShare w
      ∗ owns (c : Thread nD τ) (Memref.whole cc0_scratch2) fullShare gc ∗ owns (c : Thread nD τ) (Memref.whole cc0_scratch3) fullShare rc
      ∗ owns (c : Thread nD τ) (Memref.whole cc0_scratch4) fullShare sc ∗ owns (c : Thread nD τ) (Memref.whole cc0_scratch5) fullShare ac)
    ∗ ∃ r, prngReg c r) := by dsimp only [dats]

theorem sound_body (c : Dev nD) (t : Fin cfg0.N) :
    bodyPre m c t ⊢ wp frame (wpE (defs₀ (F := Ideal)) Variants.none (c : Thread nD τ) none) Set.univ
      (defs₀ (F := Ideal) .tc cfg0.body (cfg0.bodyArgs t (cfg0.slots t))) (fun _ => bodyPost m c t) := by
  unfold bodyPre bodyPost
  simp only [before0_0, before0_1, before0_2, before0_3, after0_0, after0_1, after0_2, after0_3, after0_5, after0_6]
  rw [show (dats m 0 c).owesAt () t.succ = (dats m 0 c).owesAt () t.castSucc from rfl, Phi_eq, Phi_eq]
  iintro ⟨⟨%g, %w, %gc, %rc, %sc, %ac, %hk, ⟨HA, HB, HC, HD, HE, HF⟩, Hp⟩, Ho, ⟨%d0, H0⟩, ⟨%d1, H1⟩, ⟨%d2, H2⟩, ⟨%d3, H3⟩, ⟨%d4, H4⟩, ⟨%d5, H5⟩, ⟨%d6, H6⟩⟩
  iapply (body_run c t ⟨iblk m c 0 t, iblk m c 1 t, iblk m c 2 t, iblk m c 3 t, (dats m 0 c).before 4 t d4, (dats m 0 c).before 5 t d5, (dats m 0 c).before 6 t d6, g, w, gc, rc, sc, ac⟩ _)
  obtain ⟨e0, e1, e2, e3⟩ := stepS_x t (⟨iblk m c 0 t, iblk m c 1 t, iblk m c 2 t, iblk m c 3 t, (dats m 0 c).before 4 t d4, (dats m 0 c).before 5 t d5, (dats m 0 c).before 6 t d6, g, w, gc, rc, sc, ac⟩ : St Ideal)
  obtain ⟨v0, v1, v2, v3, -⟩ := step_vals m c t (⟨iblk m c 0 t, iblk m c 1 t, iblk m c 2 t, iblk m c 3 t, (dats m 0 c).before 4 t d4, (dats m 0 c).before 5 t d5, (dats m 0 c).before 6 t d6, g, w, gc, rc, sc, ac⟩ : St Ideal)
    rfl rfl rfl rfl hk (fun ht => before0_6 m c t ht d6)
  unfold Own bufs
  dsimp only
  rw [e0, e1, e2, e3, v0, v1]
  isplitl [HA HB HC HD HE HF H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HB]; · iexact HB
    isplitl [HC]; · iexact HC
    isplitl [HD]; · iexact HD
    isplitl [HE]; · iexact HE
    iexact HF
  iintro ⟨H0, H1, H2, H3, H4, H5, H6, HA, HB, HC, HD, HE, HF⟩
  isplitl [HA HB HC HD HE HF Hp]
  · iexists _, _, _, _, _, _
    isplitr
    · ipureintro; exact v2
    isplitl [HA HB HC HD HE HF]
    · isplitl [HA]; · iexact HA
      isplitl [HB]; · iexact HB
      isplitl [HC]; · iexact HC
      isplitl [HD]; · iexact HD
      isplitl [HE]; · iexact HE
      iexact HF
    iexact Hp
  isplitl [Ho]; · iexact Ho
  isplitl [H0]; · iexact H0
  isplitl [H1]; · iexact H1
  isplitl [H2]; · iexact H2
  isplitl [H3]; · iexact H3
  isplitl [H4]; · iapply (post4_of m c t _ v3); iexact H4
  isplitl [H5]; · iexact H5
  iexact H6

theorem body_obligation (c : Dev nD) :
    BodyObligation (dats m 0 c) (defs₀ (F := Ideal)) Variants.none () Set.univ := fun t => by
  rw [bigSep_W0, bigSep_W0]
  exact sound_body m c t

theorem leave (c : Dev nD) (t : Fin (cfg0.N + 1)) : (dats m 0 c).Φ t ⊢ Pipeline.ΦA spec0 c := by
  rw [Phi_eq, PhiA_eq]
  iintro ⟨%g, %w, %gc, %rc, %sc, %ac, %hk, ⟨HA, HB, HC, HD, HE, HF⟩, Hp⟩
  isplitl [HA HB HC HD HE HF]
  · isplitl [HA]; · iexists _; iexact HA
    isplitl [HB]; · iexists _; iexact HB
    isplitl [HC]; · iexists _; iexact HC
    isplitl [HD]; · iexists _; iexact HD
    isplitl [HE]; · iexists _; iexact HE
    iexists _; iexact HF
  iexact Hp

theorem enter (c : Dev nD) : Pipeline.ΦA spec0 c ⊢ (dats m 0 c).Φ 0 := by
  rw [Phi_eq, PhiA_eq]
  iintro ⟨⟨⟨%g, HA⟩, ⟨%w, HB⟩, ⟨%gc, HC⟩, ⟨%rc, HD⟩, ⟨%sc, HE⟩, ⟨%ac, HF⟩⟩, Hp⟩
  iexists g, w, gc, rc, sc, ac
  isplitr
  · ipureintro; exact fun h => absurd rfl h
  isplitl [HA HB HC HD HE HF]
  · isplitl [HA]; · iexact HA
    isplitl [HB]; · iexact HB
    isplitl [HC]; · iexact HC
    isplitl [HD]; · iexact HD
    isplitl [HE]; · iexact HE
    iexact HF
  iexact Hp

set_option backward.isDefEq.respectTransparency.types false in
theorem run_main :
    θ_run defs (onTc (τ := τ) (main (F := Ideal))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := enter m) (hout := fun c => leave m c _) (hQ' := fun _ h => h)

/-! ## The result arrays -/

def codesG (c : Dev nD) : S10240x8192.Idx → EReal := fun i => atT m c (pt ((i 0).val / 128)) cV ((i 0).val % 128) (i 1).val

theorem idx5 (t : Fin cfg0.N) : win0_5.index t = ![t.val, 0] := (by decide +kernel : ∀ t : Fin grid0.N, win0_5.index t = ![t.val, 0]) t

theorem arr5 (c : Dev nD) : (dats m 0 c).arrAt 5 cfg0.N = codesG m c := by
  refine (dats m 0 c).arrAt_eq_of_covers 5 _ (by decide +kernel) fun t hf y => ?_
  blk_simp
  rw [after0_5]
  unfold codesAt codesG
  idx_bounds y
  blk_simp [idx5]
  have e0 : (t.val * 128 + (y 0).val) / 128 = t.val := by omega
  have e1 : (t.val * 128 + (y 0).val) % 128 = (y 0).val := by omega
  rw [e0, e1, pt_val]

theorem arr4 (c : Dev nD) : (dats m 0 c).arrAt 4 cfg0.N = dgammaAt m c := by
  refine (dats m 0 c).arrAt_eq_of_after_last 4 (pt 79) (by decide +kernel) _ fun j => ?_
  rw [after0_4]
  rfl

theorem arr6 (c : Dev nD) : (dats m 0 c).arrAt 6 cfg0.N = scaleAt m c 80 := by
  refine (dats m 0 c).arrAt_eq_of_after_last 6 (pt 79) (by decide +kernel) _ fun j => ?_
  rw [after0_6]
  rfl

/-- The run, each result at its value and the arguments unchanged. -/
theorem run_vals : θ_run defs (onTc (τ := τ) (main (F := Ideal))) ⟨m, fun _ => 0, ρ⟩ (fun r => ∀ c : Dev nD,
      r.2.mem ((c.tc : Thread nD τ).loc main_v3_0) = dgammaAt m c
      ∧ r.2.mem ((c.tc : Thread nD τ).loc main_v3_1) = codesG m c
      ∧ r.2.mem ((c.tc : Thread nD τ).loc main_v3_2) = scaleAt m c 80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans (arr4 m c), ((h.1 c).1 5).trans (arr5 m c), ((h.1 c).1 6).trans (arr6 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c)))⟩)
    (run_main m ρ)

end Cert.KernelIdeal.Exact

end
-- ==== Proof.Math.lean ====
/-
  The exponent the search finds is the one the logarithm gives.
-/
module

public import proofs.«01_k».proof.Proof.Pass2

@[expose] public section

noncomputable section

namespace Cert.Trip

open Idealize.ShloMosaic

/-- The float whose bits are an exponent field and nothing else. -/
def T (k : ℕ) : EReal := Ideal.ofBits .f32 (BitVec.ofNat 32 k <<< 23)

theorem fields (k : ℕ) (hk : k < 256) :
    ((BitVec.ofNat 32 k <<< 23).extractLsb' 31 1 == 1#1) = false ∧ ((BitVec.ofNat 32 k <<< 23).extractLsb' 23 8).toNat = k ∧
      ((BitVec.ofNat 32 k <<< 23).extractLsb' 0 23).toNat = 0 := by
  have h : ∀ k : Fin 256, ((BitVec.ofNat 32 k.val <<< 23).extractLsb' 31 1 == 1#1) = false ∧
      ((BitVec.ofNat 32 k.val <<< 23).extractLsb' 23 8).toNat = k.val ∧ ((BitVec.ofNat 32 k.val <<< 23).extractLsb' 0 23).toNat = 0 := by
    decide +kernel
  exact h ⟨k, hk⟩

theorem T_zero : T 0 = 0 := by
  simp [T, Ideal.ofBits, Ideal.ieee]

theorem T_top : T 255 = ⊤ := by
  obtain ⟨h1, h2, h3⟩ := fields 255 (by omega)
  unfold T Ideal.ofBits Ideal.ieee
  simp only
  rw [h1, h2, h3]
  norm_num

theorem scaled (k : ℤ) : (1 : ℝ) * ((2 ^ 23 + 0 : ℕ) : ℝ) * (2 : ℝ) ^ (k - (2 ^ (8 - 1) - 1) - (23 : ℕ)) = (2 : ℝ) ^ (k - 127) := by
  have e : k - 127 = 23 + (k - (2 ^ (8 - 1) - 1) - (23 : ℕ)) := by norm_num
  rw [e, zpow_add₀ (by norm_num)]
  norm_num

theorem T_val (k : ℕ) (h0 : 0 < k) (hk : k < 255) : T k = (((2 : ℝ) ^ ((k : ℤ) - 127) : ℝ) : EReal) := by
  obtain ⟨h1, h2, h3⟩ := fields k (by omega)
  unfold T Ideal.ofBits Ideal.ieee
  simp only
  rw [h1, h2, h3, if_neg (by omega), if_neg (by omega), if_neg (by decide)]
  exact congrArg Real.toEReal (scaled k)

theorem T_mono {j k : ℕ} (h : j ≤ k) (hk : k < 256) : T j ≤ T k := by
  rcases Nat.eq_zero_or_pos j with h0 | h0
  · subst h0
    rcases Nat.eq_zero_or_pos k with h1 | h1
    · subst h1; exact le_rfl
    · rw [T_zero]
      rcases Nat.lt_or_ge k 255 with h2 | h2
      · rw [T_val k h1 h2]; exact EReal.coe_nonneg.mpr (by positivity)
      · have : k = 255 := by omega
        subst this; rw [T_top]; exact le_top
  · rcases Nat.lt_or_ge k 255 with h2 | h2
    · rw [T_val j h0 (by omega), T_val k (by omega) h2, EReal.coe_le_coe_iff]
      exact zpow_le_zpow_right₀ (by norm_num) (by omega)
    · have : k = 255 := by omega
      subst this; rw [T_top]; exact le_top

/-- The search on naturals. -/
def nStep (q : EReal) (s n : ℕ) : ℕ := if T (n + s) ≤ q then n + s else n

def nSearch (q : EReal) : ℕ :=
  nStep q 1 (nStep q 2 (nStep q 4 (nStep q 8 (nStep q 16 (nStep q 32 (nStep q 64 (nStep q 128 0)))))))

theorem sStep_eq (q : EReal) (s : ℕ) (d : BitVec 32) (hd : d + 127#32 = BitVec.ofNat 32 s) (n : ℕ) :
    sStep q (BitVec.ofNat 32 s) d (BitVec.ofNat 32 n) = BitVec.ofNat 32 (nStep q s n) := by
  unfold sStep nStep T
  rw [BitVec.add_assoc, hd, ← BitVec.ofNat_add]
  split <;> rfl

theorem sSearch_eq (q : EReal) : sSearch q = BitVec.ofNat 32 (nSearch q) := by
  unfold sSearch nSearch
  have h := fun s d hd n => sStep_eq q s d hd n
  rw [show (0#32 : BitVec 32) = BitVec.ofNat 32 0 from rfl]
  rw [h 128 1#32 (by decide), h 64 _ (by decide), h 32 _ (by decide), h 16 _ (by decide), h 8 _ (by decide), h 4 _ (by decide), h 2 _ (by decide),
    h 1 _ (by decide)]

/-- The search has narrowed the exponent to `w` fields from `n` on. -/
def Narrow (q : EReal) (n w : ℕ) : Prop := T n ≤ q ∧ (∀ k, n + w ≤ k → k < 256 → q < T k) ∧ n + w ≤ 256

theorem narrow_step {q : EReal} {n s : ℕ} (hs : 0 < s) (h : Narrow q n (s + s)) : Narrow q (nStep q s n) s := by
  obtain ⟨h1, h2, h3⟩ := h
  unfold nStep
  split
  · rename_i h
    exact ⟨h, fun k hk hk' => h2 k (by omega) hk', by omega⟩
  · rename_i h
    exact ⟨h1, fun k hk hk' => lt_of_lt_of_le (not_le.mp h) (T_mono hk hk'), by omega⟩

theorem narrow_search {q : EReal} (hq : 0 ≤ q) : Narrow q (nSearch q) 1 := by
  unfold nSearch
  have h : Narrow q 0 (128 + 128) := ⟨by rw [T_zero]; exact hq, fun k hk hk' => by omega, by omega⟩
  exact narrow_step (by omega) <| narrow_step (s := 2) (by omega) <| narrow_step (s := 4) (by omega) <| narrow_step (s := 8) (by omega) <|
    narrow_step (s := 16) (by omega) <| narrow_step (s := 32) (by omega) <| narrow_step (s := 64) (by omega) <| narrow_step (s := 128) (by omega) h

theorem bits_of_field (n : ℕ) (hn : n < 256) :
    ((if IntOp.minsi (BitVec.ofNat 32 n) 239#32 = 0#32 then 0#32 else IntOp.minsi (BitVec.ofNat 32 n) 239#32 - 126#32) + 127#32) <<< 23
        = BitVec.ofNat 32 (if n = 0 then 127 else min n 239 + 1) <<< 23 ∧
    ((0#32 - (if IntOp.minsi (BitVec.ofNat 32 n) 239#32 = 0#32 then 0#32 else IntOp.minsi (BitVec.ofNat 32 n) 239#32 - 126#32)) + 127#32) <<< 23
        = BitVec.ofNat 32 (if n = 0 then 127 else 253 - min n 239) <<< 23 := by
  have h : ∀ n : Fin 256,
    ((if IntOp.minsi (BitVec.ofNat 32 n.val) 239#32 = 0#32 then 0#32 else IntOp.minsi (BitVec.ofNat 32 n.val) 239#32 - 126#32) + 127#32) <<< 23
        = BitVec.ofNat 32 (if n.val = 0 then 127 else min n.val 239 + 1) <<< 23 ∧
    ((0#32 - (if IntOp.minsi (BitVec.ofNat 32 n.val) 239#32 = 0#32 then 0#32 else IntOp.minsi (BitVec.ofNat 32 n.val) 239#32 - 126#32)) + 127#32) <<< 23
        = BitVec.ofNat 32 (if n.val = 0 then 127 else 253 - min n.val 239) <<< 23 := by decide +kernel
  exact h ⟨n, hn⟩

/-- The exponent a search result stands for. -/
def expoOf (n : ℕ) : ℤ := if n = 0 then 0 else (min n 239 : ℕ) - 126

theorem pow_of_field (q : EReal) (hn : nSearch q < 256) :
    sPow2 (sExpo q) = (((2 : ℝ) ^ expoOf (nSearch q) : ℝ) : EReal) ∧
      sPow2 (0#32 - sExpo q) = (((2 : ℝ) ^ (-expoOf (nSearch q)) : ℝ) : EReal) := by
  obtain ⟨h1, h2⟩ := bits_of_field (nSearch q) hn
  unfold sPow2 sExpo sField
  rw [sSearch_eq, h1, h2]
  have e : ∀ k, Ideal.ofBits .f32 (BitVec.ofNat 32 k <<< 23) = T k := fun _ => rfl
  rw [e, e]
  unfold expoOf
  by_cases h : nSearch q = 0
  · rw [if_pos h, if_pos h, if_pos h, T_val 127 (by omega) (by omega)]
    norm_num
  · rw [if_neg h, if_neg h, if_neg h, T_val _ (by omega) (by omega), T_val _ (by omega) (by omega)]
    constructor
    · congr 2; push_cast; ring
    · congr 2; omega

/-- The exponent by the logarithm. -/
def lExpo (q : EReal) : EReal :=
  if q < Ideal.ofBits .f32 0x00800000#32 then Ideal.ofBits .f32 0x00000000#32
  else min (Ideal.liftRound Int.floor (Ideal.div (Ideal.log q) (Ideal.log (Ideal.ofBits .f32 0x40000000#32))) + Ideal.ofBits .f32 0x3F800000#32)
    (Ideal.ofBits .f32 0x42E20000#32)

theorem two_bits : Ideal.ofBits .f32 0x40000000#32 = ((2 : ℝ) : EReal) := by
  have : (0x40000000#32 : BitVec 32) = BitVec.ofNat 32 128 <<< 23 := by decide
  rw [this]
  exact (T_val 128 (by omega) (by omega)).trans (by norm_num)

theorem one_bits : Ideal.ofBits .f32 0x3F800000#32 = ((1 : ℝ) : EReal) := by
  have : (0x3F800000#32 : BitVec 32) = BitVec.ofNat 32 127 <<< 23 := by decide
  rw [this]
  exact (T_val 127 (by omega) (by omega)).trans (by norm_num)

theorem least_bits : Ideal.ofBits .f32 0x00800000#32 = T 1 := by
  have : (0x00800000#32 : BitVec 32) = BitVec.ofNat 32 1 <<< 23 := by decide
  rw [this]; rfl

theorem cap_bits : Ideal.ofBits .f32 0x42E20000#32 = ((113 : ℝ) : EReal) := by
  have h1 : ((0x42E20000#32 : BitVec 32).extractLsb' 31 1 == 1#1) = false := by decide
  have h2 : ((0x42E20000#32 : BitVec 32).extractLsb' 23 8).toNat = 133 := by decide
  have h3 : ((0x42E20000#32 : BitVec 32).extractLsb' 0 23).toNat = 6422528 := by decide
  unfold Ideal.ofBits Ideal.ieee
  simp only
  rw [h1, h2, h3, if_neg (by omega), if_neg (by omega)]
  congr 1
  norm_num [zpow_neg]

theorem lExpo_eq (q : EReal) (hq : 0 ≤ q) : lExpo q = (((expoOf (nSearch q) : ℤ) : ℝ) : EReal) := by
  obtain ⟨h1, h2, h3⟩ := narrow_search hq
  unfold lExpo
  rw [least_bits, two_bits, one_bits, cap_bits]
  generalize nSearch q = n at *
  rcases Nat.eq_zero_or_pos n with h0 | h0
  · subst h0
    rw [if_pos (h2 1 (by omega) (by omega)), expoOf, if_pos rfl]
    simp [Ideal.ofBits, Ideal.ieee]
  · rw [if_neg (not_lt.mpr ((T_mono h0 (by omega)).trans h1)), expoOf, if_neg (by omega)]
    have hl2 : Ideal.log ((2 : ℝ) : EReal) = ((Real.log 2 : ℝ) : EReal) := by
      unfold Ideal.log
      show (if (2 : ℝ) ≤ 0 then _ else _) = _
      rw [if_neg (by norm_num)]
    have hlp : 0 < Real.log 2 := Real.log_pos (by norm_num)
    rw [hl2, Ideal.div_coe (ne_of_gt hlp)]
    rcases Nat.lt_or_ge n 255 with hn | hn
    · -- a finite quotient
      have hu := h2 (n + 1) (by omega) (by omega)
      rw [T_val n h0 hn] at h1
      have hfin : ∃ r : ℝ, q = (r : EReal) := by
        induction q with
        | bot => exact absurd hq (by simp)
        | top => exact absurd hu (by simp)
        | coe r => exact ⟨r, rfl⟩
      obtain ⟨r, rfl⟩ := hfin
      rw [EReal.coe_le_coe_iff] at h1
      have hr : 0 < r := lt_of_lt_of_le (by positivity) h1
      have hlr : Ideal.log (r : EReal) = ((Real.log r : ℝ) : EReal) := by
        show (if r ≤ 0 then _ else _) = _
        rw [if_neg (not_le.mpr hr)]
      rw [hlr, ← EReal.coe_mul]
      show min (((⌊Real.log r * (1 / Real.log 2)⌋ : ℝ) : EReal) + ((1 : ℝ) : EReal)) ((113 : ℝ) : EReal) = _
      have hlow : (n : ℤ) - 127 ≤ ⌊Real.log r * (1 / Real.log 2)⌋ := by
        rw [Int.le_floor, mul_one_div, le_div_iff₀ hlp]
        have := Real.log_le_log (by positivity) h1
        rw [Real.log_zpow] at this
        exact this
      rcases Nat.lt_or_ge n 254 with hn' | hn'
      · have hfl : ⌊Real.log r * (1 / Real.log 2)⌋ = (n : ℤ) - 127 := by
          refine le_antisymm ?_ hlow
          rw [← Int.lt_add_one_iff, Int.floor_lt, mul_one_div, div_lt_iff₀ hlp]
          have hlt : r < (2 : ℝ) ^ ((n : ℤ) - 127 + 1) := by
            rw [T_val (n + 1) (by omega) (by omega), EReal.coe_lt_coe_iff] at hu
            have : ((n + 1 : ℕ) : ℤ) - 127 = (n : ℤ) - 127 + 1 := by push_cast; ring
            rwa [this] at hu
          have := Real.log_lt_log hr hlt
          rw [Real.log_zpow] at this
          exact this
        rw [hfl, ← EReal.coe_add, ← EReal.coe_strictMono.monotone.map_min]
        congr 1
        push_cast
        have : (min (n : ℝ) 239) - 126 = min ((n : ℝ) - 126) (239 - 126) := (min_sub_sub_right _ _ _).symm
        rw [this]
        congr 1 <;> ring
      · have h254 : n = 254 := by omega
        subst h254
        have hge : ((113 : ℝ) : EReal) ≤ ((⌊Real.log r * (1 / Real.log 2)⌋ : ℝ) : EReal) + ((1 : ℝ) : EReal) := by
          rw [← EReal.coe_add, EReal.coe_le_coe_iff]
          have : (((254 : ℕ) : ℤ) - 127 : ℤ) ≤ (⌊Real.log r * (1 / Real.log 2)⌋ : ℝ) := by exact_mod_cast hlow
          push_cast at this
          linarith
        rw [min_eq_right hge]
        norm_num
    · have : n = 255 := by omega
      subst this
      rw [T_top, top_le_iff] at h1
      subst h1
      have e1 : Ideal.log (⊤ : EReal) = ⊤ := rfl
      rw [e1, EReal.top_mul_coe_of_pos (by positivity)]
      have e2 : Ideal.liftRound Int.floor ⊤ = ⊤ := rfl
      rw [e2, EReal.top_add_coe, min_eq_right le_top]
      norm_num

/-- The scale and its inverse are powers of two with the exponent by the logarithm. -/
theorem pow_eq (q : EReal) (hq : 0 ≤ q) :
    Ideal.pow (Ideal.ofBits .f32 0x40000000#32) (lExpo q) = sPow2 (sExpo q) ∧
      Ideal.pow (Ideal.ofBits .f32 0x40000000#32) (-(lExpo q)) = sPow2 (0#32 - sExpo q) := by
  obtain ⟨h1, h2, h3⟩ := narrow_search hq
  obtain ⟨p1, p2⟩ := pow_of_field q (by omega)
  rw [p1, p2, lExpo_eq q hq, two_bits, ← EReal.coe_neg]
  constructor
  · show ((Real.rpow 2 _ : ℝ) : EReal) = _
    congr 1
    exact Real.rpow_intCast 2 _
  · show ((Real.rpow 2 _ : ℝ) : EReal) = _
    congr 1
    rw [← Int.cast_neg]
    exact Real.rpow_intCast 2 _

end Cert.Trip
-- ==== Proof.Row.lean ====
/-
  The kernel's values at a row, without its lanes and chunks.
-/
module

public import proofs.«01_k».proof.Proof.BodyVal
public import proofs.«01_k».proof.Proof.Math

@[expose] public section

noncomputable section

namespace Cert.Trip

open Idealize.ShloMosaic

/-! One row: its upstream gradient, its activations, gamma and its reciprocal deviation. -/

section row
variable (Y X G : ℕ → EReal) (r : EReal)

def gR (c : ℕ) : EReal := Y c * G c
def wR (c : ℕ) : EReal := X c * r
def mR : EReal := (∑ c ∈ Finset.range 8192, gR Y G c * wR X r c) * Ideal.ofBits .f32 0x39000000#32
def dR (c : ℕ) : EReal := gR Y G c - wR X r c * mR Y X G r
def topR : EReal := max 0 ((Finset.range 8192).sup fun c => ab (dR Y X G r c))
def qR : EReal := topR Y X G r * ab r * Ideal.ofBits .f32 0x37924925#32
def sR : EReal := sPow2 (sExpo (qR Y X G r))
def cR (c : ℕ) : EReal :=
  min (Ideal.ofBits .f32 0x47600000#32) (max (Ideal.ofBits .f32 0xC7600000#32) (dR Y X G r c * (r * sPow2 (0#32 - sExpo (qR Y X G r)))))
def eR (c : ℕ) : EReal := Y c * (X c * r)
end row

/-! Sums and maxima by lanes. -/

theorem sum_blocks (k : ℕ) (f : ℕ → EReal) : ∀ n, ∑ m ∈ Finset.range n, ∑ l ∈ Finset.range k, f (k * m + l) = ∑ c ∈ Finset.range (k * n), f c
  | 0 => by simp
  | n + 1 => by rw [Finset.sum_range_succ, sum_blocks k f n, Nat.mul_succ, Finset.sum_range_add]

theorem sup_lanes (f : ℕ → EReal) :
    ((Finset.range 128).sup fun l => max 0 ((Finset.range 64).sup fun m => f (128 * (0 + m) + l))) = max 0 ((Finset.range 8192).sup f) := by
  apply le_antisymm
  · refine Finset.sup_le fun l hl => max_le (le_max_left _ _) ?_
    refine Finset.sup_le fun m hm => le_trans ?_ (le_max_right _ _)
    have h1 := Finset.mem_range.mp hl
    have h2 := Finset.mem_range.mp hm
    exact Finset.le_sup (f := f) (Finset.mem_range.mpr (by omega))
  · refine max_le ?_ ?_
    · exact le_trans (le_max_left _ _) (Finset.le_sup (f := fun l => max 0 ((Finset.range 64).sup fun m => f (128 * (0 + m) + l))) (Finset.mem_range.mpr (by omega : 0 < 128)))
    · refine Finset.sup_le fun c hc => ?_
      have h1 := Finset.mem_range.mp hc
      refine le_trans ?_ (Finset.le_sup (f := fun l => max 0 ((Finset.range 64).sup fun m => f (128 * (0 + m) + l))) (Finset.mem_range.mpr (by omega : c % 128 < 128)))
      refine le_trans ?_ (le_max_right _ _)
      refine le_trans (le_of_eq ?_) (Finset.le_sup (f := fun m => f (128 * (0 + m) + c % 128)) (Finset.mem_range.mpr (by omega : c / 128 < 64)))
      congr 1; omega

/-! The values at a row of a block. -/

variable (dy x : ℕ → ℕ → EReal) (G : ℕ → EReal) (r : ℕ → EReal) {p : ℕ} (hp : p < 128)
include hp

theorem gV_row {c : ℕ} (hc : c < 8192) : gV dy (GC G) p c = gR (dy p) G c := by
  unfold gV gR GC; rw [if_pos ⟨Nat.mod_lt _ (by omega), hc⟩]

theorem wV_row (c : ℕ) : wV x (RC r) p c = wR (x p) (r p) c := by
  unfold wV wR RC; rw [if_pos ⟨hp, Nat.mod_lt _ (by omega)⟩]

theorem eV_row (c : ℕ) : eV dy x (RC r) p c = eR (dy p) (x p) (r p) c := by
  unfold eV eR RC; rw [if_pos ⟨hp, Nat.mod_lt _ (by omega)⟩]

theorem mV_row : mV dy x (GC G) (RC r) p = mR (dy p) (x p) G (r p) := by
  unfold mV mR
  refine congrArg (· * Ideal.ofBits .f32 0x39000000#32) ?_
  rw [Finset.sum_comm]
  refine Eq.trans ?_ (sum_blocks 128 (fun c => gR (dy p) G c * wR (x p) (r p) c) 64)
  refine Finset.sum_congr rfl fun m hm => Finset.sum_congr rfl fun l hl => ?_
  have h1 := Finset.mem_range.mp hm
  have h2 := Finset.mem_range.mp hl
  rw [gV_row dy G hp (by omega), wV_row x r hp]

theorem dV_row {c : ℕ} (hc : c < 8192) : dV dy x (GC G) (RC r) p c = dR (dy p) (x p) G (r p) c := by
  unfold dV dR
  rw [gV_row dy G hp hc, wV_row x r hp, mV_row dy x G r hp]

theorem xV_row : xV dy x (GC G) (RC r) p = topR (dy p) (x p) G (r p) := by
  unfold xV topR top
  rw [← sup_lanes]
  refine Finset.sup_congr rfl fun l hl => congrArg (max 0) (Finset.sup_congr rfl fun m hm => ?_)
  have h1 := Finset.mem_range.mp hm
  have h2 := Finset.mem_range.mp hl
  rw [dV_row dy x G r hp (by omega)]

theorem qV_row {l : ℕ} (hl : l < 128) : qV dy x (GC G) (RC r) p l = qR (dy p) (x p) G (r p) := by
  unfold qV qR
  rw [xV_row dy x G r hp]
  unfold RC
  rw [if_pos ⟨hp, hl⟩]

theorem sV_row {l : ℕ} (hl : l < 128) : sV dy x (GC G) (RC r) p l = sR (dy p) (x p) G (r p) := by
  unfold sV sR; rw [qV_row dy x G r hp hl]

theorem cV_row {c : ℕ} (hc : c < 8192) : cV dy x (GC G) (RC r) p c = cR (dy p) (x p) G (r p) c := by
  unfold cV cR fV
  rw [dV_row dy x G r hp hc, qV_row dy x G r hp (Nat.mod_lt _ (by omega))]
  unfold RC
  rw [if_pos ⟨hp, Nat.mod_lt _ (by omega)⟩]

omit hp

theorem four (f : ℕ → EReal) : ∑ q ∈ Finset.range 8, ((f q + f (8 + q)) + (f (16 + q) + f (24 + q))) = ∑ q ∈ Finset.range 32, f q := by
  rw [show 32 = 16 + 16 from rfl, Finset.sum_range_add f 16 16, show 16 = 8 + 8 from rfl, Finset.sum_range_add f 8 8,
    Finset.sum_range_add (fun x => f (8 + 8 + x)) 8 8, Finset.sum_add_distrib, Finset.sum_add_distrib, Finset.sum_add_distrib]
  have e : ∀ x, 8 + 8 + (8 + x) = 24 + x := fun x => by omega
  simp only [e]

theorem share_rows (c : ℕ) : ∑ q ∈ Finset.range 8, ∑ k ∈ Finset.range 4, share dy x (RC r) k q c = ∑ u ∈ Finset.range 128, eR (dy u) (x u) (r u) c := by
  have h : ∀ u, u < 128 → eV dy x (RC r) u c = eR (dy u) (x u) (r u) c := fun u hu => eV_row dy x r hu c
  rw [Finset.sum_comm]
  have e : ∀ k, ∑ q ∈ Finset.range 8, share dy x (RC r) k q c = ∑ q ∈ Finset.range 32, eV dy x (RC r) (32 * k + q) c := by
    intro k
    unfold share
    simp only [Nat.add_assoc]
    exact four fun q => eV dy x (RC r) (32 * k + q) c
  simp only [e]
  rw [sum_blocks 32 (fun u => eV dy x (RC r) u c) 4]
  exact Finset.sum_congr rfl fun u hu => h u (Finset.mem_range.mp hu)

/-! ## The reference's row -/

section refrow
variable (Y X G : ℕ → EReal) (r : EReal)

theorem mean_bits (s : EReal) : Ideal.div s (Ideal.ofBits .f32 0x46000000#32) = s * Ideal.ofBits .f32 0x39000000#32 := by
  have h1 : (0x46000000#32 : BitVec 32) = BitVec.ofNat 32 140 <<< 23 := by decide
  have h2 : (0x39000000#32 : BitVec 32) = BitVec.ofNat 32 114 <<< 23 := by decide
  have e1 : Ideal.ofBits .f32 0x46000000#32 = (((2 : ℝ) ^ (13 : ℤ) : ℝ) : EReal) := by
    rw [h1]; exact (T_val 140 (by omega) (by omega)).trans (by norm_num)
  have e2 : Ideal.ofBits .f32 0x39000000#32 = ((1 / (2 : ℝ) ^ (13 : ℤ) : ℝ) : EReal) := by
    rw [h2]; refine (T_val 114 (by omega) (by omega)).trans ?_
    congr 1
    rw [one_div, ← zpow_neg]; norm_num
  rw [e1, e2, Ideal.div_coe (by positivity)]

/-- The gradient of a row. -/
def xR (c : ℕ) : EReal :=
  r * (gR Y G c - wR X r c * Ideal.div (∑ c ∈ Finset.range 8192, gR Y G c * wR X r c) (Ideal.ofBits .f32 0x46000000#32))

theorem xR_eq (c : ℕ) : xR Y X G r c = r * dR Y X G r c := by
  unfold xR dR mR; rw [mean_bits]

theorem ab_eq (x : EReal) : ab x = ((EReal.abs x : ENNReal) : EReal) := by
  unfold ab
  induction x with
  | bot => simp
  | top => simp
  | coe x =>
    rw [EReal.abs_def, EReal.coe_ennreal_ofReal, max_eq_left (abs_nonneg x), abs_eq_max_neg, ← EReal.coe_neg,
      ← EReal.coe_strictMono.monotone.map_max]

theorem ab_mul (x y : EReal) : ab (x * y) = ab x * ab y := by
  rw [ab_eq, ab_eq, ab_eq, EReal.abs_mul, EReal.coe_ennreal_mul]

theorem ab_nonneg (x : EReal) : 0 ≤ ab x := by
  rw [ab_eq]; exact EReal.coe_ennreal_nonneg _

theorem top_nonneg : 0 ≤ topR Y X G r := le_max_left _ _

theorem sup_mul (a : EReal) (ha : 0 ≤ a) (f : ℕ → EReal) : ∀ n, max 0 ((Finset.range n).sup fun c => a * f c) = a * max 0 ((Finset.range n).sup f)
  | 0 => by simp
  | n + 1 => by
    have hm : ∀ x y : EReal, a * max x y = max (a * x) (a * y) := fun x y =>
      (show Monotone fun z : EReal => a * z from fun _ _ h => mul_le_mul_of_nonneg_left h ha).map_max
    have e : ∀ g : ℕ → EReal, max 0 ((Finset.range (n + 1)).sup g) = max (g n) (max 0 ((Finset.range n).sup g)) := by
      intro g
      rw [Finset.range_add_one, Finset.sup_insert]
      exact max_left_comm 0 (g n) _
    rw [e, e, hm, sup_mul a ha f n]

/-- The largest size in a row of the gradient. -/
theorem xR_top : ((Finset.range 8192).sup fun c => ab (xR Y X G r c)) = topR Y X G r * ab r := by
  have h0 : 0 ≤ (Finset.range 8192).sup fun c => ab (xR Y X G r c) :=
    le_trans (ab_nonneg _) (Finset.le_sup (f := fun c => ab (xR Y X G r c)) (Finset.mem_range.mpr (by omega : 0 < 8192)))
  rw [← max_eq_right h0]
  simp only [xR_eq, ab_mul]
  rw [sup_mul (ab r) (ab_nonneg r), mul_comm]
  rfl

theorem K_nonneg : 0 ≤ Ideal.ofBits .f32 0x37924925#32 := by
  have h1 : ((0x37924925#32 : BitVec 32).extractLsb' 31 1 == 1#1) = false := by decide
  have h2 : ((0x37924925#32 : BitVec 32).extractLsb' 23 8).toNat = 111 := by decide
  unfold Ideal.ofBits Ideal.ieee
  simp only
  rw [h1, h2, if_neg (by omega), if_neg (by omega), if_neg (by decide)]
  exact EReal.coe_nonneg.mpr (by positivity)

/-- The row's quotient in the reference. -/
def qX : EReal := ((Finset.range 8192).sup fun c => ab (xR Y X G r c)) * Ideal.ofBits .f32 0x37924925#32

theorem qX_eq : qX Y X G r = qR Y X G r := by
  unfold qX qR; rw [xR_top]

theorem qR_nonneg : 0 ≤ qR Y X G r := by
  unfold qR
  exact mul_nonneg (mul_nonneg (top_nonneg Y X G r) (ab_nonneg r)) K_nonneg

theorem scale_row : Ideal.pow (Ideal.ofBits .f32 0x40000000#32) (lExpo (qX Y X G r)) = sR Y X G r := by
  rw [qX_eq]; exact (pow_eq _ (qR_nonneg Y X G r)).1

theorem codes_row (c : ℕ) :
    min (Ideal.ofBits .f32 0x47600000#32) (max (Ideal.ofBits .f32 0xC7600000#32)
      (xR Y X G r c * Ideal.pow (Ideal.ofBits .f32 0x40000000#32) (-(lExpo (qX Y X G r))))) = cR Y X G r c := by
  rw [qX_eq, (pow_eq _ (qR_nonneg Y X G r)).2, xR_eq]
  unfold cR
  rw [mul_comm r, mul_assoc]

end refrow

end Cert.Trip

end
-- ==== Proof.Spec.lean ====
/-
  The three results over the arguments, row by row: the form in which the kernel and the reference meet.
-/
module

public import proofs.«01_k».proof.Proof.Row
public import Idealize.ShloMosaic.Lib.Pointwise

@[expose] public section

noncomputable section

namespace Cert.Trip

open Idealize.ShloMosaic

/-- An entry of a rank 3 argument; zero outside it. -/
def at3 (A : (⟨3, ![5, 2048, 8192]⟩ : Shape).Idx → EReal) (a q c : ℕ) : EReal :=
  if h : a < 5 ∧ q < 2048 ∧ c < 8192 then A (ix3 ⟨a, h.1⟩ ⟨q, h.2.1⟩ ⟨c, h.2.2⟩) else 0
/-- An entry of a rank 2 argument; zero outside it. -/
def at2 (A : (⟨2, ![5, 2048]⟩ : Shape).Idx → EReal) (a q : ℕ) : EReal :=
  if h : a < 5 ∧ q < 2048 then A (ix2 ⟨a, h.1⟩ ⟨q, h.2⟩) else 0
/-- An entry of a rank 1 argument; zero outside it. -/
def at1 (A : (⟨1, ![8192]⟩ : Shape).Idx → EReal) (c : ℕ) : EReal := if h : c < 8192 then A (ix1 ⟨c, h⟩) else 0

theorem at3_fin (A : (⟨3, ![5, 2048, 8192]⟩ : Shape).Idx → EReal) (a : Fin 5) (q : Fin 2048) (c : Fin 8192) : at3 A a.val q.val c.val = A (ix3 a q c) := by
  unfold at3; rw [dif_pos ⟨a.2, q.2, c.2⟩]
theorem at2_fin (A : (⟨2, ![5, 2048]⟩ : Shape).Idx → EReal) (a : Fin 5) (q : Fin 2048) : at2 A a.val q.val = A (ix2 a q) := by
  unfold at2; rw [dif_pos ⟨a.2, q.2⟩]
theorem at1_fin (A : (⟨1, ![8192]⟩ : Shape).Idx → EReal) (c : Fin 8192) : at1 A c.val = A (ix1 c) := by
  unfold at1; rw [dif_pos c.2]

section
variable (Y X : (⟨3, ![5, 2048, 8192]⟩ : Shape).Idx → EReal) (G : (⟨1, ![8192]⟩ : Shape).Idx → EReal) (R : (⟨2, ![5, 2048]⟩ : Shape).Idx → EReal)

/-- The scale of row `q` of member `a`. -/
def scaleN (a q : ℕ) : EReal := sR (at3 Y a q) (at3 X a q) (at1 G) (at2 R a q)
/-- The code of entry `l` of row `q` of member `a`. -/
def codesN (a q l : ℕ) : EReal := cR (at3 Y a q) (at3 X a q) (at1 G) (at2 R a q) l
/-- What row `q` of member `a` adds to entry `l` of the gradient of gamma. -/
def shareN (a q l : ℕ) : EReal := eR (at3 Y a q) (at3 X a q) (at2 R a q) l

def scaleF : (⟨2, ![5, 2048]⟩ : Shape).Idx → EReal := fun i => scaleN Y X G R (i 0).val (i 1).val
def codesF : (⟨2, ![10240, 8192]⟩ : Shape).Idx → EReal := fun i => codesN Y X G R ((i 0).val / 2048) ((i 0).val % 2048) (i 1).val
def dgammaF : (⟨2, ![1, 8192]⟩ : Shape).Idx → EReal := fun i => ∑ a ∈ Finset.range 5, ∑ q ∈ Finset.range 2048, shareN Y X R a q (i 1).val
end

theorem fold_sup (n : ℕ) (f : ℕ → EReal) : (Finset.univ.fold max ⊥ fun k : Fin n => f k.val) = (Finset.range n).sup f := by
  have h : (Finset.univ.fold max ⊥ fun k : Fin n => f k.val) = Finset.univ.sup fun k : Fin n => f k.val := rfl
  rw [h]
  apply le_antisymm
  · exact Finset.sup_le fun k _ => Finset.le_sup (f := f) (Finset.mem_range.mpr k.2)
  · exact Finset.sup_le fun k hk => Finset.le_sup (f := fun k : Fin n => f k.val) (Finset.mem_univ ⟨k, Finset.mem_range.mp hk⟩)

end Cert.Trip

end
-- ==== Proof.KernelRows.lean ====
/-
  The kernel's three results over its arguments, row by row.
-/
module

public import proofs.«01_k».proof.Proof.ExactKernelIdeal
public import proofs.«01_k».proof.Proof.Spec
public import Idealize.ShloMosaic.Lib.StableHlo.RunRead

@[expose] public section

noncomputable section

namespace Cert.KernelIdeal.Exact

open Cert.KernelIdeal Cert.KernelIdeal.Gen Cert.Trip Idealize.ShloMosaic Idealize.ShloMosaic.TcCoe Idealize.SL.Sem

variable (m : (ℓ : Loc nD τ sig) → Buf (Elt Ideal) ℓ) (c : Dev nD)

/-! ## The arrays the windows read -/

theorem V_v0 : V m c main_v0 = (shapeCast S10240x8192 (m (c, main_arg0) : FVec Ideal S5x2048x8192 .bf16) shapeCasts_S5x2048x8192_S10240x8192 : FVec Ideal S10240x8192 .bf16) := by
  show StableHlo.after (hostOps0 (F := Ideal)) _ _ = _
  after_reads_simp; rfl
theorem V_v1 : V m c main_v1 = (shapeCast S10240x8192 (m (c, main_arg1) : FVec Ideal S5x2048x8192 .bf16) shapeCasts_S5x2048x8192_S10240x8192 : FVec Ideal S10240x8192 .bf16) := by
  show StableHlo.after (hostOps0 (F := Ideal)) _ _ = _
  after_reads_simp; rfl
theorem V_v2 : V m c main_v2 = (shapeCast S1x8192 (m (c, main_arg2) : FVec Ideal S8192 .f32) shapeCasts_S8192_S1x8192 : FVec Ideal S1x8192 .f32) := by
  show StableHlo.after (hostOps0 (F := Ideal)) _ _ = _
  after_reads_simp; rfl

theorem flat_at (A : FVec Ideal S5x2048x8192 .bf16) (P : Fin 10240) (l : Fin 8192) :
    (shapeCast S10240x8192 A shapeCasts_S5x2048x8192_S10240x8192 : FVec Ideal S10240x8192 .bf16) (ix2 P l) = at3 A (P.val / 2048) (P.val % 2048) l.val := by
  refine Eq.trans ?_ (at3_fin A ⟨P.val / 2048, by omega⟩ ⟨P.val % 2048, by omega⟩ l).symm
  pointwise
theorem line_at (A : FVec Ideal S8192 .f32) (l : Fin 8192) :
    (shapeCast S1x8192 A shapeCasts_S8192_S1x8192 : FVec Ideal S1x8192 .f32) (ix2 0 l) = at1 A l.val := by
  refine Eq.trans ?_ (at1_fin A l).symm
  pointwise

/-! ## The blocks -/

theorem idx0 (t : Fin cfg0.N) : win0_0.index t = ![t.val, 0] := (by decide +kernel : ∀ t : Fin grid0.N, win0_0.index t = ![t.val, 0]) t
theorem idx1 (t : Fin cfg0.N) : win0_1.index t = ![t.val, 0] := (by decide +kernel : ∀ t : Fin grid0.N, win0_1.index t = ![t.val, 0]) t
theorem idx3 (t : Fin cfg0.N) : win0_3.index t = ![0, 0] := (by decide +kernel : ∀ t : Fin grid0.N, win0_3.index t = ![0, 0]) t

theorem x_at (t : Fin cfg0.N) {p l : ℕ} (hp : p < 128) (hl : l < 8192) :
    nd (n := 128) (m := 8192) (iblk m c 0 t) p l = at3 (m (c, main_arg0)) (t.val / 16) (128 * (t.val % 16) + p) l := by
  have hN := lt_of_lt_of_eq t.isLt points
  rw [nd_lt _ hp hl]
  have e : (iblk m c 0 t : S128x8192.Idx → EReal) (ix2 ⟨p, hp⟩ ⟨l, hl⟩) = (V m c main_v0 : S10240x8192.Idx → EReal) (ix2 ⟨t.val * 128 + p, by omega⟩ ⟨l, hl⟩) := by
    blk_simp [iblk]
    refine congrArg (V m c main_v0 : S10240x8192.Idx → EReal) (funext fun b => Fin.ext ?_)
    match b with
    | ⟨0, _⟩ => blk_simp [idx0]
    | ⟨1, _⟩ => blk_simp [idx0]
  refine e.trans ?_
  rw [V_v0]
  refine (flat_at (m (c, main_arg0)) ⟨t.val * 128 + p, by omega⟩ ⟨l, hl⟩).trans ?_
  show at3 _ ((t.val * 128 + p) / 2048) ((t.val * 128 + p) % 2048) l = _
  congr 1 <;> omega

theorem dy_at (t : Fin cfg0.N) {p l : ℕ} (hp : p < 128) (hl : l < 8192) :
    nd (n := 128) (m := 8192) (iblk m c 1 t) p l = at3 (m (c, main_arg1)) (t.val / 16) (128 * (t.val % 16) + p) l := by
  have hN := lt_of_lt_of_eq t.isLt points
  rw [nd_lt _ hp hl]
  have e : (iblk m c 1 t : S128x8192.Idx → EReal) (ix2 ⟨p, hp⟩ ⟨l, hl⟩) = (V m c main_v1 : S10240x8192.Idx → EReal) (ix2 ⟨t.val * 128 + p, by omega⟩ ⟨l, hl⟩) := by
    blk_simp [iblk]
    refine congrArg (V m c main_v1 : S10240x8192.Idx → EReal) (funext fun b => Fin.ext ?_)
    match b with
    | ⟨0, _⟩ => blk_simp [idx1]
    | ⟨1, _⟩ => blk_simp [idx1]
  refine e.trans ?_
  rw [V_v1]
  refine (flat_at (m (c, main_arg1)) ⟨t.val * 128 + p, by omega⟩ ⟨l, hl⟩).trans ?_
  show at3 _ ((t.val * 128 + p) / 2048) ((t.val * 128 + p) % 2048) l = _
  congr 1 <;> omega

theorem gam_at (t : Fin cfg0.N) {l : ℕ} (hl : l < 8192) :
    nd (n := 1) (m := 8192) (iblk m c 2 t) 0 l = at1 (m (c, main_arg2)) l := by
  rw [nd_lt _ (by omega) hl]
  have e : (iblk m c 2 t : S1x8192.Idx → EReal) (ix2 ⟨0, by omega⟩ ⟨l, hl⟩) = (V m c main_v2 : S1x8192.Idx → EReal) (ix2 0 ⟨l, hl⟩) := by
    blk_simp [iblk]
    refine congrArg (V m c main_v2 : S1x8192.Idx → EReal) (funext fun b => Fin.ext ?_)
    match b with
    | ⟨0, _⟩ => blk_simp [idx2]
    | ⟨1, _⟩ => blk_simp [idx2]
  refine e.trans ?_
  rw [V_v2]
  exact line_at (m (c, main_arg2)) ⟨l, hl⟩

theorem r_at (t : Fin cfg0.N) (a q : ℕ) :
    nd (n := 5) (m := 2048) (iblk m c 3 t) a q = at2 (m (c, main_arg3)) a q := by
  unfold nd at2
  split
  · rename_i h
    have e : (iblk m c 3 t : S5x2048.Idx → EReal) (ix2 ⟨a, h.1⟩ ⟨q, h.2⟩) = (V m c main_arg3 : S5x2048.Idx → EReal) (ix2 ⟨a, h.1⟩ ⟨q, h.2⟩) := by
      blk_simp [iblk]
      refine congrArg (V m c main_arg3 : S5x2048.Idx → EReal) (funext fun b => Fin.ext ?_)
      match b with
      | ⟨0, _⟩ => blk_simp [idx3]
      | ⟨1, _⟩ => blk_simp [idx3]
    refine e.trans ?_
    rw [V_main_arg3]
  · rfl

/-! ## The results -/

theorem mR_congr {Y Y' X X' G G' : ℕ → EReal} (r : EReal) (hY : ∀ c < 8192, Y c = Y' c) (hX : ∀ c < 8192, X c = X' c) (hG : ∀ c < 8192, G c = G' c) :
    mR Y X G r = mR Y' X' G' r := by
  unfold mR
  refine congrArg (· * Ideal.ofBits .f32 0x39000000#32) (Finset.sum_congr rfl fun c hc => ?_)
  have h := Finset.mem_range.mp hc
  unfold gR wR; rw [hY c h, hX c h, hG c h]

theorem dR_congr {Y Y' X X' G G' : ℕ → EReal} (r : EReal) (hY : ∀ c < 8192, Y c = Y' c) (hX : ∀ c < 8192, X c = X' c) (hG : ∀ c < 8192, G c = G' c)
    {c : ℕ} (h : c < 8192) : dR Y X G r c = dR Y' X' G' r c := by
  unfold dR gR wR; rw [mR_congr r hY hX hG, hY c h, hX c h, hG c h]

theorem qR_congr {Y Y' X X' G G' : ℕ → EReal} (r : EReal) (hY : ∀ c < 8192, Y c = Y' c) (hX : ∀ c < 8192, X c = X' c) (hG : ∀ c < 8192, G c = G' c) :
    qR Y X G r = qR Y' X' G' r := by
  unfold qR topR
  refine congrArg (fun z => max 0 z * ab r * Ideal.ofBits .f32 0x37924925#32) (Finset.sup_congr rfl fun c hc => ?_)
  rw [dR_congr r hY hX hG (Finset.mem_range.mp hc)]

section point
variable (t : Fin cfg0.N)

/-- The member and the row of the member that a point's row `p` is. -/
abbrev mem (t : Fin cfg0.N) : ℕ := t.val / 16
abbrev line (t : Fin cfg0.N) (p : ℕ) : ℕ := 128 * (t.val % 16) + p

theorem rc_at (p : ℕ) : nd (n := 5) (m := 2048) (iblk m c 3 t) ((grid0.coords t) 0).val (128 * ((grid0.coords t) 1).val + p)
    = at2 (m (c, main_arg3)) (mem t) (line t p) := by
  rw [r_at, coord0, coord1]

theorem at_codes {p l : ℕ} (hp : p < 128) (hl : l < 8192) :
    atT m c t cV p l = codesN (m (c, main_arg1)) (m (c, main_arg0)) (m (c, main_arg2)) (m (c, main_arg3)) (mem t) (line t p) l := by
  unfold atT codesN
  rw [cV_row _ _ _ _ hp hl, rc_at]
  unfold cR
  rw [dR_congr _ (fun c' h => dy_at m c t hp h) (fun c' h => x_at m c t hp h) (fun c' h => gam_at m c t h) hl,
    qR_congr _ (fun c' h => dy_at m c t hp h) (fun c' h => x_at m c t hp h) (fun c' h => gam_at m c t h)]

theorem at_scale {p : ℕ} (hp : p < 128) :
    atT m c t sV p 0 = scaleN (m (c, main_arg1)) (m (c, main_arg0)) (m (c, main_arg2)) (m (c, main_arg3)) (mem t) (line t p) := by
  unfold atT scaleN
  rw [sV_row _ _ _ _ hp (by omega), rc_at]
  unfold sR
  rw [qR_congr _ (fun c' h => dy_at m c t hp h) (fun c' h => x_at m c t hp h) (fun c' h => gam_at m c t h)]

theorem at_share {l : ℕ} (hl : l < 8192) :
    ∑ q ∈ Finset.range 8, ∑ k ∈ Finset.range 4, atT m c t (fun dy x _ rc => share dy x rc) k q l
      = ∑ u ∈ Finset.range 128, shareN (m (c, main_arg1)) (m (c, main_arg0)) (m (c, main_arg3)) (mem t) (line t u) l := by
  unfold atT
  rw [share_rows]
  refine Finset.sum_congr rfl fun u hu => ?_
  have h := Finset.mem_range.mp hu
  unfold shareN eR
  rw [rc_at, dy_at m c t h hl, x_at m c t h hl]
end point

theorem codes_all : codesG m c = codesF (m (c, main_arg1)) (m (c, main_arg0)) (m (c, main_arg2)) (m (c, main_arg3)) := by
  funext i
  have h0 : (i 0).val < 10240 := (i 0).isLt
  have h1 : (i 1).val < 8192 := (i 1).isLt
  unfold codesG codesF
  rw [at_codes m c _ (Nat.mod_lt _ (by omega)) h1]
  show codesN _ _ _ _ ((i 0).val / 128 % 80 / 16) (128 * ((i 0).val / 128 % 80 % 16) + (i 0).val % 128) _ = _
  congr 1 <;> omega

theorem scale_all : scaleAt m c 80 = scaleF (m (c, main_arg1)) (m (c, main_arg0)) (m (c, main_arg2)) (m (c, main_arg3)) := by
  funext i
  have h0 : (i 0).val < 5 := (i 0).isLt
  have h1 : (i 1).val < 2048 := (i 1).isLt
  unfold scaleAt scaleF
  rw [if_pos (by omega), at_scale m c _ (Nat.mod_lt _ (by omega))]
  show scaleN _ _ _ _ ((16 * (i 0).val + (i 1).val / 128) % 80 / 16) (128 * ((16 * (i 0).val + (i 1).val / 128) % 80 % 16) + (i 1).val % 128) = _
  congr 1 <;> omega

theorem dgamma_all : dgammaAt m c = dgammaF (m (c, main_arg1)) (m (c, main_arg0)) (m (c, main_arg3)) := by
  funext i
  have h1 : (i 1).val < 8192 := (i 1).isLt
  unfold dgammaAt accAt dgammaF
  rw [Finset.sum_comm]
  rw [Finset.sum_congr rfl fun j _ => at_share m c (pt j) h1]
  rw [← sum_blocks 16 (fun j => ∑ u ∈ Finset.range 128, shareN (m (c, main_arg1)) (m (c, main_arg0)) (m (c, main_arg3)) (mem (pt j)) (line (pt j) u) (i 1).val) 5]
  refine Finset.sum_congr rfl fun a ha => ?_
  have h := Finset.mem_range.mp ha
  rw [← sum_blocks 128 (fun q => shareN (m (c, main_arg1)) (m (c, main_arg0)) (m (c, main_arg3)) a q (i 1).val) 16]
  refine Finset.sum_congr rfl fun b hb => ?_
  have h' := Finset.mem_range.mp hb
  refine Finset.sum_congr rfl fun u _ => ?_
  show shareN _ _ _ ((16 * a + b) % 80 / 16) (128 * ((16 * a + b) % 80 % 16) + u) _ = _
  congr 1 <;> omega

end Cert.KernelIdeal.Exact

end
-- ==== Proof.RefOps.lean ====
/-
  The host operations of the reference, in stages: what each stage leaves in the buffers that are read later.
-/
module

public import proofs.«01_k».proof.Proof.Row
public import proofs.«01_k».proof.Proof.Gen.ReferenceIdeal.Value
public import Idealize.ShloMosaic.Lib.Pointwise
public import Idealize.ShloMosaic.Lib.Claim
public import Idealize.ShloMosaic.Lib.StableHlo.RunRead
public import Idealize.ShloMosaic.Lib.Pipeline.ValueKit

@[expose] public section

noncomputable section

namespace Cert.ReferenceIdeal.Exact

open Cert.ReferenceIdeal Cert.ReferenceIdeal.Gen Cert.Trip Idealize.ShloMosaic Idealize.ShloMosaic.TcCoe Idealize.SL.Sem

/-! ## The stages -/

section ops
variable {F : FTy → Type} [FloatOps F]

/-- The operations that leave the normalised input and the weighted gradient. -/
abbrev opsA : List (HloOp τ sig (Elt F)) :=
  [ StableHlo.unary main_arg0 main_v0 ((extf .f32 · bitsLt_bf16_f32) : (⟨S5x2048x8192, .bf16⟩ : BufTy).Contents (Elt F) → (⟨S5x2048x8192, .f32⟩ : BufTy).Contents (Elt F)),
    StableHlo.unary main_arg1 main_v1 ((extf .f32 · bitsLt_bf16_f32) : (⟨S5x2048x8192, .bf16⟩ : BufTy).Contents (Elt F) → (⟨S5x2048x8192, .f32⟩ : BufTy).Contents (Elt F)),
    StableHlo.unary main_arg3 main_v2 (broadcastInDim S5x2048x1 ![0, 1] bcast_S5x2048_S5x2048x1_0_1 : (⟨S5x2048, .f32⟩ : BufTy).Contents (Elt F) → (⟨S5x2048x1, .f32⟩ : BufTy).Contents (Elt F)),
    StableHlo.unary main_v2 main_v3 (broadcastInDim S5x2048x8192 ![0, 1, 2] bcast_S5x2048x1_S5x2048x8192_0_1_2 : (⟨S5x2048x1, .f32⟩ : BufTy).Contents (Elt F) → (⟨S5x2048x8192, .f32⟩ : BufTy).Contents (Elt F)),
    StableHlo.binary main_v0 main_v3 main_v4 (mulf : (⟨S5x2048x8192, .f32⟩ : BufTy).Contents (Elt F) → (⟨S5x2048x8192, .f32⟩ : BufTy).Contents (Elt F) → (⟨S5x2048x8192, .f32⟩ : BufTy).Contents (Elt F)),
    StableHlo.unary main_arg2 main_v5 (broadcastInDim S1x1x8192 ![2] bcast_S8192_S1x1x8192_2 : (⟨S8192, .f32⟩ : BufTy).Contents (Elt F) → (⟨S1x1x8192, .f32⟩ : BufTy).Contents (Elt F)),
    StableHlo.unary main_v5 main_v6 (broadcastInDim S5x2048x8192 ![0, 1, 2] bcast_S1x1x8192_S5x2048x8192_0_1_2 : (⟨S1x1x8192, .f32⟩ : BufTy).Contents (Elt F) → (⟨S5x2048x8192, .f32⟩ : BufTy).Contents (Elt F)),
    StableHlo.binary main_v1 main_v6 main_v7 (mulf : (⟨S5x2048x8192, .f32⟩ : BufTy).Contents (Elt F) → (⟨S5x2048x8192, .f32⟩ : BufTy).Contents (Elt F) → (⟨S5x2048x8192, .f32⟩ : BufTy).Contents (Elt F)) ]

/-- The operations that leave the gradient of the input. -/
abbrev opsB : List (HloOp τ sig (Elt F)) :=
  [ StableHlo.binary main_v7 main_v4 main_v8 (mulf : (⟨S5x2048x8192, .f32⟩ : BufTy).Contents (Elt F) → (⟨S5x2048x8192, .f32⟩ : BufTy).Contents (Elt F) → (⟨S5x2048x8192, .f32⟩ : BufTy).Contents (Elt F)),
    StableHlo.nullary main_cst (constant S_ .f32 0x00000000#32),
    StableHlo.binary main_v8 main_cst main_v9 ((fun x v => Host.reduceAdd x v reducesTo_S5x2048x8192_S5x2048_d2 h_S_) : (⟨S5x2048x8192, .f32⟩ : BufTy).Contents (Elt F) → (⟨S_, .f32⟩ : BufTy).Contents (Elt F) → (⟨S5x2048, .f32⟩ : BufTy).Contents (Elt F)),
    StableHlo.unary main_v9 main_v10 (broadcastInDim S5x2048x1 ![0, 1] bcast_S5x2048_S5x2048x1_0_1 : (⟨S5x2048, .f32⟩ : BufTy).Contents (Elt F) → (⟨S5x2048x1, .f32⟩ : BufTy).Contents (Elt F)),
    StableHlo.nullary main_cst_0 (constant S_ .f32 0x46000000#32),
    StableHlo.unary main_cst_0 main_v11 (broadcastInDim S5x2048x1 ![] bcast_S_S5x2048x1 : (⟨S_, .f32⟩ : BufTy).Contents (Elt F) → (⟨S5x2048x1, .f32⟩ : BufTy).Contents (Elt F)),
    StableHlo.binary main_v10 main_v11 main_v12 (Host.divf : (⟨S5x2048x1, .f32⟩ : BufTy).Contents (Elt F) → (⟨S5x2048x1, .f32⟩ : BufTy).Contents (Elt F) → (⟨S5x2048x1, .f32⟩ : BufTy).Contents (Elt F)),
    StableHlo.unary main_v12 main_v13 (broadcastInDim S5x2048x8192 ![0, 1, 2] bcast_S5x2048x1_S5x2048x8192_0_1_2 : (⟨S5x2048x1, .f32⟩ : BufTy).Contents (Elt F) → (⟨S5x2048x8192, .f32⟩ : BufTy).Contents (Elt F)),
    StableHlo.binary main_v4 main_v13 main_v14 (mulf : (⟨S5x2048x8192, .f32⟩ : BufTy).Contents (Elt F) → (⟨S5x2048x8192, .f32⟩ : BufTy).Contents (Elt F) → (⟨S5x2048x8192, .f32⟩ : BufTy).Contents (Elt F)),
    StableHlo.binary main_v7 main_v14 main_v15 (subf : (⟨S5x2048x8192, .f32⟩ : BufTy).Contents (Elt F) → (⟨S5x2048x8192, .f32⟩ : BufTy).Contents (Elt F) → (⟨S5x2048x8192, .f32⟩ : BufTy).Contents (Elt F)),
    StableHlo.unary main_v2 main_v16 (broadcastInDim S5x2048x8192 ![0, 1, 2] bcast_S5x2048x1_S5x2048x8192_0_1_2 : (⟨S5x2048x1, .f32⟩ : BufTy).Contents (Elt F) → (⟨S5x2048x8192, .f32⟩ : BufTy).Contents (Elt F)),
    StableHlo.binary main_v16 main_v15 main_v17 (mulf : (⟨S5x2048x8192, .f32⟩ : BufTy).Contents (Elt F) → (⟨S5x2048x8192, .f32⟩ : BufTy).Contents (Elt F) → (⟨S5x2048x8192, .f32⟩ : BufTy).Contents (Elt F)) ]

/-- The operations that leave the gradient of gamma. -/
abbrev opsC : List (HloOp τ sig (Elt F)) :=
  [ StableHlo.binary main_v1 main_v4 main_v18 (mulf : (⟨S5x2048x8192, .f32⟩ : BufTy).Contents (Elt F) → (⟨S5x2048x8192, .f32⟩ : BufTy).Contents (Elt F) → (⟨S5x2048x8192, .f32⟩ : BufTy).Contents (Elt F)),
    StableHlo.nullary main_cst_1 (constant S_ .f32 0x00000000#32),
    StableHlo.binary main_v18 main_cst_1 main_v19 ((fun x v => Host.reduceAdd x v reducesTo_S5x2048x8192_S8192_d0_1 h_S_) : (⟨S5x2048x8192, .f32⟩ : BufTy).Contents (Elt F) → (⟨S_, .f32⟩ : BufTy).Contents (Elt F) → (⟨S8192, .f32⟩ : BufTy).Contents (Elt F)),
    StableHlo.reshape main_v19 main_v20 (rfl : (.f32 : EltTy) = .f32) shapeCasts_S8192_S1x8192 ]

/-- The operations that leave the bound each row is scaled by. -/
abbrev opsD : List (HloOp τ sig (Elt F)) :=
  [ StableHlo.unary main_v17 main_v21 (Host.absf : (⟨S5x2048x8192, .f32⟩ : BufTy).Contents (Elt F) → (⟨S5x2048x8192, .f32⟩ : BufTy).Contents (Elt F)),
    StableHlo.nullary main_cst_2 (constant S_ .f32 0xFF800000#32),
    StableHlo.binary main_v21 main_cst_2 main_v22 ((fun x v => Host.reduce FloatOps.maximumf x v reducesTo_S5x2048x8192_S5x2048_d2 h_S_) : (⟨S5x2048x8192, .f32⟩ : BufTy).Contents (Elt F) → (⟨S_, .f32⟩ : BufTy).Contents (Elt F) → (⟨S5x2048, .f32⟩ : BufTy).Contents (Elt F)),
    StableHlo.nullary main_cst_3 (constant S_ .f32 0x37924925#32),
    StableHlo.unary main_cst_3 main_v23 (broadcastInDim S5x2048 ![] bcast_S_S5x2048 : (⟨S_, .f32⟩ : BufTy).Contents (Elt F) → (⟨S5x2048, .f32⟩ : BufTy).Contents (Elt F)),
    StableHlo.binary main_v22 main_v23 main_v24 (mulf : (⟨S5x2048, .f32⟩ : BufTy).Contents (Elt F) → (⟨S5x2048, .f32⟩ : BufTy).Contents (Elt F) → (⟨S5x2048, .f32⟩ : BufTy).Contents (Elt F)) ]

/-- The operations that leave the exponent before the choice of zero. -/
abbrev opsE : List (HloOp τ sig (Elt F)) :=
  [ StableHlo.nullary main_cst_4 (constant S_ .f32 0x40000000#32),
    StableHlo.unary main_cst_4 main_v25 (broadcastInDim S5x2048 ![] bcast_S_S5x2048 : (⟨S_, .f32⟩ : BufTy).Contents (Elt F) → (⟨S5x2048, .f32⟩ : BufTy).Contents (Elt F)),
    StableHlo.unary main_v24 main_v26 (Host.log : (⟨S5x2048, .f32⟩ : BufTy).Contents (Elt F) → (⟨S5x2048, .f32⟩ : BufTy).Contents (Elt F)),
    StableHlo.unary main_v25 main_v27 (Host.log : (⟨S5x2048, .f32⟩ : BufTy).Contents (Elt F) → (⟨S5x2048, .f32⟩ : BufTy).Contents (Elt F)),
    StableHlo.binary main_v26 main_v27 main_v28 (Host.divf : (⟨S5x2048, .f32⟩ : BufTy).Contents (Elt F) → (⟨S5x2048, .f32⟩ : BufTy).Contents (Elt F) → (⟨S5x2048, .f32⟩ : BufTy).Contents (Elt F)),
    StableHlo.unary main_v28 main_v29 (Host.floor : (⟨S5x2048, .f32⟩ : BufTy).Contents (Elt F) → (⟨S5x2048, .f32⟩ : BufTy).Contents (Elt F)),
    StableHlo.nullary main_cst_5 (constant S_ .f32 0x3F800000#32),
    StableHlo.unary main_cst_5 main_v30 (broadcastInDim S5x2048 ![] bcast_S_S5x2048 : (⟨S_, .f32⟩ : BufTy).Contents (Elt F) → (⟨S5x2048, .f32⟩ : BufTy).Contents (Elt F)),
    StableHlo.binary main_v29 main_v30 main_v31 (addf : (⟨S5x2048, .f32⟩ : BufTy).Contents (Elt F) → (⟨S5x2048, .f32⟩ : BufTy).Contents (Elt F) → (⟨S5x2048, .f32⟩ : BufTy).Contents (Elt F)),
    StableHlo.nullary main_cst_6 (constant S_ .f32 0x00800000#32),
    StableHlo.unary main_cst_6 main_v32 (broadcastInDim S5x2048 ![] bcast_S_S5x2048 : (⟨S_, .f32⟩ : BufTy).Contents (Elt F) → (⟨S5x2048, .f32⟩ : BufTy).Contents (Elt F)),
    StableHlo.binary main_v24 main_v32 main_v33 (cmpf .olt : (⟨S5x2048, .f32⟩ : BufTy).Contents (Elt F) → (⟨S5x2048, .f32⟩ : BufTy).Contents (Elt F) → (⟨S5x2048, .i1⟩ : BufTy).Contents (Elt F)),
    StableHlo.nullary main_cst_7 (constant S_ .f32 0x42E20000#32),
    StableHlo.unary main_cst_7 main_v34 (broadcastInDim S5x2048 ![] bcast_S_S5x2048 : (⟨S_, .f32⟩ : BufTy).Contents (Elt F) → (⟨S5x2048, .f32⟩ : BufTy).Contents (Elt F)),
    StableHlo.binary main_v31 main_v34 main_v35 (minimumf : (⟨S5x2048, .f32⟩ : BufTy).Contents (Elt F) → (⟨S5x2048, .f32⟩ : BufTy).Contents (Elt F) → (⟨S5x2048, .f32⟩ : BufTy).Contents (Elt F)),
    StableHlo.nullary main_cst_8 (constant S_ .f32 0x00000000#32) ]

end ops

/-! ## What the stages compute -/

def fR (R : FVec Ideal S5x2048 .f32) : FVec Ideal S5x2048x1 .f32 := broadcastInDim S5x2048x1 ![0, 1] bcast_S5x2048_S5x2048x1_0_1 R
def fC (R : FVec Ideal S5x2048x1 .f32) : FVec Ideal S5x2048x8192 .f32 := broadcastInDim S5x2048x8192 ![0, 1, 2] bcast_S5x2048x1_S5x2048x8192_0_1_2 R
def fE (Y : FVec Ideal S5x2048x8192 .bf16) : FVec Ideal S5x2048x8192 .f32 := extf .f32 Y bitsLt_bf16_f32
def fW (X : FVec Ideal S5x2048x8192 .bf16) (R : FVec Ideal S5x2048 .f32) : FVec Ideal S5x2048x8192 .f32 := mulf (fE X) (fC (fR R))
def fG (Y : FVec Ideal S5x2048x8192 .bf16) (G : FVec Ideal S8192 .f32) : FVec Ideal S5x2048x8192 .f32 :=
  mulf (fE Y) (broadcastInDim S5x2048x8192 ![0, 1, 2] bcast_S1x1x8192_S5x2048x8192_0_1_2 (broadcastInDim S1x1x8192 ![2] bcast_S8192_S1x1x8192_2 G))
def fD (g w : FVec Ideal S5x2048x8192 .f32) (R : FVec Ideal S5x2048x1 .f32) : FVec Ideal S5x2048x8192 .f32 :=
  mulf (fC R) (subf g (mulf w (fC (Host.divf (fR (Host.reduceAdd (mulf g w) (constant S_ .f32 0x00000000#32) reducesTo_S5x2048x8192_S5x2048_d2 h_S_))
    (broadcastInDim S5x2048x1 ![] bcast_S_S5x2048x1 (constant S_ .f32 0x46000000#32 : FVec Ideal S_ .f32))))))
def fS (y w : FVec Ideal S5x2048x8192 .f32) : FVec Ideal S1x8192 .f32 :=
  shapeCast S1x8192 (Host.reduceAdd (mulf y w) (constant S_ .f32 0x00000000#32) reducesTo_S5x2048x8192_S8192_d0_1 h_S_) shapeCasts_S8192_S1x8192
def fK (b : BitVec 32) : FVec Ideal S5x2048 .f32 := broadcastInDim S5x2048 ![] bcast_S_S5x2048 (constant S_ .f32 b : FVec Ideal S_ .f32)
def fQ (d : FVec Ideal S5x2048x8192 .f32) : FVec Ideal S5x2048 .f32 :=
  mulf (Host.reduce FloatOps.maximumf (Host.absf d) (constant S_ .f32 0xFF800000#32) reducesTo_S5x2048x8192_S5x2048_d2 h_S_) (fK 0x37924925#32)
def fL (q : FVec Ideal S5x2048 .f32) : FVec Ideal S5x2048 .f32 :=
  minimumf (addf (Host.floor (Host.divf (Host.log q) (Host.log (fK 0x40000000#32)))) (fK 0x3F800000#32)) (fK 0x42E20000#32)
def fX (q : FVec Ideal S5x2048 .f32) : FVec Ideal S5x2048 .f32 := select (cmpf .olt q (fK 0x00800000#32)) (fK 0x00000000#32) (fL q)
def fP (d : FVec Ideal S5x2048x8192 .f32) (e : FVec Ideal S5x2048 .f32) : FVec Ideal S10240x8192 .f32 :=
  shapeCast S10240x8192 (mulf d (fC (fR (Host.powf (fK 0x40000000#32) (Host.negf e))))) shapeCasts_S5x2048x8192_S10240x8192

/-! ## What the stages leave -/

variable (σ : Valuation τ sig (Elt Ideal))

theorem opsA_v1 : StableHlo.after (opsA (F := Ideal)) σ main_v1 = fE (σ main_arg1) := by
  after_reads_simp; rfl

theorem opsA_v2 : StableHlo.after (opsA (F := Ideal)) σ main_v2 = fR (σ main_arg3) := by
  after_reads_simp; rfl

theorem opsA_v4 : StableHlo.after (opsA (F := Ideal)) σ main_v4 = fW (σ main_arg0) (σ main_arg3) := by
  after_reads_simp; rfl

theorem opsA_v7 : StableHlo.after (opsA (F := Ideal)) σ main_v7 = fG (σ main_arg1) (σ main_arg2) := by
  after_reads_simp; rfl

theorem opsB_v17 : StableHlo.after (opsB (F := Ideal)) σ main_v17 = fD (σ main_v7) (σ main_v4) (σ main_v2) := by
  after_reads_simp; rfl

theorem opsB_v1 : StableHlo.after (opsB (F := Ideal)) σ main_v1 = σ main_v1 := by
  after_reads_simp

theorem opsB_v4 : StableHlo.after (opsB (F := Ideal)) σ main_v4 = σ main_v4 := by
  after_reads_simp

theorem opsC_v20 : StableHlo.after (opsC (F := Ideal)) σ main_v20 = fS (σ main_v1) (σ main_v4) := by
  after_reads_simp; rfl

theorem opsC_v17 : StableHlo.after (opsC (F := Ideal)) σ main_v17 = σ main_v17 := by
  after_reads_simp

theorem opsD_v24 : StableHlo.after (opsD (F := Ideal)) σ main_v24 = fQ (σ main_v17) := by
  after_reads_simp; rfl

theorem opsD_v17 : StableHlo.after (opsD (F := Ideal)) σ main_v17 = σ main_v17 := by
  after_reads_simp

theorem opsD_v20 : StableHlo.after (opsD (F := Ideal)) σ main_v20 = σ main_v20 := by
  after_reads_simp

theorem opsE_v25 : StableHlo.after (opsE (F := Ideal)) σ main_v25 = fK 0x40000000#32 := by
  after_reads_simp; rfl

theorem opsE_v33 : StableHlo.after (opsE (F := Ideal)) σ main_v33 = cmpf .olt (σ main_v24 : FVec Ideal S5x2048 .f32) (fK 0x00800000#32) := by
  after_reads_simp; rfl

theorem opsE_v35 : StableHlo.after (opsE (F := Ideal)) σ main_v35 = fL (σ main_v24) := by
  after_reads_simp; rfl

theorem opsE_cst_8 : StableHlo.after (opsE (F := Ideal)) σ main_cst_8 = (constant S_ .f32 0x00000000#32 : FVec Ideal S_ .f32) := by
  after_reads_simp

theorem opsE_v17 : StableHlo.after (opsE (F := Ideal)) σ main_v17 = σ main_v17 := by
  after_reads_simp

theorem opsE_v20 : StableHlo.after (opsE (F := Ideal)) σ main_v20 = σ main_v20 := by
  after_reads_simp

theorem hostOps0_1_v36 : StableHlo.after (hostOps0_1 (F := Ideal)) σ main_v36 = select (σ main_v33) (broadcastInDim S5x2048 ![] bcast_S_S5x2048 (σ main_cst_8 : FVec Ideal S_ .f32)) (σ main_v35 : FVec Ideal S5x2048 .f32) := by
  after_reads_simp; rfl

theorem hostOps0_1_v25 : StableHlo.after (hostOps0_1 (F := Ideal)) σ main_v25 = σ main_v25 := by
  after_reads_simp

theorem hostOps0_1_v17 : StableHlo.after (hostOps0_1 (F := Ideal)) σ main_v17 = σ main_v17 := by
  after_reads_simp

theorem hostOps0_1_v20 : StableHlo.after (hostOps0_1 (F := Ideal)) σ main_v20 = σ main_v20 := by
  after_reads_simp

theorem hostOps0_2_v37 : StableHlo.after (hostOps0_2 (F := Ideal)) σ main_v37 = (Host.powf (σ main_v25 : FVec Ideal S5x2048 .f32) (σ main_v36 : FVec Ideal S5x2048 .f32) : FVec Ideal S5x2048 .f32) := by
  after_reads_simp

theorem hostOps0_2_v43 : StableHlo.after (hostOps0_2 (F := Ideal)) σ main_v43 = shapeCast S10240x8192 (mulf (σ main_v17 : FVec Ideal S5x2048x8192 .f32) (fC (fR (Host.powf (σ main_v25 : FVec Ideal S5x2048 .f32) (Host.negf (σ main_v36 : FVec Ideal S5x2048 .f32)))))) shapeCasts_S5x2048x8192_S10240x8192 := by
  after_reads_simp; rfl

theorem hostOps0_2_v20 : StableHlo.after (hostOps0_2 (F := Ideal)) σ main_v20 = σ main_v20 := by
  after_reads_simp

/-! ## The results over the arguments -/

variable (m : (ℓ : Loc nD τ sig) → Buf (Elt Ideal) ℓ) (c : Dev nD)

/-- The buffers before the exponent's computation. -/
def pre : Valuation τ sig (Elt Ideal) :=
  StableHlo.after (opsC (F := Ideal)) (StableHlo.after (opsB (F := Ideal)) (StableHlo.after (opsA (F := Ideal)) fun b => m (c, b)))

theorem V_split (b : Ref sig .tc) : V m c b = StableHlo.after (hostOps0_2 (F := Ideal)) (StableHlo.after (hostOps0_1 (F := Ideal))
    (StableHlo.after (opsE (F := Ideal)) (StableHlo.after (opsD (F := Ideal)) (pre m c)))) b := rfl

theorem pre_v17 : pre m c main_v17 = fD (fG (m (c, main_arg1)) (m (c, main_arg2))) (fW (m (c, main_arg0)) (m (c, main_arg3))) (fR (m (c, main_arg3))) := by
  unfold pre; rw [opsC_v17, opsB_v17, opsA_v7, opsA_v4, opsA_v2]

theorem pre_v20 : pre m c main_v20 = fS (fE (m (c, main_arg1))) (fW (m (c, main_arg0)) (m (c, main_arg3))) := by
  unfold pre; rw [opsC_v20, opsB_v1, opsB_v4, opsA_v1, opsA_v4]

theorem last_v36 (σ : Valuation τ sig (Elt Ideal)) : StableHlo.after (hostOps0_1 (F := Ideal)) (StableHlo.after (opsE (F := Ideal)) (StableHlo.after (opsD (F := Ideal)) σ)) main_v36
    = fX (fQ (σ main_v17)) := by
  rw [hostOps0_1_v36, opsE_v33, opsE_cst_8, opsE_v35, opsD_v24]; rfl

theorem V_v20 : V m c main_v20 = fS (fE (m (c, main_arg1))) (fW (m (c, main_arg0)) (m (c, main_arg3))) := by
  rw [V_split, hostOps0_2_v20, hostOps0_1_v20, opsE_v20, opsD_v20, pre_v20]

theorem V_v37 : V m c main_v37 = (Host.powf (fK 0x40000000#32) (fX (fQ (pre m c main_v17))) : FVec Ideal S5x2048 .f32) := by
  rw [V_split, hostOps0_2_v37, last_v36, hostOps0_1_v25, opsE_v25]

theorem V_v43 : V m c main_v43 = fP (pre m c main_v17) (fX (fQ (pre m c main_v17))) := by
  rw [V_split, hostOps0_2_v43, last_v36, hostOps0_1_v25, opsE_v25, hostOps0_1_v17, opsE_v17, opsD_v17]; rfl

end Cert.ReferenceIdeal.Exact

end
-- ==== Proof.RefValue.lean ====
/-
  What the reference leaves in its results, row by row.
-/
module

public import proofs.«01_k».proof.Proof.RefOps
public import proofs.«01_k».proof.Proof.Spec

@[expose] public section

noncomputable section

namespace Cert.ReferenceIdeal.Exact

open Cert.ReferenceIdeal Cert.ReferenceIdeal.Gen Cert.Trip Idealize.ShloMosaic Idealize.ShloMosaic.TcCoe Idealize.SL.Sem

theorem fW_at (X : FVec Ideal S5x2048x8192 .bf16) (R : FVec Ideal S5x2048 .f32) (a : Fin 5) (q : Fin 2048) (l : Fin 8192) :
    fW X R (ix3 a q l) = X (ix3 a q l) * R (ix2 a q) := by
  unfold fW fE fC fR; pointwise

theorem fG_at (Y : FVec Ideal S5x2048x8192 .bf16) (G : FVec Ideal S8192 .f32) (a : Fin 5) (q : Fin 2048) (l : Fin 8192) :
    fG Y G (ix3 a q l) = Y (ix3 a q l) * G (ix1 l) := by
  unfold fG fE; pointwise

theorem fD_at (g w : FVec Ideal S5x2048x8192 .f32) (R : FVec Ideal S5x2048 .f32) (a : Fin 5) (q : Fin 2048) (l : Fin 8192) :
    fD g w (fR R) (ix3 a q l) = R (ix2 a q) * (g (ix3 a q l) - w (ix3 a q l) * Ideal.div (∑ k : Fin 8192, g (ix3 a q k) * w (ix3 a q k)) (Ideal.ofBits .f32 0x46000000#32)) := by
  unfold fD fC fR; pointwise

theorem max_last {n0 n1 n2 : ℕ} {u : Shape} (h : (⟨3, ![n0, n1, n2]⟩ : Shape).ReducesTo [2] ⟨2, ![n0, n1]⟩) (hu : 0 < u.numel)
    (x : FVec Ideal ⟨3, ![n0, n1, n2]⟩ .f32) (init : FVec Ideal u .f32) (a : Fin n0) (q : Fin n1) :
    Host.reduce (FloatOps.maximumf (F := Ideal) (φ := .f32)) x init h hu (ix2 a q) = Finset.univ.fold max (init (Shape.Idx.first hu)) fun k : Fin n2 => x (ix3 a q k) := by
  pointwise

theorem add_front {n0 n1 n2 : ℕ} (h : (⟨3, ![n0, n1, n2]⟩ : Shape).ReducesTo [0, 1] ⟨1, ![n2]⟩) (x : (⟨3, ![n0, n1, n2]⟩ : Shape).Idx → EReal) (init : EReal) (l : Fin n2) :
    Ideal.hostReduceAdd h x init (ix1 l) = init + ∑ a : Fin n0, ∑ q : Fin n1, x (ix3 a q l) := by
  unfold Ideal.hostReduceAdd
  rw [← Fintype.sum_prod_type' (fun (a : Fin n0) (q : Fin n1) => x (ix3 a q l))]
  congr 1
  refine Finset.sum_filter_eq_sum_of_fiber _ (fun k : Fin n0 × Fin n1 => ix3 k.1 k.2 l) (fun k k' e => Prod.ext (congrFun e 0) (congrFun e 1)) (fun i => ?_) x
  constructor
  · intro e
    refine ⟨(i 0, i 1), ?_⟩
    funext b; apply Fin.ext
    match b with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

theorem fS_at (y w : FVec Ideal S5x2048x8192 .f32) (l : Fin 8192) :
    fS y w (ix2 0 l) = ∑ a : Fin 5, ∑ q : Fin 2048, y (ix3 a q l) * w (ix3 a q l) := by
  unfold fS; pointwise
  refine (add_front reducesTo_S5x2048x8192_S8192_d0_1 (mulf y w) 0 l).trans ?_
  rw [zero_add]; rfl

theorem mul_at {s : Shape} (A B : FVec Ideal s .f32) (i : s.Idx) : mulf A B i = (A i * B i : EReal) := rfl
theorem abs_at {s : Shape} (A : FVec Ideal s .f32) (i : s.Idx) : Host.absf A i = ab (A i) := rfl
theorem fK_at (b : BitVec 32) (i : S5x2048.Idx) : fK b i = Ideal.ofBits .f32 b := rfl

theorem top_at (D : FVec Ideal S5x2048x8192 .f32) (a : Fin 5) (q : Fin 2048) :
    Host.reduce FloatOps.maximumf D (constant S_ .f32 0xFF800000#32) reducesTo_S5x2048x8192_S5x2048_d2 h_S_ (ix2 a q)
      = Finset.univ.fold max ((constant S_ .f32 0xFF800000#32 : FVec Ideal S_ .f32) (Shape.Idx.first h_S_)) fun k : Fin 8192 => D (ix3 a q k) :=
  max_last reducesTo_S5x2048x8192_S5x2048_d2 h_S_ D (constant S_ .f32 0xFF800000#32) a q

theorem bot_at : (constant S_ .f32 0xFF800000#32 : FVec Ideal S_ .f32) (Shape.Idx.first h_S_) = (⊥ : EReal) := negInf

theorem fQ_at (d : FVec Ideal S5x2048x8192 .f32) (a : Fin 5) (q : Fin 2048) :
    fQ d (ix2 a q) = (Finset.univ.fold max ⊥ fun k : Fin 8192 => ab (d (ix3 a q k))) * Ideal.ofBits .f32 0x37924925#32 := by
  unfold fQ
  rw [mul_at, fK_at, top_at, bot_at]
  simp only [abs_at]

theorem fX_at (v : FVec Ideal S5x2048 .f32) (a : Fin 5) (q : Fin 2048) :
    fX v (ix2 a q) = lExpo (v (ix2 a q)) := by
  unfold fX fL fK lExpo; pointwise

theorem fP_at (d : FVec Ideal S5x2048x8192 .f32) (e : FVec Ideal S5x2048 .f32) (P : Fin 10240) (l : Fin 8192) :
    fP d e (ix2 P l) = d (ix3 ⟨P.val / 2048, by omega⟩ ⟨P.val % 2048, by omega⟩ l) * Ideal.pow (Ideal.ofBits .f32 0x40000000#32) (-(e (ix2 ⟨P.val / 2048, by omega⟩ ⟨P.val % 2048, by omega⟩))) := by
  unfold fP fC fR fK; pointwise

section rows
variable (Y X : FVec Ideal S5x2048x8192 .bf16) (G : FVec Ideal S8192 .f32) (R : FVec Ideal S5x2048 .f32)

/-- The gradient of the input. -/
def dxA : FVec Ideal S5x2048x8192 .f32 := fD (fG Y G) (fW X R) (fR R)

theorem dxA_at (a : Fin 5) (q : Fin 2048) (l : Fin 8192) :
    dxA Y X G R (ix3 a q l) = xR (at3 Y a.val q.val) (at3 X a.val q.val) (at1 G) (at2 R a.val q.val) l.val := by
  unfold dxA
  rw [fD_at]
  simp only [fG_at, fW_at]
  simp only [← at3_fin, ← at2_fin, ← at1_fin]
  rw [sum_fin 8192 fun k => at3 Y a.val q.val k * at1 G k * (at3 X a.val q.val k * at2 R a.val q.val)]
  rfl

theorem expo_at (a : Fin 5) (q : Fin 2048) :
    fX (fQ (dxA Y X G R)) (ix2 a q) = lExpo (qX (at3 Y a.val q.val) (at3 X a.val q.val) (at1 G) (at2 R a.val q.val)) := by
  rw [fX_at, fQ_at]
  simp only [dxA_at]
  rw [fold_sup 8192 fun k => ab (xR (at3 Y a.val q.val) (at3 X a.val q.val) (at1 G) (at2 R a.val q.val) k)]
  rfl

theorem pow_at {s : Shape} (A B : FVec Ideal s .f32) (i : s.Idx) : Host.powf A B i = Ideal.pow (A i) (B i) := rfl

theorem scale_eq : (Host.powf (fK 0x40000000#32) (fX (fQ (dxA Y X G R))) : FVec Ideal S5x2048 .f32) = scaleF Y X G R := by
  funext i
  obtain ⟨a, q, rfl⟩ : ∃ (a : Fin 5) (q : Fin 2048), i = ix2 a q := ⟨i 0, i 1, by funext b; match b with | ⟨0, _⟩ => rfl | ⟨1, _⟩ => rfl⟩
  rw [pow_at, fK_at, expo_at, scale_row]; rfl

theorem codes_eq (P : Fin 10240) (l : Fin 8192) :
    min (Ideal.ofBits .f32 0x47600000#32) (max (Ideal.ofBits .f32 0xC7600000#32) (fP (dxA Y X G R) (fX (fQ (dxA Y X G R))) (ix2 P l))) = codesF Y X G R (ix2 P l) := by
  rw [fP_at, expo_at, dxA_at, codes_row]; rfl

theorem dgamma_eq : fS (fE Y) (fW X R) = dgammaF Y X R := by
  funext i
  obtain ⟨l, rfl⟩ : ∃ l : Fin 8192, i = ix2 0 l := ⟨i 1, by funext b; match b with | ⟨0, _⟩ => exact Subsingleton.elim (α := Fin 1) _ _ | ⟨1, _⟩ => rfl⟩
  have hE : ∀ a q, fE Y (ix3 a q l) = Y (ix3 a q l) := fun _ _ => rfl
  rw [fS_at]
  simp only [fW_at, hE]
  simp only [← at3_fin, ← at2_fin]
  rw [sum_fin 5 fun a => ∑ q : Fin 2048, at3 Y a q.val l.val * (at3 X a q.val l.val * at2 R a q.val)]
  refine Finset.sum_congr rfl fun a _ => ?_
  exact sum_fin 2048 fun q => at3 Y a q l.val * (at3 X a q l.val * at2 R a q)

end rows

variable (m : (ℓ : Loc nD τ sig) → Buf (Elt Ideal) ℓ) (c : Dev nD)

theorem V_scale : V m c main_v37 = scaleF (m (c, main_arg1)) (m (c, main_arg0)) (m (c, main_arg2)) (m (c, main_arg3)) := by
  rw [V_v37, pre_v17]
  exact scale_eq (m (c, main_arg1)) (m (c, main_arg0)) (m (c, main_arg2)) (m (c, main_arg3))

theorem V_dgamma : V m c main_v20 = dgammaF (m (c, main_arg1)) (m (c, main_arg0)) (m (c, main_arg3)) := by
  rw [V_v20]
  exact dgamma_eq (m (c, main_arg1)) (m (c, main_arg0)) (m (c, main_arg3))

theorem V_codes (P : Fin 10240) (l : Fin 8192) :
    min (Ideal.ofBits .f32 0x47600000#32) (max (Ideal.ofBits .f32 0xC7600000#32) ((V m c main_v43 : FVec Ideal S10240x8192 .f32) (ix2 P l)))
      = codesF (m (c, main_arg1)) (m (c, main_arg0)) (m (c, main_arg2)) (m (c, main_arg3)) (ix2 P l) := by
  rw [V_v43, pre_v17]
  exact codes_eq (m (c, main_arg1)) (m (c, main_arg0)) (m (c, main_arg2)) (m (c, main_arg3)) P l

end Cert.ReferenceIdeal.Exact

end
-- ==== Proof.RefRun.lean ====
/-
  The reference's run, each result at its value.
-/
module

public import proofs.«01_k».proof.Proof.RefValue

@[expose] public section

noncomputable section

namespace Cert.ReferenceIdeal.Exact

open Cert.ReferenceIdeal Cert.ReferenceIdeal.Gen Cert.Trip Idealize.ShloMosaic Idealize.ShloMosaic.TcCoe Idealize.SL.Sem

variable (m : (ℓ : Loc nD τ sig) → Buf (Elt Ideal) ℓ) (ρ : Dev nD → PrngReg)

theorem out_at (P0 : FVec Ideal S10240x8192 .f32) (P : Fin 10240) (l : Fin 8192) :
    (out0_1 (F := Ideal) P0 : S10240x8192.Idx → EReal) (ix2 P l) = min (Ideal.ofBits .f32 0x47600000#32) (max (Ideal.ofBits .f32 0xC7600000#32) (P0 (ix2 P l))) := by
  unfold out0_1
  rw [Value.canon1_eq]
  have e : View.ld (Val := Elt Ideal) (e' := EltTy.f32) P0 r0_0 (Value.ix1_0 (ix2 P l)) = P0 (ix2 P l) := by
    rw [View.ld_apply]
    refine congrArg P0 (funext fun b => Fin.ext ?_)
    match b with
    | ⟨0, _⟩ => show 0 + 1 * P.val = P.val; omega
    | ⟨1, _⟩ => show 0 + 1 * l.val = l.val; omega
  exact congrArg (fun x : EReal => min (Ideal.ofBits .f32 0x47600000#32) (max (Ideal.ofBits .f32 0xC7600000#32) x)) e

theorem idx0 (t : Fin cfg0.N) : win0_0.index t = ![0, 0] := (by decide +kernel : ∀ t : Fin grid0.N, win0_0.index t = ![0, 0]) t
theorem idx1 (t : Fin cfg0.N) : win0_1.index t = ![0, 0] := (by decide +kernel : ∀ t : Fin grid0.N, win0_1.index t = ![0, 0]) t

theorem blk_whole (W : FVec Ideal S10240x8192 .f32) (t : Fin cfg0.N) (P : Fin 10240) (l : Fin 8192) :
    (((cfg0.win 0).blk t).view.read (Elt Ideal) W : S10240x8192.Idx → EReal) (ix2 P l) = W (ix2 P l) := by
  blk_simp
  refine congrArg W (funext fun b => Fin.ext ?_)
  match b with
  | ⟨0, _⟩ => blk_simp [idx0]
  | ⟨1, _⟩ => blk_simp [idx0]

theorem emb_whole (W : (⟨2, ![10240, 8192]⟩ : Shape).Idx → EReal) (t : Fin cfg0.N) (P : Fin 10240) (l : Fin 8192) :
    W ((win0_1.blk t).view.emb (ix2 P l)) = W (ix2 P l) := by
  refine congrArg W (funext fun b => Fin.ext ?_)
  match b with
  | ⟨0, _⟩ => blk_simp [idx1]
  | ⟨1, _⟩ => blk_simp [idx1]

theorem blk_codes (c : Dev nD) (t : Fin cfg0.N) (P : Fin 10240) (l : Fin 8192) :
    (out0_1 (F := Ideal) (iblk m c 0 t) : S10240x8192.Idx → EReal) (ix2 P l) = codesF (m (c, main_arg1)) (m (c, main_arg0)) (m (c, main_arg2)) (m (c, main_arg3)) (ix2 P l) := by
  rw [out_at, ← V_codes]
  unfold iblk
  generalize V m c = W
  refine congrArg (fun x : EReal => min (Ideal.ofBits .f32 0x47600000#32) (max (Ideal.ofBits .f32 0xC7600000#32) x)) ?_
  exact blk_whole (W main_v43) t P l

theorem codes_arr (c : Dev nD) : (dats m 0 c).arrAt 1 cfg0.N = codesF (m (c, main_arg1)) (m (c, main_arg0)) (m (c, main_arg2)) (m (c, main_arg3)) := by
  refine (dats m 0 c).arrAt_eq_of_covers 1 _ (by decide +kernel) fun t hf y => ?_
  blk_simp
  rw [after0_1]
  obtain ⟨P, l, rfl⟩ : ∃ (P : Fin 10240) (l : Fin 8192), y = ix2 P l := ⟨y 0, y 1, by funext b; match b with | ⟨0, _⟩ => rfl | ⟨1, _⟩ => rfl⟩
  refine Eq.trans ?_ (emb_whole _ t P l).symm
  exact blk_codes m c t P l

theorem run_vals : θ_run defs (onTc (τ := τ) (main (F := Ideal))) ⟨m, fun _ => 0, ρ⟩ (fun r => ∀ c : Dev nD,
      r.2.mem ((c.tc : Thread nD τ).loc main_v20) = dgammaF (m (c, main_arg1)) (m (c, main_arg0)) (m (c, main_arg3))
      ∧ r.2.mem ((c.tc : Thread nD τ).loc main_v44) = codesF (m (c, main_arg1)) (m (c, main_arg0)) (m (c, main_arg2)) (m (c, main_arg3))
      ∧ r.2.mem ((c.tc : Thread nD τ).loc main_v37) = scaleF (m (c, main_arg1)) (m (c, main_arg0)) (m (c, main_arg2)) (m (c, main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v20 (Pipeline.mem_restRefs_of main_v20 (by decide) (by decide))).trans (V_dgamma m c),
      (Value.post1 m r h c).trans (codes_arr m c),
      ((h c).2 main_v37 (Pipeline.mem_restRefs_of main_v37 (by decide) (by decide))).trans (V_scale m c),
      Value.kept_main_arg0 m r h c, Value.kept_main_arg1 m r h c, Value.kept_main_arg2 m r h c, Value.kept_main_arg3 m r h c⟩)
    (run_main m ρ)

end Cert.ReferenceIdeal.Exact

end
-- ==== Proof.Values.lean ====
/-
  The kernel and the reference leave equal results, at the ideal instance.
-/
module

public import proofs.«01_k».proof.Proof.KernelRows
public import proofs.«01_k».proof.Proof.RefRun
public import proofs.«01_k».proof.Defs

@[expose] public section

noncomputable section

namespace Cert

open Cert.Trip Idealize.ShloMosaic Idealize.ShloMosaic.TcCoe Idealize.SL.Sem

/-- From equal arguments, any whatever, the kernel and the reference end with the same three arrays: the gradient of
    gamma, the codes and the scales. Both also end with their arguments as they were. -/
theorem values : @algebraic_KernelIdeal_ReferenceIdeal Cert.KernelIdeal.Gen.facts Cert.ReferenceIdeal.Gen.facts := by
  intro m g m' g' _ agree
  refine ⟨fun c => dgammaF (m (c, KernelIdeal.main_arg1)) (m (c, KernelIdeal.main_arg0)) (m (c, KernelIdeal.main_arg3)),
    fun c => codesF (m (c, KernelIdeal.main_arg1)) (m (c, KernelIdeal.main_arg0)) (m (c, KernelIdeal.main_arg2)) (m (c, KernelIdeal.main_arg3)),
    fun c => scaleF (m (c, KernelIdeal.main_arg1)) (m (c, KernelIdeal.main_arg0)) (m (c, KernelIdeal.main_arg2)) (m (c, KernelIdeal.main_arg3)), ?_, ?_⟩
  · refine (θ_run _ _ _).mono (fun r h c => ?_) (KernelIdeal.Exact.run_vals m g)
    obtain ⟨h0, h1, h2, h3⟩ := h c
    exact ⟨h0.trans (KernelIdeal.Exact.dgamma_all m c), h1.trans (KernelIdeal.Exact.codes_all m c), h2.trans (KernelIdeal.Exact.scale_all m c), h3⟩
  · refine (θ_run _ _ _).mono (fun r h c => ?_) (ReferenceIdeal.Exact.run_vals m' g')
    obtain ⟨h0, h1, h2, h3⟩ := h c
    obtain ⟨e0, e1, e2, e3⟩ := agree c
    refine ⟨h0.trans ?_, h1.trans ?_, h2.trans ?_, h3⟩
    · exact congr (congr (congrArg dgammaF e1) e0) e3
    · exact congr (congr (congr (congrArg codesF e1) e0) e2) e3
    · exact congr (congr (congr (congrArg scaleF e1) e0) e2) e3

end Cert

end
-- ==== Proof.lean ====
/-
  The certificate's claims, from the modules that prove them.
-/
module

public import proofs.«01_k».proof.Defs
public import proofs.«01_k».proof.Proof.FrameKernel
public import proofs.«01_k».proof.Proof.FrameKernelIdeal
public import proofs.«01_k».proof.Proof.Values
public import proofs.«01_k».proof.Proof.Gen.Kernel
public import proofs.«01_k».proof.Proof.Gen.KernelIdeal
public import proofs.«01_k».proof.Proof.Gen.ReferenceIdeal.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, Cert.values⟩

end Cert.Proof

end
